-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v19)) (v7 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v19) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v14) = v5 c
          ∧ r.2.mem ((c.tc : Thread Cert.ReferenceIdeal.nD Cert.ReferenceIdeal.τ).loc Cert.ReferenceIdeal.main_v15) = v6 c
          ∧ r.2.mem ((c.tc : Thread Cert.ReferenceIdeal.nD Cert.ReferenceIdeal.τ).loc Cert.ReferenceIdeal.main_v16) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x7168 : Shape := ⟨3, ![2, 768, 7168]⟩
abbrev S8x2x768x7168 : Shape := ⟨4, ![8, 2, 768, 7168]⟩
abbrev S8x2x768x56 : Shape := ⟨4, ![8, 2, 768, 56]⟩
abbrev S7168 : Shape := ⟨1, ![7168]⟩
abbrev S7168x2304 : Shape := ⟨2, ![7168, 2304]⟩
abbrev S2304 : Shape := ⟨1, ![2304]⟩
abbrev S2304x7168 : Shape := ⟨2, ![2304, 7168]⟩
abbrev S1536x7168 : Shape := ⟨2, ![1536, 7168]⟩
abbrev S8x1536x7168 : Shape := ⟨3, ![8, 1536, 7168]⟩
abbrev S8x1536x56 : Shape := ⟨3, ![8, 1536, 56]⟩
abbrev S1x7168 : Shape := ⟨2, ![1, 7168]⟩
abbrev S1536x128 : Shape := ⟨2, ![1536, 128]⟩
abbrev S32x7168 : Shape := ⟨2, ![32, 7168]⟩
abbrev S8x32x7168 : Shape := ⟨3, ![8, 32, 7168]⟩
abbrev S8x32x56 : Shape := ⟨3, ![8, 32, 56]⟩
abbrev S32x128 : Shape := ⟨2, ![32, 128]⟩
abbrev S1x32x128 : Shape := ⟨3, ![1, 32, 128]⟩
abbrev S1x32x1 : Shape := ⟨3, ![1, 32, 1]⟩
abbrev S32x1 : Shape := ⟨2, ![32, 1]⟩
abbrev S32 : Shape := ⟨1, ![32]⟩
abbrev S1x128 : Shape := ⟨2, ![1, 128]⟩
abbrev S1x2304 : Shape := ⟨2, ![1, 2304]⟩
abbrev S1536x2304 : Shape := ⟨2, ![1536, 2304]⟩
abbrev S256x7168 : Shape := ⟨2, ![256, 7168]⟩
abbrev S256x128 : Shape := ⟨2, ![256, 128]⟩
abbrev S256x2304 : Shape := ⟨2, ![256, 2304]⟩
abbrev S256x1 : Shape := ⟨2, ![256, 1]⟩
abbrev S7168x256 : Shape := ⟨2, ![7168, 256]⟩
abbrev S256x256 : Shape := ⟨2, ![256, 256]⟩
abbrev S1x256 : Shape := ⟨2, ![1, 256]⟩
abbrev S256 : Shape := ⟨1, ![256]⟩
abbrev S1536x56 : Shape := ⟨2, ![1536, 56]⟩
abbrev S256x56 : Shape := ⟨2, ![256, 56]⟩
abbrev S2304x512 : Shape := ⟨2, ![2304, 512]⟩
abbrev S256x512 : Shape := ⟨2, ![256, 512]⟩
abbrev S1x512 : Shape := ⟨2, ![1, 512]⟩
abbrev S8x192x7168 : Shape := ⟨3, ![8, 192, 7168]⟩
abbrev S8x192x56 : Shape := ⟨3, ![8, 192, 56]⟩
abbrev S1536x1 : Shape := ⟨2, ![1536, 1]⟩
abbrev S1536 : Shape := ⟨1, ![1536]⟩
abbrev S2x768 : Shape := ⟨2, ![2, 768]⟩
abbrev S2x768x2304 : Shape := ⟨3, ![2, 768, 2304]⟩

abbrev nBuf : Space → Nat
  | .hbm => 39
  | .vmem => 40
  | .smem => 0
  | _ => 0

abbrev bufTy : (tb : Table) → Fin (tcTables nBuf tb) → BufTy
  | .hbm, ⟨0, _⟩ => ⟨S2x768x7168, .bf16⟩
  | .hbm, ⟨1, _⟩ => ⟨S8x2x768x7168, .fp8e4m3⟩
  | .hbm, ⟨2, _⟩ => ⟨S8x2x768x56, .f32⟩
  | .hbm, ⟨3, _⟩ => ⟨S7168, .f32⟩
  | .hbm, ⟨4, _⟩ => ⟨S7168, .f32⟩
  | .hbm, ⟨5, _⟩ => ⟨S7168x2304, .fp8e4m3⟩
  | .hbm, ⟨6, _⟩ => ⟨S7168x2304, .fp8e4m3⟩
  | .hbm, ⟨7, _⟩ => ⟨S2304, .f32⟩
  | .hbm, ⟨8, _⟩ => ⟨S2304, .f32⟩
  | .hbm, ⟨9, _⟩ => ⟨S2304x7168, .fp8e4m3⟩
  | .hbm, ⟨10, _⟩ => ⟨S7168, .f32⟩
  | .hbm, ⟨11, _⟩ => ⟨S1536x7168, .bf16⟩
  | .hbm, ⟨12, _⟩ => ⟨S8x1536x7168, .fp8e4m3⟩
  | .hbm, ⟨13, _⟩ => ⟨S8x1536x56, .f32⟩
  | .hbm, ⟨14, _⟩ => ⟨S1x7168, .f32⟩
  | .hbm, ⟨15, _⟩ => ⟨S1x7168, .f32⟩
  | .hbm, ⟨16, _⟩ => ⟨S1536x7168, .bf16⟩
  | .hbm, ⟨17, _⟩ => ⟨S1536x7168, .f32⟩
  | .hbm, ⟨18, _⟩ => ⟨S1536x7168, .fp8e4m3⟩
  | .hbm, ⟨19, _⟩ => ⟨S1536x128, .f32⟩
  | .hbm, ⟨20, _⟩ => ⟨S1x2304, .f32⟩
  | .hbm, ⟨21, _⟩ => ⟨S1x2304, .f32⟩
  | .hbm, ⟨22, _⟩ => ⟨S1536x2304, .fp8e4m3⟩
  | .hbm, ⟨23, _⟩ => ⟨S1536x128, .f32⟩
  | .hbm, ⟨24, _⟩ => ⟨S1x7168, .f32⟩
  | .hbm, ⟨25, _⟩ => ⟨S1536x7168, .fp8e4m3⟩
  | .hbm, ⟨26, _⟩ => ⟨S1536x56, .f32⟩
  | .hbm, ⟨27, _⟩ => ⟨S2x768x7168, .bf16⟩
  | .hbm, ⟨28, _⟩ => ⟨S2x768x7168, .f32⟩
  | .hbm, ⟨29, _⟩ => ⟨S8x192x7168, .fp8e4m3⟩
  | .hbm, ⟨30, _⟩ => ⟨S8x192x56, .f32⟩
  | .hbm, ⟨31, _⟩ => ⟨S2x768x7168, .fp8e4m3⟩
  | .hbm, ⟨32, _⟩ => ⟨S1536x1, .f32⟩
  | .hbm, ⟨33, _⟩ => ⟨S1536, .f32⟩
  | .hbm, ⟨34, _⟩ => ⟨S2x768, .f32⟩
  | .hbm, ⟨35, _⟩ => ⟨S2x768x2304, .fp8e4m3⟩
  | .hbm, ⟨36, _⟩ => ⟨S1536x1, .f32⟩
  | .hbm, ⟨37, _⟩ => ⟨S1536, .f32⟩
  | .hbm, ⟨38, _⟩ => ⟨S2x768, .f32⟩
  | .local _ .vmem, ⟨0, _⟩ => ⟨S32x7168, .bf16⟩
  | .local _ .vmem, ⟨1, _⟩ => ⟨S32x7168, .bf16⟩
  | .local _ .vmem, ⟨2, _⟩ => ⟨S8x32x7168, .fp8e4m3⟩
  | .local _ .vmem, ⟨3, _⟩ => ⟨S8x32x7168, .fp8e4m3⟩
  | .local _ .vmem, ⟨4, _⟩ => ⟨S8x32x56, .f32⟩
  | .local _ .vmem, ⟨5, _⟩ => ⟨S8x32x56, .f32⟩
  | .local _ .vmem, ⟨6, _⟩ => ⟨S1x7168, .f32⟩
  | .local _ .vmem, ⟨7, _⟩ => ⟨S1x7168, .f32⟩
  | .local _ .vmem, ⟨8, _⟩ => ⟨S32x7168, .bf16⟩
  | .local _ .vmem, ⟨9, _⟩ => ⟨S32x7168, .bf16⟩
  | .local _ .vmem, ⟨10, _⟩ => ⟨S32x7168, .f32⟩
  | .local _ .vmem, ⟨11, _⟩ => ⟨S32x7168, .f32⟩
  | .local _ .vmem, ⟨12, _⟩ => ⟨S32x7168, .fp8e4m3⟩
  | .local _ .vmem, ⟨13, _⟩ => ⟨S32x7168, .fp8e4m3⟩
  | .local _ .vmem, ⟨14, _⟩ => ⟨S32x128, .f32⟩
  | .local _ .vmem, ⟨15, _⟩ => ⟨S32x128, .f32⟩
  | .local _ .vmem, ⟨16, _⟩ => ⟨S32x7168, .f32⟩
  | .local _ .vmem, ⟨17, _⟩ => ⟨S256x7168, .fp8e4m3⟩
  | .local _ .vmem, ⟨18, _⟩ => ⟨S256x7168, .fp8e4m3⟩
  | .local _ .vmem, ⟨19, _⟩ => ⟨S256x128, .f32⟩
  | .local _ .vmem, ⟨20, _⟩ => ⟨S256x128, .f32⟩
  | .local _ .vmem, ⟨21, _⟩ => ⟨S7168x2304, .fp8e4m3⟩
  | .local _ .vmem, ⟨22, _⟩ => ⟨S7168x2304, .fp8e4m3⟩
  | .local _ .vmem, ⟨23, _⟩ => ⟨S1x2304, .f32⟩
  | .local _ .vmem, ⟨24, _⟩ => ⟨S1x2304, .f32⟩
  | .local _ .vmem, ⟨25, _⟩ => ⟨S256x2304, .fp8e4m3⟩
  | .local _ .vmem, ⟨26, _⟩ => ⟨S256x2304, .fp8e4m3⟩
  | .local _ .vmem, ⟨27, _⟩ => ⟨S256x128, .f32⟩
  | .local _ .vmem, ⟨28, _⟩ => ⟨S256x128, .f32⟩
  | .local _ .vmem, ⟨29, _⟩ => ⟨S256x2304, .f32⟩
  | .local _ .vmem, ⟨30, _⟩ => ⟨S256x2304, .fp8e4m3⟩
  | .local _ .vmem, ⟨31, _⟩ => ⟨S256x2304, .fp8e4m3⟩
  | .local _ .vmem, ⟨32, _⟩ => ⟨S256x128, .f32⟩
  | .local _ .vmem, ⟨33, _⟩ => ⟨S256x128, .f32⟩
  | .local _ .vmem, ⟨34, _⟩ => ⟨S2304x7168, .fp8e4m3⟩
  | .local _ .vmem, ⟨35, _⟩ => ⟨S1x7168, .f32⟩
  | .local _ .vmem, ⟨36, _⟩ => ⟨S256x7168, .fp8e4m3⟩
  | .local _ .vmem, ⟨37, _⟩ => ⟨S256x7168, .fp8e4m3⟩
  | .local _ .vmem, ⟨38, _⟩ => ⟨S256x56, .f32⟩
  | .local _ .vmem, ⟨39, _⟩ => ⟨S256x56, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem4_1 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![6], ![false]⟩

@[reducible] def k1_t1_loop : Scf.Loop 32 :=
  let c0_i32 : BitVec 32 := 0#32
  let c9_i32 : BitVec 32 := 9#32
  let v3 : BitVec 32 := Scalar.addi c0_i32 c9_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg10 : BitVec 32 := Scf.iv c0_i32 c1_i32 k1_t1
  let c256_i32 : BitVec 32 := 256#32
  let v23 : BitVec 32 := Scalar.muli arg10 c256_i32
  v23
def k1_off1 (k1_t1 : Fin k1_t1_loop.trips) : Fin 2 → Nat :=
  let c0_15 : Index := 0#32
  let c0_i32 : BitVec 32 := 0#32
  let c1_i32 : BitVec 32 := 1#32
  let arg10 : BitVec 32 := Scf.iv c0_i32 c1_i32 k1_t1
  let c256_i32 : BitVec 32 := 256#32
  let v23 : BitVec 32 := Scalar.muli arg10 c256_i32
  let v24 : BitVec 32 := v23
  let v27 : Index := Scalar.indexCast v24
  ![0, v27.toNat]
def k1_off2 (k1_t1 : Fin k1_t1_loop.trips) : Fin 2 → Nat :=
  let c0_21 : Index := 0#32
  let c0_i32 : BitVec 32 := 0#32
  let c1_i32 : BitVec 32 := 1#32
  let arg10 : BitVec 32 := Scf.iv c0_i32 c1_i32 k1_t1
  let c256_i32 : BitVec 32 := 256#32
  let v23 : BitVec 32 := Scalar.muli arg10 c256_i32
  let v24 : BitVec 32 := v23
  let v35 : Index := Scalar.indexCast v24
  ![0, v35.toNat]
def k1_off3 (k1_t1 : Fin k1_t1_loop.trips) : Fin 2 → Nat :=
  let c0_23 : Index := 0#32
  let c0_i32 : BitVec 32 := 0#32
  let c1_i32 : BitVec 32 := 1#32
  let arg10 : BitVec 32 := Scf.iv c0_i32 c1_i32 k1_t1
  let c256_i32 : BitVec 32 := 256#32
  let v23 : BitVec 32 := Scalar.muli arg10 c256_i32
  let v24 : BitVec 32 := v23
  let v52 : Index := Scalar.indexCast v24
  ![0, v52.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7168x2304 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S7168x2304 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2304 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2304 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2304 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2304 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2304x7168 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x7168 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x7168 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x56 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S2x768x7168 : Shape := ⟨3, ![2, 768, 7168]⟩
abbrev S8x2x768x7168 : Shape := ⟨4, ![8, 2, 768, 7168]⟩
abbrev S8x2x768x56 : Shape := ⟨4, ![8, 2, 768, 56]⟩
abbrev S7168 : Shape := ⟨1, ![7168]⟩
abbrev S7168x2304 : Shape := ⟨2, ![7168, 2304]⟩
abbrev S2304 : Shape := ⟨1, ![2304]⟩
abbrev S2304x7168 : Shape := ⟨2, ![2304, 7168]⟩
abbrev S1536x7168 : Shape := ⟨2, ![1536, 7168]⟩
abbrev S8x1536x7168 : Shape := ⟨3, ![8, 1536, 7168]⟩
abbrev S8x1536x56 : Shape := ⟨3, ![8, 1536, 56]⟩
abbrev S1x7168 : Shape := ⟨2, ![1, 7168]⟩
abbrev S1x2304 : Shape := ⟨2, ![1, 2304]⟩
abbrev S1536x56 : Shape := ⟨2, ![1536, 56]⟩
abbrev S1536x1 : Shape := ⟨2, ![1536, 1]⟩
abbrev S1536x2304 : Shape := ⟨2, ![1536, 2304]⟩
abbrev S1x1536x7168 : Shape := ⟨3, ![1, 1536, 7168]⟩
abbrev S1536x56x128 : Shape := ⟨3, ![1536, 56, 128]⟩
abbrev S1x1536x56 : Shape := ⟨3, ![1, 1536, 56]⟩
abbrev S1536x56x1 : Shape := ⟨3, ![1536, 56, 1]⟩
abbrev S1536 : Shape := ⟨1, ![1536]⟩
abbrev S8x192x7168 : Shape := ⟨3, ![8, 192, 7168]⟩
abbrev S8x192x56 : Shape := ⟨3, ![8, 192, 56]⟩
abbrev S2x768 : Shape := ⟨2, ![2, 768]⟩
abbrev S2x768x2304 : Shape := ⟨3, ![2, 768, 2304]⟩

abbrev nBuf : Space → Nat
  | .hbm => 35
  | .vmem => 19
  | .smem => 0
  | _ => 0

abbrev bufTy : (tb : Table) → Fin (tcTables nBuf tb) → BufTy
  | .hbm, ⟨0, _⟩ => ⟨S2x768x7168, .bf16⟩
  | .hbm, ⟨1, _⟩ => ⟨S8x2x768x7168, .fp8e4m3⟩
  | .hbm, ⟨2, _⟩ => ⟨S8x2x768x56, .f32⟩
  | .hbm, ⟨3, _⟩ => ⟨S7168, .f32⟩
  | .hbm, ⟨4, _⟩ => ⟨S7168, .f32⟩
  | .hbm, ⟨5, _⟩ => ⟨S7168x2304, .fp8e4m3⟩
  | .hbm, ⟨6, _⟩ => ⟨S7168x2304, .fp8e4m3⟩
  | .hbm, ⟨7, _⟩ => ⟨S2304, .f32⟩
  | .hbm, ⟨8, _⟩ => ⟨S2304, .f32⟩
  | .hbm, ⟨9, _⟩ => ⟨S2304x7168, .fp8e4m3⟩
  | .hbm, ⟨10, _⟩ => ⟨S7168, .f32⟩
  | .hbm, ⟨11, _⟩ => ⟨S1536x7168, .bf16⟩
  | .hbm, ⟨12, _⟩ => ⟨S8x1536x7168, .fp8e4m3⟩
  | .hbm, ⟨13, _⟩ => ⟨S8x1536x56, .f32⟩
  | .hbm, ⟨14, _⟩ => ⟨S1x7168, .f32⟩
  | .hbm, ⟨15, _⟩ => ⟨S1x7168, .f32⟩
  | .hbm, ⟨16, _⟩ => ⟨S1x2304, .f32⟩
  | .hbm, ⟨17, _⟩ => ⟨S1x2304, .f32⟩
  | .hbm, ⟨18, _⟩ => ⟨S1x7168, .f32⟩
  | .hbm, ⟨19, _⟩ => ⟨S1536x7168, .bf16⟩
  | .hbm, ⟨20, _⟩ => ⟨S1536x7168, .f32⟩
  | .hbm, ⟨21, _⟩ => ⟨S1536x7168, .fp8e4m3⟩
  | .hbm, ⟨22, _⟩ => ⟨S1536x56, .f32⟩
  | .hbm, ⟨23, _⟩ => ⟨S1536x7168, .fp8e4m3⟩
  | .hbm, ⟨24, _⟩ => ⟨S1536x1, .f32⟩
  | .hbm, ⟨25, _⟩ => ⟨S1536x2304, .fp8e4m3⟩
  | .hbm, ⟨26, _⟩ => ⟨S1536x1, .f32⟩
  | .hbm, ⟨27, _⟩ => ⟨S2x768x7168, .bf16⟩
  | .hbm, ⟨28, _⟩ => ⟨S2x768x7168, .f32⟩
  | .hbm, ⟨29, _⟩ => ⟨S8x192x7168, .fp8e4m3⟩
  | .hbm, ⟨30, _⟩ => ⟨S8x192x56, .f32⟩
  | .hbm, ⟨31, _⟩ => ⟨S2x768x7168, .fp8e4m3⟩
  | .hbm, ⟨32, _⟩ => ⟨S2x768, .f32⟩
  | .hbm, ⟨33, _⟩ => ⟨S2x768x2304, .fp8e4m3⟩
  | .hbm, ⟨34, _⟩ => ⟨S2x768, .f32⟩
  | .local _ .vmem, ⟨0, _⟩ => ⟨S1536x7168, .bf16⟩
  | .local _ .vmem, ⟨1, _⟩ => ⟨S8x1536x7168, .fp8e4m3⟩
  | .local _ .vmem, ⟨2, _⟩ => ⟨S8x1536x56, .f32⟩
  | .local _ .vmem, ⟨3, _⟩ => ⟨S1x7168, .f32⟩
  | .local _ .vmem, ⟨4, _⟩ => ⟨S1x7168, .f32⟩
  | .local _ .vmem, ⟨5, _⟩ => ⟨S7168x2304, .fp8e4m3⟩
  | .local _ .vmem, ⟨6, _⟩ => ⟨S7168x2304, .fp8e4m3⟩
  | .local _ .vmem, ⟨7, _⟩ => ⟨S1x2304, .f32⟩
  | .local _ .vmem, ⟨8, _⟩ => ⟨S1x2304, .f32⟩
  | .local _ .vmem, ⟨9, _⟩ => ⟨S2304x7168, .fp8e4m3⟩
  | .local _ .vmem, ⟨10, _⟩ => ⟨S1x7168, .f32⟩
  | .local _ .vmem, ⟨11, _⟩ => ⟨S1536x7168, .bf16⟩
  | .local _ .vmem, ⟨12, _⟩ => ⟨S1536x7168, .f32⟩
  | .local _ .vmem, ⟨13, _⟩ => ⟨S1536x7168, .fp8e4m3⟩
  | .local _ .vmem, ⟨14, _⟩ => ⟨S1536x56, .f32⟩
  | .local _ .vmem, ⟨15, _⟩ => ⟨S1536x7168, .fp8e4m3⟩
  | .local _ .vmem, ⟨16, _⟩ => ⟨S1536x1, .f32⟩
  | .local _ .vmem, ⟨17, _⟩ => ⟨S1536x2304, .fp8e4m3⟩
  | .local _ .vmem, ⟨18, _⟩ => ⟨S1536x1, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1536x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1536x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2304 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2304x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x7168 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x7168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x7168 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x56 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x7168 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1536x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1536x2304 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1536x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.K.R0.lean ====
/- The first pallas_call (`cc0_receive`) at any contents of the buffers on entry: what its body leaves at each point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_receive` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S32x7168 .bf16 := (Memref.whole cc0_stg5_0 : Memref sig .tc .vmem S32x7168 .bf16).view
/-- One staging buffer of output window 6, through which its contents are stated (`View.read_writes_of_cover`: the
    choice does not matter). -/
abbrev VO0_6 : View sig .tc .vmem S32x7168 .f32 := (Memref.whole cc0_stg6_0 : Memref sig .tc .vmem S32x7168 .f32).view
/-- One staging buffer of output window 7, through which its contents are stated (`View.read_writes_of_cover`: the
    choice does not matter). -/
abbrev VO0_7 : View sig .tc .vmem S32x7168 .fp8e4m3 := (Memref.whole cc0_stg7_0 : Memref sig .tc .vmem S32x7168 .fp8e4m3).view
/-- One staging buffer of output window 8, through which its contents are stated (`View.read_writes_of_cover`: the
    choice does not matter). -/
abbrev VO0_8 : View sig .tc .vmem S32x128 .f32 := (Memref.whole cc0_stg8_0 : Memref sig .tc .vmem S32x128 .f32).view
/-- Each window's current staging memref at point `t`, spelled as the pipeline passes it (`bodyAt0`), and its wholeness. -/
abbrev ms0_0 (t : Fin cfg0.N) : Memref sig .tc .vmem S32x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x7168 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S32x7168 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 8524000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) :
    Σ' (L5 : List (View.Piece (Elt F) S32x7168 .bf16)), Σ' (L6 : List (View.Piece (Elt F) S32x7168 .f32)), Σ' (L7 : List (View.Piece (Elt F) S32x7168 .fp8e4m3)), Σ' (L8 : List (View.Piece (Elt F) S32x128 .f32)), { LT0 : List (View.Piece (Elt F) S32x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0)) -∗ K ⟨⟩))
          ⊢ wp frame (wpE (defs₀ (F := F)) Variants.none c none) E (cc0_receive i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_receive_eq_skeleton]; unfold cc0_receive_skel
    simp only [k0_part164_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part165_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part166_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact HS0

/-- The run's pieces for output 5 tile its block (56 stores of `S32x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).1 S32x128.size (by sl_kernel_rfl) y

/-- What the run leaves in output 5's staging buffer: its pieces read back over junk. -/
def out0_A_5 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3 x4).1)

/-- The run's pieces for output 6 tile its block (112 stores of `S32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.1 S32x128.size (by sl_kernel_rfl) y

/-- What the run leaves in output 6's staging buffer: its pieces read back over junk. -/
def out0_A_6 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4).2.1)

/-- The run's pieces for output 7 tile its block (56 stores of `S32x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.2.1 S32x128.size (by sl_kernel_rfl) y

/-- What the run leaves in output 7's staging buffer: its pieces read back over junk. -/
def out0_A_7 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4).2.2.1)

/-- The run's pieces for output 8 tile its block (1 store of `S32x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.2.2.1 S32x128.size (by sl_kernel_rfl) y

/-- What the run leaves in output 8's staging buffer: its pieces read back over junk. -/
def out0_A_8 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4).2.2.2.1)

/-! ## What the outputs hold after each point -/

/-- What the outputs' staging buffers hold after the body at point `t` (as a tuple, in window order): the run's contents at
    the point's memrefs and input blocks. -/
def outsAt0 (c : Dev nD) (t : Fin cfg0.N) : Vec F S32x7168 .bf16 × Vec F S32x7168 .f32 × Vec F S32x7168 .fp8e4m3 × Vec F S32x128 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2.1
    | ⟨8, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2.1 := by dsimp only [dat0]
theorem after0_8 (c : Dev nD) (t : Fin cfg0.N) : (dat0 V c).after 8 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  rw [show (dat0 V c).Φ t.castSucc = Pipeline.ΦA spec0 c from rfl, PhiA0_eq]
  unfold outsAt0
  unfold out0_A_5 out0_A_6 out0_A_7 out0_A_8; (try dsimp only)
  iintro ⟨⟨⟨HS0, HR1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  iintro ⟨H0, H1, H2, H3, H4, ⟨%e5, H5⟩, ⟨%e6, H6⟩, ⟨%e7, H7⟩, ⟨%e8, H8⟩, ⟨%fT0, HS0⟩⟩
  isplitl [HS0 HR1 HR2 HR3 HR4 HR5 HR6 HR7 HR8 HR9 HR10 HR11 HR12 HR13 HR14 HR15 HR16 HR17 HR18 HR19 HR20 HR21 HR22 HR23 Hg]
  · isplitl [HS0 HR1 HR2 HR3 HR4 HR5 HR6 HR7 HR8 HR9 HR10 HR11 HR12 HR13 HR14 HR15 HR16 HR17 HR18 HR19 HR20 HR21 HR22 HR23]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      isplitl [HR22]
      · iexact HR22
      iexact HR23
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.K.R1.lean ====
/- The second pallas_call (`cc1_gate_up`) at any contents of the buffers on entry: what its body leaves at each point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow

@[expose] public section

-- membership in a rectangle of production extents (`View.cover_of_tiled`): the elaborator's structural look
-- recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_gate_up` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S256x2304 .fp8e4m3 := (Memref.whole cc1_stg6_0 : Memref sig .tc .vmem S256x2304 .fp8e4m3).view
/-- One staging buffer of output window 7, through which its contents are stated (`View.read_writes_of_cover`: the
    choice does not matter). -/
abbrev VO1_7 : View sig .tc .vmem S256x128 .f32 := (Memref.whole cc1_stg7_0 : Memref sig .tc .vmem S256x128 .f32).view
/-- Each window's current staging memref at point `t`, spelled as the pipeline passes it (`bodyAt1`), and its wholeness. -/
abbrev ms1_0 (t : Fin cfg1.N) : Memref sig .tc .vmem S256x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x2304 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x2304 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2304 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2304 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2304 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S256x2304 .f32 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    Σ' (L6 : List (View.Piece (Elt F) S256x2304 .fp8e4m3)), { L7 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (arg9.view.loc (c : Thread nD τ) ↦[arg9.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HS0, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _, _; isplitr; swap; · iexact HS0
    ipureintro; rfl

/-! ## The counted loop's trips, opened -/

/-- What trip `k` stores: one 256 by 256 tile of the activation, at columns `256 k` on. -/
theorem tripL1_eq (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k1_t1_loop.trips) (acc : FVec F S256x1 .f32) :
    tripL_k1_t1 (F := F) 𝒱 c bd i arg1 harg1 arg2 harg2 arg3 harg3 arg4 harg4 arg5 harg5 arg6 harg6 arg7 harg7 arg8 harg8 arg9 harg9 v0 X1 X3 X4 X5 X6 k acc
      = [⟨Rect.unit (s := S256x2304) (k1_off3 k) S256x256.size (k1_off3_inb k),
          k1_pay3 v0 (View.readAt (Elt F) arg1.view (Rect.unit ![0, 0] S256x7168.size inb_S256x7168_S256x7168_0_0).toLoadRect X1)
            (View.readAt (Elt F) arg3.view (Rect.unit (s := S7168x2304) (k1_off1 k) S7168x256.size (k1_off1_inb k)).toLoadRect X3)
            (View.readAt (Elt F) arg1.view (Rect.unit ![0, 0] S256x7168.size inb_S256x7168_S256x7168_0_0).toLoadRect X1)
            (View.readAt (Elt F) arg4.view (Rect.unit (s := S7168x2304) (k1_off1 k) S7168x256.size (k1_off1_inb k)).toLoadRect X4)
            (View.readAt (Elt F) arg5.view (Rect.unit (s := S1x2304) (k1_off2 k) S1x256.size (k1_off2_inb k)).toLoadRect X5)
            (View.readAt (Elt F) arg6.view (Rect.unit (s := S1x2304) (k1_off2 k) S1x256.size (k1_off2_inb k)).toLoadRect X6)⟩] := by
  unfold tripL_k1_t1 trip_k1_t1; rfl

/-- What trip `k` carries on: the row maximum so far. -/
theorem tripR1_eq (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k1_t1_loop.trips) (acc : FVec F S256x1 .f32) :
    tripR_k1_t1 (F := F) 𝒱 c bd i arg1 harg1 arg2 harg2 arg3 harg3 arg4 harg4 arg5 harg5 arg6 harg6 arg7 harg7 arg8 harg8 arg9 harg9 v0 X1 X3 X4 X5 X6 k acc
      = k1_pay4 v0 acc (View.readAt (Elt F) arg1.view (Rect.unit ![0, 0] S256x7168.size inb_S256x7168_S256x7168_0_0).toLoadRect X1)
            (View.readAt (Elt F) arg3.view (Rect.unit (s := S7168x2304) (k1_off1 k) S7168x256.size (k1_off1_inb k)).toLoadRect X3)
            (View.readAt (Elt F) arg1.view (Rect.unit ![0, 0] S256x7168.size inb_S256x7168_S256x7168_0_0).toLoadRect X1)
            (View.readAt (Elt F) arg4.view (Rect.unit (s := S7168x2304) (k1_off1 k) S7168x256.size (k1_off1_inb k)).toLoadRect X4)
            (View.readAt (Elt F) arg5.view (Rect.unit (s := S1x2304) (k1_off2 k) S1x256.size (k1_off2_inb k)).toLoadRect X5)
            (View.readAt (Elt F) arg6.view (Rect.unit (s := S1x2304) (k1_off2 k) S1x256.size (k1_off2_inb k)).toLoadRect X6) := by
  unfold tripR_k1_t1 trip_k1_t1; rfl

/-- Before trip `n` the pieces of every earlier trip are listed. -/
theorem mem_st1 (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (init : FVec F S256x1 .f32) (k : Fin k1_t1_loop.trips) (n : ℕ) (hk : k.val < n) (hn : n ≤ k1_t1_loop.trips) :
    ∃ w, (⟨Rect.unit (s := S256x2304) (k1_off3 k) S256x256.size (k1_off3_inb k), w⟩ : View.Piece (Elt F) S256x2304 .f32) ∈ (st_k1_t1 (F := F) 𝒱 c bd i arg1 harg1 arg2 harg2 arg3 harg3 arg4 harg4 arg5 harg5 arg6 harg6 arg7 harg7 arg8 harg8 arg9 harg9 v0 X1 X3 X4 X5 X6 init n).2 := by
  induction n with
  | zero => omega
  | succ n ih =>
    have hs := st_k1_t1_succ (F := F) 𝒱 c bd i arg1 harg1 arg2 harg2 arg3 harg3 arg4 harg4 arg5 harg5 arg6 harg6 arg7 harg7 arg8 harg8 arg9 harg9 v0 X1 X3 X4 X5 X6 init ⟨n, hn⟩
    rw [show n + 1 = (⟨n, hn⟩ : Fin k1_t1_loop.trips).val + 1 from rfl, hs, tripL1_eq]
    rcases Nat.lt_succ_iff_lt_or_eq.mp hk with h | h
    · obtain ⟨w, hw⟩ := ih h (by omega)
      exact ⟨w, List.mem_append_right _ hw⟩
    · obtain rfl : k = ⟨n, hn⟩ := Fin.ext h
      exact ⟨_, List.mem_append_left _ (List.mem_singleton.mpr rfl)⟩

/-- The loop's state after its last trip: the row maximum it carried and the pieces its trips stored into the scratch
    buffer, which do not depend on what that buffer held before. -/
def loopEnd1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : FVec F S256x1 .f32 × List (View.Piece (Elt F) S256x2304 .f32) :=
  st_k1_t1 Variants.none c none i arg1 harg1 arg2 harg2 arg3 harg3 arg4 harg4 arg5 harg5 arg6 harg6 arg7 harg7 arg8 harg8 arg9 harg9
    (View.readAt (Elt F) arg2.view (Rect.unit (s := S256x128) ![0, 0] S256x1.size inb_S256x128_S256x1_0_0).toLoadRect (harg2.unread x1))
    (harg1.unread x0) (harg3.unread x2) (harg4.unread x3) (harg5.unread x4) (harg6.unread x5) k1_pay1
    (Scf.trips k1_t1_loop.lb k1_t1_loop.ub k1_t1_loop.st)

/-- The nine trips' stores tile the scratch buffer. -/
theorem loopCover1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (y : S256x2304.Idx) : ∃ pc ∈ (loopEnd1 c i arg1 harg1 arg2 harg2 arg3 harg3 arg4 harg4 arg5 harg5 arg6 harg6 arg7 harg7 arg8 harg8 arg9 harg9 x0 x1 x2 x3 x4 x5).2, y ∈ pc.1.set := by
  have h9 : k1_t1_loop.trips = 9 := by decide
  have hy : (y 1).val < 2304 := (y 1).isLt
  have hy0 : (y 0).val < 256 := (y 0).isLt
  have hk : (y 1).val / 256 < k1_t1_loop.trips := by omega
  obtain ⟨w, hw⟩ := mem_st1 (F := F) Variants.none c none i arg1 harg1 arg2 harg2 arg3 harg3 arg4 harg4 arg5 harg5 arg6 harg6 arg7 harg7 arg8 harg8 arg9 harg9
    (View.readAt (Elt F) arg2.view (Rect.unit (s := S256x128) ![0, 0] S256x1.size inb_S256x128_S256x1_0_0).toLoadRect (harg2.unread x1))
    (harg1.unread x0) (harg3.unread x2) (harg4.unread x3) (harg5.unread x4) (harg6.unread x5) k1_pay1 ⟨_, hk⟩ k1_t1_loop.trips hk le_rfl
  refine ⟨_, hw, ?_⟩
  rw [Rect.mem_set_unit, k1_off3_eq]
  intro a
  fin_cases a
  · exact ⟨Nat.zero_le _, by simpa using hy0⟩
  · show 256 * ((y 1).val / 256) ≤ (y 1).val ∧ (y 1).val < 256 * ((y 1).val / 256) + 256
    omega

/-- What the first output's store holds: the quantised activation, from the scratch buffer as the trips' pieces leave it. -/
def out1_A_6 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : Vec F S256x2304 .fp8e4m3 := k1_pay7 (loopEnd1 c i arg1 harg1 arg2 harg2 arg3 harg3 arg4 harg4 arg5 harg5 arg6 harg6 arg7 harg7 arg8 harg8 arg9 harg9 x0 x1 x2 x3 x4 x5).1 (View.canon (loopEnd1 c i arg1 harg1 arg2 harg2 arg3 harg3 arg4 harg4 arg5 harg5 arg6 harg6 arg7 harg7 arg8 harg8 arg9 harg9 x0 x1 x2 x3 x4 x5).2)

/-- What the second output's store holds: the scale, spread along its lanes. -/
def out1_A_7 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : Vec F S256x128 .f32 := k1_pay6 (loopEnd1 c i arg1 harg1 arg2 harg2 arg3 harg3 arg4 harg4 arg5 harg5 arg6 harg6 arg7 harg7 arg8 harg8 arg9 harg9 x0 x1 x2 x3 x4 x5).1

/-- Reading a whole buffer at the rectangle of its whole block gives its contents, whatever they were before the pieces
    that cover it. -/
theorem scratch1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    kernelRun1_A.sl.v14 c i arg1 harg1 arg2 harg2 arg3 harg3 arg4 harg4 arg5 harg5 arg6 harg6 arg7 harg7 arg8 harg8 arg9 harg9 x0 x1 x2 x3 x4 x5 fs0 = View.canon (loopEnd1 c i arg1 harg1 arg2 harg2 arg3 harg3 arg4 harg4 arg5 harg5 arg6 harg6 arg7 harg7 arg8 harg8 arg9 harg9 x0 x1 x2 x3 x4 x5).2 := by
  unfold kernelRun1_A.sl.v14
  rw [← View.read_writes_eq_canon arg9.view fs0 _ (loopCover1 c i arg1 harg1 arg2 harg2 arg3 harg3 arg4 harg4 arg5 harg5 arg6 harg6 arg7 harg7 arg8 harg8 arg9 harg9 x0 x1 x2 x3 x4 x5)]
  unfold loopEnd1
  exact View.readAt_full _ _ _

/-- The first output's pieces: one store of the whole block, the same whatever the scratch buffer held. -/
theorem run6_eq (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    (kernelRun1_A c i arg1 harg1 arg2 harg2 arg3 harg3 arg4 harg4 arg5 harg5 arg6 harg6 arg7 harg7 arg8 harg8 arg9 harg9 x0 x1 x2 x3 x4 x5 fs0).1 = [⟨Rect.unit ![0, 0] S256x2304.size inb_S256x2304_S256x2304_0_0, out1_A_6 c i arg1 harg1 arg2 harg2 arg3 harg3 arg4 harg4 arg5 harg5 arg6 harg6 arg7 harg7 arg8 harg8 arg9 harg9 x0 x1 x2 x3 x4 x5⟩] := by
  unfold out1_A_6
  rw [← scratch1 c i arg1 harg1 arg2 harg2 arg3 harg3 arg4 harg4 arg5 harg5 arg6 harg6 arg7 harg7 arg8 harg8 arg9 harg9 x0 x1 x2 x3 x4 x5 fs0]
  unfold kernelRun1_A loopEnd1
  rfl

/-- The second output's pieces: one store of the whole block, and nothing of the scratch buffer in it. -/
theorem run7_eq (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    (kernelRun1_A c i arg1 harg1 arg2 harg2 arg3 harg3 arg4 harg4 arg5 harg5 arg6 harg6 arg7 harg7 arg8 harg8 arg9 harg9 x0 x1 x2 x3 x4 x5 fs0).2.1 = [⟨Rect.unit ![0, 0] S256x128.size inb_S256x128_S256x128_0_0, out1_A_7 c i arg1 harg1 arg2 harg2 arg3 harg3 arg4 harg4 arg5 harg5 arg6 harg6 arg7 harg7 arg8 harg8 arg9 harg9 x0 x1 x2 x3 x4 x5⟩] := by
  unfold kernelRun1_A out1_A_7 loopEnd1
  rfl

/-- One store of a whole block covers it, and reads back as what was stored. -/
theorem read_whole1 {e : EltTy} {s : Shape} (v : View sig .tc .vmem s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := by
  have h2 := View.readAt_writes_full v f inb inb w []
  rw [View.readAt_full] at h2
  exact h2

/-! ## What the outputs hold after each point -/

/-- What the outputs' staging buffers hold after the body at point `t` (as a tuple, in window order): the run's contents at
    the point's memrefs and input blocks. -/
def outsAt1 (c : Dev nD) (t : Fin cfg1.N) : Vec F S256x2304 .fp8e4m3 × Vec F S256x128 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  (try dsimp only)
  iintro ⟨⟨⟨⟨%ds0, HS0⟩, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hopen : owns (c : Thread nD τ) scM1_0 fullShare ds0 ⊢ (iprop(∃ f, scM1_0.view.loc (c : Thread nD τ) ↦[scM1_0.view.set]{fullShare} f) : sProp 𝕄) := by
    unfold owns
    iintro ⟨%f, -, H⟩
    iexists f; iexact H
  ihave HS0 := hopen $$ HS0
  icases HS0 with ⟨%fs0, HS0⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) fs0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [run6_eq]; exact read_whole1 _ _ _ _
  unfold owns; iexists _; isplitr
  swap; · iexact H7
  ipureintro; rw [run7_eq]; exact read_whole1 _ _ _ _

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Whole

end
-- ==== Proof.K.R2.lean ====
/- The third pallas_call (`cc2_down`) at any contents of the buffers on entry: what its body leaves at each point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: custom_call 2, `cc2_down` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x128 := Rect.unit (s := S256x128) ![0, 0] S256x1.size inb_S256x128_S256x1_0_0
abbrev r2_1 : Rect S256x2304 := Rect.unit (s := S256x2304) ![0, 0] S256x2304.size inb_S256x2304_S256x2304_0_0
abbrev r2_2 : Rect S2304x7168 := Rect.unit (s := S2304x7168) ![0, 0] S2304x512.size inb_S2304x7168_S2304x512_0_0
abbrev r2_3 : Rect S1x7168 := Rect.unit (s := S1x7168) ![0, 0] S1x512.size inb_S1x7168_S1x512_0_0
abbrev r2_4 : Rect S256x7168 := Rect.unit (s := S256x7168) ![0, 0] S256x128.size inb_S256x7168_S256x128_0_0
abbrev r2_5 : Rect S256x56 := Rect.unit (s := S256x56) ![0, 0] S256x1.size inb_S256x56_S256x1_0_0
abbrev r2_6 : Rect S256x7168 := Rect.unit (s := S256x7168) ![0, 128] S256x128.size inb_S256x7168_S256x128_0_128
abbrev r2_7 : Rect S256x56 := Rect.unit (s := S256x56) ![0, 1] S256x1.size inb_S256x56_S256x1_0_1
abbrev r2_8 : Rect S256x7168 := Rect.unit (s := S256x7168) ![0, 256] S256x128.size inb_S256x7168_S256x128_0_256
abbrev r2_9 : Rect S256x56 := Rect.unit (s := S256x56) ![0, 2] S256x1.size inb_S256x56_S256x1_0_2
abbrev r2_10 : Rect S256x7168 := Rect.unit (s := S256x7168) ![0, 384] S256x128.size inb_S256x7168_S256x128_0_384
abbrev r2_11 : Rect S256x56 := Rect.unit (s := S256x56) ![0, 3] S256x1.size inb_S256x56_S256x1_0_3
abbrev r2_12 : Rect S2304x7168 := Rect.unit (s := S2304x7168) ![0, 512] S2304x512.size inb_S2304x7168_S2304x512_0_512
abbrev r2_13 : Rect S1x7168 := Rect.unit (s := S1x7168) ![0, 512] S1x512.size inb_S1x7168_S1x512_0_512
abbrev r2_14 : Rect S256x7168 := Rect.unit (s := S256x7168) ![0, 512] S256x128.size inb_S256x7168_S256x128_0_512
abbrev r2_15 : Rect S256x56 := Rect.unit (s := S256x56) ![0, 4] S256x1.size inb_S256x56_S256x1_0_4
abbrev r2_16 : Rect S256x7168 := Rect.unit (s := S256x7168) ![0, 640] S256x128.size inb_S256x7168_S256x128_0_640
abbrev r2_17 : Rect S256x56 := Rect.unit (s := S256x56) ![0, 5] S256x1.size inb_S256x56_S256x1_0_5
abbrev r2_18 : Rect S256x7168 := Rect.unit (s := S256x7168) ![0, 768] S256x128.size inb_S256x7168_S256x128_0_768
abbrev r2_19 : Rect S256x56 := Rect.unit (s := S256x56) ![0, 6] S256x1.size inb_S256x56_S256x1_0_6
abbrev r2_20 : Rect S256x7168 := Rect.unit (s := S256x7168) ![0, 896] S256x128.size inb_S256x7168_S256x128_0_896
abbrev r2_21 : Rect S256x56 := Rect.unit (s := S256x56) ![0, 7] S256x1.size inb_S256x56_S256x1_0_7
abbrev r2_22 : Rect S2304x7168 := Rect.unit (s := S2304x7168) ![0, 1024] S2304x512.size inb_S2304x7168_S2304x512_0_1024
abbrev r2_23 : Rect S1x7168 := Rect.unit (s := S1x7168) ![0, 1024] S1x512.size inb_S1x7168_S1x512_0_1024
abbrev r2_24 : Rect S256x7168 := Rect.unit (s := S256x7168) ![0, 1024] S256x128.size inb_S256x7168_S256x128_0_1024
abbrev r2_25 : Rect S256x56 := Rect.unit (s := S256x56) ![0, 8] S256x1.size inb_S256x56_S256x1_0_8
abbrev r2_26 : Rect S256x7168 := Rect.unit (s := S256x7168) ![0, 1152] S256x128.size inb_S256x7168_S256x128_0_1152
abbrev r2_27 : Rect S256x56 := Rect.unit (s := S256x56) ![0, 9] S256x1.size inb_S256x56_S256x1_0_9
abbrev r2_28 : Rect S256x7168 := Rect.unit (s := S256x7168) ![0, 1280] S256x128.size inb_S256x7168_S256x128_0_1280
abbrev r2_29 : Rect S256x56 := Rect.unit (s := S256x56) ![0, 10] S256x1.size inb_S256x56_S256x1_0_10
abbrev r2_30 : Rect S256x7168 := Rect.unit (s := S256x7168) ![0, 1408] S256x128.size inb_S256x7168_S256x128_0_1408
abbrev r2_31 : Rect S256x56 := Rect.unit (s := S256x56) ![0, 11] S256x1.size inb_S256x56_S256x1_0_11
abbrev r2_32 : Rect S2304x7168 := Rect.unit (s := S2304x7168) ![0, 1536] S2304x512.size inb_S2304x7168_S2304x512_0_1536
abbrev r2_33 : Rect S1x7168 := Rect.unit (s := S1x7168) ![0, 1536] S1x512.size inb_S1x7168_S1x512_0_1536
abbrev r2_34 : Rect S256x7168 := Rect.unit (s := S256x7168) ![0, 1536] S256x128.size inb_S256x7168_S256x128_0_1536
abbrev r2_35 : Rect S256x56 := Rect.unit (s := S256x56) ![0, 12] S256x1.size inb_S256x56_S256x1_0_12
abbrev r2_36 : Rect S256x7168 := Rect.unit (s := S256x7168) ![0, 1664] S256x128.size inb_S256x7168_S256x128_0_1664
abbrev r2_37 : Rect S256x56 := Rect.unit (s := S256x56) ![0, 13] S256x1.size inb_S256x56_S256x1_0_13
abbrev r2_38 : Rect S256x7168 := Rect.unit (s := S256x7168) ![0, 1792] S256x128.size inb_S256x7168_S256x128_0_1792
abbrev r2_39 : Rect S256x56 := Rect.unit (s := S256x56) ![0, 14] S256x1.size inb_S256x56_S256x1_0_14
abbrev r2_40 : Rect S256x7168 := Rect.unit (s := S256x7168) ![0, 1920] S256x128.size inb_S256x7168_S256x128_0_1920
abbrev r2_41 : Rect S256x56 := Rect.unit (s := S256x56) ![0, 15] S256x1.size inb_S256x56_S256x1_0_15
abbrev r2_42 : Rect S2304x7168 := Rect.unit (s := S2304x7168) ![0, 2048] S2304x512.size inb_S2304x7168_S2304x512_0_2048
abbrev r2_43 : Rect S1x7168 := Rect.unit (s := S1x7168) ![0, 2048] S1x512.size inb_S1x7168_S1x512_0_2048
abbrev r2_44 : Rect S256x7168 := Rect.unit (s := S256x7168) ![0, 2048] S256x128.size inb_S256x7168_S256x128_0_2048
abbrev r2_45 : Rect S256x56 := Rect.unit (s := S256x56) ![0, 16] S256x1.size inb_S256x56_S256x1_0_16
abbrev r2_46 : Rect S256x7168 := Rect.unit (s := S256x7168) ![0, 2176] S256x128.size inb_S256x7168_S256x128_0_2176
abbrev r2_47 : Rect S256x56 := Rect.unit (s := S256x56) ![0, 17] S256x1.size inb_S256x56_S256x1_0_17
abbrev r2_48 : Rect S256x7168 := Rect.unit (s := S256x7168) ![0, 2304] S256x128.size inb_S256x7168_S256x128_0_2304
abbrev r2_49 : Rect S256x56 := Rect.unit (s := S256x56) ![0, 18] S256x1.size inb_S256x56_S256x1_0_18
abbrev r2_50 : Rect S256x7168 := Rect.unit (s := S256x7168) ![0, 2432] S256x128.size inb_S256x7168_S256x128_0_2432
abbrev r2_51 : Rect S256x56 := Rect.unit (s := S256x56) ![0, 19] S256x1.size inb_S256x56_S256x1_0_19
abbrev r2_52 : Rect S2304x7168 := Rect.unit (s := S2304x7168) ![0, 2560] S2304x512.size inb_S2304x7168_S2304x512_0_2560
abbrev r2_53 : Rect S1x7168 := Rect.unit (s := S1x7168) ![0, 2560] S1x512.size inb_S1x7168_S1x512_0_2560
abbrev r2_54 : Rect S256x7168 := Rect.unit (s := S256x7168) ![0, 2560] S256x128.size inb_S256x7168_S256x128_0_2560
abbrev r2_55 : Rect S256x56 := Rect.unit (s := S256x56) ![0, 20] S256x1.size inb_S256x56_S256x1_0_20
abbrev r2_56 : Rect S256x7168 := Rect.unit (s := S256x7168) ![0, 2688] S256x128.size inb_S256x7168_S256x128_0_2688
abbrev r2_57 : Rect S256x56 := Rect.unit (s := S256x56) ![0, 21] S256x1.size inb_S256x56_S256x1_0_21
abbrev r2_58 : Rect S256x7168 := Rect.unit (s := S256x7168) ![0, 2816] S256x128.size inb_S256x7168_S256x128_0_2816
abbrev r2_59 : Rect S256x56 := Rect.unit (s := S256x56) ![0, 22] S256x1.size inb_S256x56_S256x1_0_22
abbrev r2_60 : Rect S256x7168 := Rect.unit (s := S256x7168) ![0, 2944] S256x128.size inb_S256x7168_S256x128_0_2944
abbrev r2_61 : Rect S256x56 := Rect.unit (s := S256x56) ![0, 23] S256x1.size inb_S256x56_S256x1_0_23
abbrev r2_62 : Rect S2304x7168 := Rect.unit (s := S2304x7168) ![0, 3072] S2304x512.size inb_S2304x7168_S2304x512_0_3072
abbrev r2_63 : Rect S1x7168 := Rect.unit (s := S1x7168) ![0, 3072] S1x512.size inb_S1x7168_S1x512_0_3072
abbrev r2_64 : Rect S256x7168 := Rect.unit (s := S256x7168) ![0, 3072] S256x128.size inb_S256x7168_S256x128_0_3072
abbrev r2_65 : Rect S256x56 := Rect.unit (s := S256x56) ![0, 24] S256x1.size inb_S256x56_S256x1_0_24
abbrev r2_66 : Rect S256x7168 := Rect.unit (s := S256x7168) ![0, 3200] S256x128.size inb_S256x7168_S256x128_0_3200
abbrev r2_67 : Rect S256x56 := Rect.unit (s := S256x56) ![0, 25] S256x1.size inb_S256x56_S256x1_0_25
abbrev r2_68 : Rect S256x7168 := Rect.unit (s := S256x7168) ![0, 3328] S256x128.size inb_S256x7168_S256x128_0_3328
abbrev r2_69 : Rect S256x56 := Rect.unit (s := S256x56) ![0, 26] S256x1.size inb_S256x56_S256x1_0_26
abbrev r2_70 : Rect S256x7168 := Rect.unit (s := S256x7168) ![0, 3456] S256x128.size inb_S256x7168_S256x128_0_3456
abbrev r2_71 : Rect S256x56 := Rect.unit (s := S256x56) ![0, 27] S256x1.size inb_S256x56_S256x1_0_27
abbrev r2_72 : Rect S2304x7168 := Rect.unit (s := S2304x7168) ![0, 3584] S2304x512.size inb_S2304x7168_S2304x512_0_3584
abbrev r2_73 : Rect S1x7168 := Rect.unit (s := S1x7168) ![0, 3584] S1x512.size inb_S1x7168_S1x512_0_3584
abbrev r2_74 : Rect S256x7168 := Rect.unit (s := S256x7168) ![0, 3584] S256x128.size inb_S256x7168_S256x128_0_3584
abbrev r2_75 : Rect S256x56 := Rect.unit (s := S256x56) ![0, 28] S256x1.size inb_S256x56_S256x1_0_28
abbrev r2_76 : Rect S256x7168 := Rect.unit (s := S256x7168) ![0, 3712] S256x128.size inb_S256x7168_S256x128_0_3712
abbrev r2_77 : Rect S256x56 := Rect.unit (s := S256x56) ![0, 29] S256x1.size inb_S256x56_S256x1_0_29
abbrev r2_78 : Rect S256x7168 := Rect.unit (s := S256x7168) ![0, 3840] S256x128.size inb_S256x7168_S256x128_0_3840
abbrev r2_79 : Rect S256x56 := Rect.unit (s := S256x56) ![0, 30] S256x1.size inb_S256x56_S256x1_0_30
abbrev r2_80 : Rect S256x7168 := Rect.unit (s := S256x7168) ![0, 3968] S256x128.size inb_S256x7168_S256x128_0_3968
abbrev r2_81 : Rect S256x56 := Rect.unit (s := S256x56) ![0, 31] S256x1.size inb_S256x56_S256x1_0_31
abbrev r2_82 : Rect S2304x7168 := Rect.unit (s := S2304x7168) ![0, 4096] S2304x512.size inb_S2304x7168_S2304x512_0_4096
abbrev r2_83 : Rect S1x7168 := Rect.unit (s := S1x7168) ![0, 4096] S1x512.size inb_S1x7168_S1x512_0_4096
abbrev r2_84 : Rect S256x7168 := Rect.unit (s := S256x7168) ![0, 4096] S256x128.size inb_S256x7168_S256x128_0_4096
abbrev r2_85 : Rect S256x56 := Rect.unit (s := S256x56) ![0, 32] S256x1.size inb_S256x56_S256x1_0_32
abbrev r2_86 : Rect S256x7168 := Rect.unit (s := S256x7168) ![0, 4224] S256x128.size inb_S256x7168_S256x128_0_4224
abbrev r2_87 : Rect S256x56 := Rect.unit (s := S256x56) ![0, 33] S256x1.size inb_S256x56_S256x1_0_33
abbrev r2_88 : Rect S256x7168 := Rect.unit (s := S256x7168) ![0, 4352] S256x128.size inb_S256x7168_S256x128_0_4352
abbrev r2_89 : Rect S256x56 := Rect.unit (s := S256x56) ![0, 34] S256x1.size inb_S256x56_S256x1_0_34
abbrev r2_90 : Rect S256x7168 := Rect.unit (s := S256x7168) ![0, 4480] S256x128.size inb_S256x7168_S256x128_0_4480
abbrev r2_91 : Rect S256x56 := Rect.unit (s := S256x56) ![0, 35] S256x1.size inb_S256x56_S256x1_0_35
abbrev r2_92 : Rect S2304x7168 := Rect.unit (s := S2304x7168) ![0, 4608] S2304x512.size inb_S2304x7168_S2304x512_0_4608
abbrev r2_93 : Rect S1x7168 := Rect.unit (s := S1x7168) ![0, 4608] S1x512.size inb_S1x7168_S1x512_0_4608
abbrev r2_94 : Rect S256x7168 := Rect.unit (s := S256x7168) ![0, 4608] S256x128.size inb_S256x7168_S256x128_0_4608
abbrev r2_95 : Rect S256x56 := Rect.unit (s := S256x56) ![0, 36] S256x1.size inb_S256x56_S256x1_0_36
abbrev r2_96 : Rect S256x7168 := Rect.unit (s := S256x7168) ![0, 4736] S256x128.size inb_S256x7168_S256x128_0_4736
abbrev r2_97 : Rect S256x56 := Rect.unit (s := S256x56) ![0, 37] S256x1.size inb_S256x56_S256x1_0_37
abbrev r2_98 : Rect S256x7168 := Rect.unit (s := S256x7168) ![0, 4864] S256x128.size inb_S256x7168_S256x128_0_4864
abbrev r2_99 : Rect S256x56 := Rect.unit (s := S256x56) ![0, 38] S256x1.size inb_S256x56_S256x1_0_38
abbrev r2_100 : Rect S256x7168 := Rect.unit (s := S256x7168) ![0, 4992] S256x128.size inb_S256x7168_S256x128_0_4992
abbrev r2_101 : Rect S256x56 := Rect.unit (s := S256x56) ![0, 39] S256x1.size inb_S256x56_S256x1_0_39
abbrev r2_102 : Rect S2304x7168 := Rect.unit (s := S2304x7168) ![0, 5120] S2304x512.size inb_S2304x7168_S2304x512_0_5120
abbrev r2_103 : Rect S1x7168 := Rect.unit (s := S1x7168) ![0, 5120] S1x512.size inb_S1x7168_S1x512_0_5120
abbrev r2_104 : Rect S256x7168 := Rect.unit (s := S256x7168) ![0, 5120] S256x128.size inb_S256x7168_S256x128_0_5120
abbrev r2_105 : Rect S256x56 := Rect.unit (s := S256x56) ![0, 40] S256x1.size inb_S256x56_S256x1_0_40
abbrev r2_106 : Rect S256x7168 := Rect.unit (s := S256x7168) ![0, 5248] S256x128.size inb_S256x7168_S256x128_0_5248
abbrev r2_107 : Rect S256x56 := Rect.unit (s := S256x56) ![0, 41] S256x1.size inb_S256x56_S256x1_0_41
abbrev r2_108 : Rect S256x7168 := Rect.unit (s := S256x7168) ![0, 5376] S256x128.size inb_S256x7168_S256x128_0_5376
abbrev r2_109 : Rect S256x56 := Rect.unit (s := S256x56) ![0, 42] S256x1.size inb_S256x56_S256x1_0_42
abbrev r2_110 : Rect S256x7168 := Rect.unit (s := S256x7168) ![0, 5504] S256x128.size inb_S256x7168_S256x128_0_5504
abbrev r2_111 : Rect S256x56 := Rect.unit (s := S256x56) ![0, 43] S256x1.size inb_S256x56_S256x1_0_43
abbrev r2_112 : Rect S2304x7168 := Rect.unit (s := S2304x7168) ![0, 5632] S2304x512.size inb_S2304x7168_S2304x512_0_5632
abbrev r2_113 : Rect S1x7168 := Rect.unit (s := S1x7168) ![0, 5632] S1x512.size inb_S1x7168_S1x512_0_5632
abbrev r2_114 : Rect S256x7168 := Rect.unit (s := S256x7168) ![0, 5632] S256x128.size inb_S256x7168_S256x128_0_5632
abbrev r2_115 : Rect S256x56 := Rect.unit (s := S256x56) ![0, 44] S256x1.size inb_S256x56_S256x1_0_44
abbrev r2_116 : Rect S256x7168 := Rect.unit (s := S256x7168) ![0, 5760] S256x128.size inb_S256x7168_S256x128_0_5760
abbrev r2_117 : Rect S256x56 := Rect.unit (s := S256x56) ![0, 45] S256x1.size inb_S256x56_S256x1_0_45
abbrev r2_118 : Rect S256x7168 := Rect.unit (s := S256x7168) ![0, 5888] S256x128.size inb_S256x7168_S256x128_0_5888
abbrev r2_119 : Rect S256x56 := Rect.unit (s := S256x56) ![0, 46] S256x1.size inb_S256x56_S256x1_0_46
abbrev r2_120 : Rect S256x7168 := Rect.unit (s := S256x7168) ![0, 6016] S256x128.size inb_S256x7168_S256x128_0_6016
abbrev r2_121 : Rect S256x56 := Rect.unit (s := S256x56) ![0, 47] S256x1.size inb_S256x56_S256x1_0_47
abbrev r2_122 : Rect S2304x7168 := Rect.unit (s := S2304x7168) ![0, 6144] S2304x512.size inb_S2304x7168_S2304x512_0_6144
abbrev r2_123 : Rect S1x7168 := Rect.unit (s := S1x7168) ![0, 6144] S1x512.size inb_S1x7168_S1x512_0_6144
abbrev r2_124 : Rect S256x7168 := Rect.unit (s := S256x7168) ![0, 6144] S256x128.size inb_S256x7168_S256x128_0_6144
abbrev r2_125 : Rect S256x56 := Rect.unit (s := S256x56) ![0, 48] S256x1.size inb_S256x56_S256x1_0_48
abbrev r2_126 : Rect S256x7168 := Rect.unit (s := S256x7168) ![0, 6272] S256x128.size inb_S256x7168_S256x128_0_6272
abbrev r2_127 : Rect S256x56 := Rect.unit (s := S256x56) ![0, 49] S256x1.size inb_S256x56_S256x1_0_49
abbrev r2_128 : Rect S256x7168 := Rect.unit (s := S256x7168) ![0, 6400] S256x128.size inb_S256x7168_S256x128_0_6400
abbrev r2_129 : Rect S256x56 := Rect.unit (s := S256x56) ![0, 50] S256x1.size inb_S256x56_S256x1_0_50
abbrev r2_130 : Rect S256x7168 := Rect.unit (s := S256x7168) ![0, 6528] S256x128.size inb_S256x7168_S256x128_0_6528
abbrev r2_131 : Rect S256x56 := Rect.unit (s := S256x56) ![0, 51] S256x1.size inb_S256x56_S256x1_0_51
abbrev r2_132 : Rect S2304x7168 := Rect.unit (s := S2304x7168) ![0, 6656] S2304x512.size inb_S2304x7168_S2304x512_0_6656
abbrev r2_133 : Rect S1x7168 := Rect.unit (s := S1x7168) ![0, 6656] S1x512.size inb_S1x7168_S1x512_0_6656
abbrev r2_134 : Rect S256x7168 := Rect.unit (s := S256x7168) ![0, 6656] S256x128.size inb_S256x7168_S256x128_0_6656
abbrev r2_135 : Rect S256x56 := Rect.unit (s := S256x56) ![0, 52] S256x1.size inb_S256x56_S256x1_0_52
abbrev r2_136 : Rect S256x7168 := Rect.unit (s := S256x7168) ![0, 6784] S256x128.size inb_S256x7168_S256x128_0_6784
abbrev r2_137 : Rect S256x56 := Rect.unit (s := S256x56) ![0, 53] S256x1.size inb_S256x56_S256x1_0_53
abbrev r2_138 : Rect S256x7168 := Rect.unit (s := S256x7168) ![0, 6912] S256x128.size inb_S256x7168_S256x128_0_6912
abbrev r2_139 : Rect S256x56 := Rect.unit (s := S256x56) ![0, 54] S256x1.size inb_S256x56_S256x1_0_54
abbrev r2_140 : Rect S256x7168 := Rect.unit (s := S256x7168) ![0, 7040] S256x128.size inb_S256x7168_S256x128_0_7040
abbrev r2_141 : Rect S256x56 := Rect.unit (s := S256x56) ![0, 55] S256x1.size inb_S256x56_S256x1_0_55

/-! ## What the body leaves in each output window's buffer -/

/-! ### Values of the body that the stores' payloads, spelt out, would write more than once

    Each is a vector the body binds (often a part call's result), stated over the input windows' blocks and
    numbered on from the skeleton's payload functions (`k2_pay215` …, after `k2_pay214`), so that
    `out2_W` and the values after it name it instead of spelling it out (`unfold_out out2_W` opens a canon
    with them, `unfold_payloads` opens them with the payloads); the comment after each is the printed function's
    name for the value (a count appended where that name is bound again). -/

def k2_pay215 (x0 : Vec F S256x2304 .fp8e4m3) (x1 : Vec F S256x128 .f32) (x2 : Vec F S2304x7168 .fp8e4m3) (x3 : Vec F S1x7168 .f32) : FVec F S256x1 .f32 :=
  k2_pay4 (View.ld x1 r2_0) -- `v1`
def k2_pay216 (x0 : Vec F S256x2304 .fp8e4m3) (x1 : Vec F S256x128 .f32) (x2 : Vec F S2304x7168 .fp8e4m3) (x3 : Vec F S1x7168 .f32) : FVec F S256x512 .f32 :=
  k2_pay5 (View.ld x1 r2_0) (View.ld x0 r2_1) (View.ld x2 r2_2) (View.ld x3 r2_3) -- `v11`
def k2_pay217 (x0 : Vec F S256x2304 .fp8e4m3) (x1 : Vec F S256x128 .f32) (x2 : Vec F S2304x7168 .fp8e4m3) (x3 : Vec F S1x7168 .f32) : FVec F S256x1 .f32 :=
  k2_pay10 (View.ld x1 r2_0) (View.ld x0 r2_1) (View.ld x2 r2_2) (View.ld x3 r2_3) -- `v34`
def k2_pay218 (x0 : Vec F S256x2304 .fp8e4m3) (x1 : Vec F S256x128 .f32) (x2 : Vec F S2304x7168 .fp8e4m3) (x3 : Vec F S1x7168 .f32) : FVec F S256x1 .f32 :=
  k2_pay11 (F := F) -- `v35`
def k2_pay219 (x0 : Vec F S256x2304 .fp8e4m3) (x1 : Vec F S256x128 .f32) (x2 : Vec F S2304x7168 .fp8e4m3) (x3 : Vec F S1x7168 .f32) : FVec F S256x1 .f32 :=
  k2_pay18 (k2_pay216 x0 x1 x2 x3) -- `v72`
def k2_pay220 (x0 : Vec F S256x2304 .fp8e4m3) (x1 : Vec F S256x128 .f32) (x2 : Vec F S2304x7168 .fp8e4m3) (x3 : Vec F S1x7168 .f32) : FVec F S256x512 .f32 :=
  k2_pay21 (k2_pay215 x0 x1 x2 x3) (View.ld x0 r2_1) (View.ld x2 r2_12) (View.ld x3 r2_13) -- `v97`
def k2_pay221 (x0 : Vec F S256x2304 .fp8e4m3) (x1 : Vec F S256x128 .f32) (x2 : Vec F S2304x7168 .fp8e4m3) (x3 : Vec F S1x7168 .f32) : FVec F S256x512 .f32 :=
  k2_pay36 (View.ld x0 r2_1) (View.ld x2 r2_22) -- `v177`
def k2_pay222 (x0 : Vec F S256x2304 .fp8e4m3) (x1 : Vec F S256x128 .f32) (x2 : Vec F S2304x7168 .fp8e4m3) (x3 : Vec F S1x7168 .f32) : FVec F S1x512 .f32 :=
  k2_pay37 (View.ld x3 r2_23) -- `v179`
def k2_pay223 (x0 : Vec F S256x2304 .fp8e4m3) (x1 : Vec F S256x128 .f32) (x2 : Vec F S2304x7168 .fp8e4m3) (x3 : Vec F S1x7168 .f32) : FVec F S256x512 .f32 :=
  k2_pay38 (k2_pay215 x0 x1 x2 x3) (k2_pay221 x0 x1 x2 x3) (k2_pay222 x0 x1 x2 x3) -- `v183`
def k2_pay224 (x0 : Vec F S256x2304 .fp8e4m3) (x1 : Vec F S256x128 .f32) (x2 : Vec F S2304x7168 .fp8e4m3) (x3 : Vec F S1x7168 .f32) : FVec F S256x512 .f32 :=
  k2_pay51 (k2_pay215 x0 x1 x2 x3) (View.ld x0 r2_1) (View.ld x2 r2_32) (View.ld x3 r2_33) -- `v269`
def k2_pay225 (x0 : Vec F S256x2304 .fp8e4m3) (x1 : Vec F S256x128 .f32) (x2 : Vec F S2304x7168 .fp8e4m3) (x3 : Vec F S1x7168 .f32) : FVec F S256 .f32 :=
  k2_pay56 (k2_pay215 x0 x1 x2 x3) (View.ld x0 r2_1) (View.ld x2 r2_32) (View.ld x3 r2_33) -- `v291`
def k2_pay226 (x0 : Vec F S256x2304 .fp8e4m3) (x1 : Vec F S256x128 .f32) (x2 : Vec F S2304x7168 .fp8e4m3) (x3 : Vec F S1x7168 .f32) : FVec F S256x128 .f32 :=
  k2_pay63 (k2_pay224 x0 x1 x2 x3) -- `v328`
def k2_pay227 (x0 : Vec F S256x2304 .fp8e4m3) (x1 : Vec F S256x128 .f32) (x2 : Vec F S2304x7168 .fp8e4m3) (x3 : Vec F S1x7168 .f32) : FVec F S256x512 .f32 :=
  k2_pay66 (k2_pay215 x0 x1 x2 x3) (View.ld x0 r2_1) (View.ld x2 r2_42) (View.ld x3 r2_43) -- `v355`
def k2_pay228 (x0 : Vec F S256x2304 .fp8e4m3) (x1 : Vec F S256x128 .f32) (x2 : Vec F S2304x7168 .fp8e4m3) (x3 : Vec F S1x7168 .f32) : FVec F S256x1 .f32 :=
  k2_pay68 (k2_pay215 x0 x1 x2 x3) (View.ld x0 r2_1) (View.ld x2 r2_42) (View.ld x3 r2_43) -- `v365`
def k2_pay229 (x0 : Vec F S256x2304 .fp8e4m3) (x1 : Vec F S256x128 .f32) (x2 : Vec F S2304x7168 .fp8e4m3) (x3 : Vec F S1x7168 .f32) : IVec S256x1 1 :=
  k2_pay75 (k2_pay227 x0 x1 x2 x3) -- `v399`
def k2_pay230 (x0 : Vec F S256x2304 .fp8e4m3) (x1 : Vec F S256x128 .f32) (x2 : Vec F S2304x7168 .fp8e4m3) (x3 : Vec F S1x7168 .f32) : FVec F S256x1 .f32 :=
  k2_pay76 (k2_pay227 x0 x1 x2 x3) -- `v401`
def k2_pay231 (x0 : Vec F S256x2304 .fp8e4m3) (x1 : Vec F S256x128 .f32) (x2 : Vec F S2304x7168 .fp8e4m3) (x3 : Vec F S1x7168 .f32) : FVec F S256x512 .f32 :=
  k2_pay82 (View.ld x0 r2_1) (View.ld x2 r2_52) -- `v435`
def k2_pay232 (x0 : Vec F S256x2304 .fp8e4m3) (x1 : Vec F S256x128 .f32) (x2 : Vec F S2304x7168 .fp8e4m3) (x3 : Vec F S1x7168 .f32) : FVec F S256x512 .f32 :=
  k2_pay83 (k2_pay215 x0 x1 x2 x3) (k2_pay231 x0 x1 x2 x3) (View.ld x3 r2_53) -- `v441`
def k2_pay233 (x0 : Vec F S256x2304 .fp8e4m3) (x1 : Vec F S256x128 .f32) (x2 : Vec F S2304x7168 .fp8e4m3) (x3 : Vec F S1x7168 .f32) : FVec F S256x512 .f32 :=
  k2_pay98 (k2_pay215 x0 x1 x2 x3) (View.ld x0 r2_1) (View.ld x2 r2_62) (View.ld x3 r2_63) -- `v527`
def k2_pay234 (x0 : Vec F S256x2304 .fp8e4m3) (x1 : Vec F S256x128 .f32) (x2 : Vec F S2304x7168 .fp8e4m3) (x3 : Vec F S1x7168 .f32) : FVec F S256x128 .f32 :=
  k2_pay102 (k2_pay215 x0 x1 x2 x3) (View.ld x0 r2_1) (View.ld x2 r2_62) (View.ld x3 r2_63) -- `v547`
def k2_pay235 (x0 : Vec F S256x2304 .fp8e4m3) (x1 : Vec F S256x128 .f32) (x2 : Vec F S2304x7168 .fp8e4m3) (x3 : Vec F S1x7168 .f32) : FVec F S256x512 .f32 :=
  k2_pay111 (k2_pay215 x0 x1 x2 x3) (View.ld x0 r2_1) (View.ld x2 r2_72) (View.ld x3 r2_73) -- `v613`
def k2_pay236 (x0 : Vec F S256x2304 .fp8e4m3) (x1 : Vec F S256x128 .f32) (x2 : Vec F S2304x7168 .fp8e4m3) (x3 : Vec F S1x7168 .f32) : IVec S256x1 1 :=
  k2_pay114 (k2_pay215 x0 x1 x2 x3) (View.ld x0 r2_1) (View.ld x2 r2_72) (View.ld x3 r2_73) -- `v619`
def k2_pay237 (x0 : Vec F S256x2304 .fp8e4m3) (x1 : Vec F S256x128 .f32) (x2 : Vec F S2304x7168 .fp8e4m3) (x3 : Vec F S1x7168 .f32) : FVec F S256x1 .f32 :=
  k2_pay115 (k2_pay215 x0 x1 x2 x3) (View.ld x0 r2_1) (View.ld x2 r2_72) (View.ld x3 r2_73) -- `v621`
def k2_pay238 (x0 : Vec F S256x2304 .fp8e4m3) (x1 : Vec F S256x128 .f32) (x2 : Vec F S2304x7168 .fp8e4m3) (x3 : Vec F S1x7168 .f32) : FVec F S256x1 .f32 :=
  k2_pay122 (k2_pay235 x0 x1 x2 x3) -- `v655`
def k2_pay239 (x0 : Vec F S256x2304 .fp8e4m3) (x1 : Vec F S256x128 .f32) (x2 : Vec F S2304x7168 .fp8e4m3) (x3 : Vec F S1x7168 .f32) : IVec S256x1 1 :=
  k2_pay123 (k2_pay235 x0 x1 x2 x3) -- `v657`
def k2_pay240 (x0 : Vec F S256x2304 .fp8e4m3) (x1 : Vec F S256x128 .f32) (x2 : Vec F S2304x7168 .fp8e4m3) (x3 : Vec F S1x7168 .f32) : FVec F S256x2304 .fp8e4m3 :=
  k2_pay129 (View.ld x0 r2_1) -- `v691`
def k2_pay241 (x0 : Vec F S256x2304 .fp8e4m3) (x1 : Vec F S256x128 .f32) (x2 : Vec F S2304x7168 .fp8e4m3) (x3 : Vec F S1x7168 .f32) : FVec F S256x512 .f32 :=
  k2_pay130 (k2_pay215 x0 x1 x2 x3) (k2_pay240 x0 x1 x2 x3) (View.ld x2 r2_82) (View.ld x3 r2_83) -- `v699`
def k2_pay242 (x0 : Vec F S256x2304 .fp8e4m3) (x1 : Vec F S256x128 .f32) (x2 : Vec F S2304x7168 .fp8e4m3) (x3 : Vec F S1x7168 .f32) : FVec F S256x512 .f32 :=
  k2_pay146 (k2_pay215 x0 x1 x2 x3) (View.ld x0 r2_1) (View.ld x2 r2_92) (View.ld x3 r2_93) -- `v785`
def k2_pay243 (x0 : Vec F S256x2304 .fp8e4m3) (x1 : Vec F S256x128 .f32) (x2 : Vec F S2304x7168 .fp8e4m3) (x3 : Vec F S1x7168 .f32) : FVec F S256x512 .f32 :=
  k2_pay159 (k2_pay215 x0 x1 x2 x3) (View.ld x0 r2_1) (View.ld x2 r2_102) (View.ld x3 r2_103) -- `v871`
def k2_pay244 (x0 : Vec F S256x2304 .fp8e4m3) (x1 : Vec F S256x128 .f32) (x2 : Vec F S2304x7168 .fp8e4m3) (x3 : Vec F S1x7168 .f32) : FVec F S256x1 .f32 :=
  k2_pay161 (k2_pay215 x0 x1 x2 x3) (View.ld x0 r2_1) (View.ld x2 r2_102) (View.ld x3 r2_103) -- `v875`
def k2_pay245 (x0 : Vec F S256x2304 .fp8e4m3) (x1 : Vec F S256x128 .f32) (x2 : Vec F S2304x7168 .fp8e4m3) (x3 : Vec F S1x7168 .f32) : IVec S256x1 1 :=
  k2_pay162 (k2_pay215 x0 x1 x2 x3) (View.ld x0 r2_1) (View.ld x2 r2_102) (View.ld x3 r2_103) -- `v877`
def k2_pay246 (x0 : Vec F S256x2304 .fp8e4m3) (x1 : Vec F S256x128 .f32) (x2 : Vec F S2304x7168 .fp8e4m3) (x3 : Vec F S1x7168 .f32) : FVec F S256x1 .f32 :=
  k2_pay169 (k2_pay243 x0 x1 x2 x3) -- `v913`
def k2_pay247 (x0 : Vec F S256x2304 .fp8e4m3) (x1 : Vec F S256x128 .f32) (x2 : Vec F S2304x7168 .fp8e4m3) (x3 : Vec F S1x7168 .f32) : FVec F S256x2304 .fp8e4m3 :=
  k2_pay175 (View.ld x0 r2_1) -- `v949`
def k2_pay248 (x0 : Vec F S256x2304 .fp8e4m3) (x1 : Vec F S256x128 .f32) (x2 : Vec F S2304x7168 .fp8e4m3) (x3 : Vec F S1x7168 .f32) : FVec F S256x512 .f32 :=
  k2_pay176 (k2_pay215 x0 x1 x2 x3) (k2_pay247 x0 x1 x2 x3) (View.ld x2 r2_112) (View.ld x3 r2_113) -- `v957`
def k2_pay249 (x0 : Vec F S256x2304 .fp8e4m3) (x1 : Vec F S256x128 .f32) (x2 : Vec F S2304x7168 .fp8e4m3) (x3 : Vec F S1x7168 .f32) : FVec F S256x1 .f32 :=
  k2_pay188 (k2_pay248 x0 x1 x2 x3) -- `v1024`
def k2_pay250 (x0 : Vec F S256x2304 .fp8e4m3) (x1 : Vec F S256x128 .f32) (x2 : Vec F S2304x7168 .fp8e4m3) (x3 : Vec F S1x7168 .f32) : FVec F S256x512 .f32 :=
  k2_pay190 (k2_pay215 x0 x1 x2 x3) (View.ld x0 r2_1) (View.ld x2 r2_122) (View.ld x3 r2_123) -- `v1043`
def k2_pay251 (x0 : Vec F S256x2304 .fp8e4m3) (x1 : Vec F S256x128 .f32) (x2 : Vec F S2304x7168 .fp8e4m3) (x3 : Vec F S1x7168 .f32) : FVec F S256x512 .f32 :=
  k2_pay203 (k2_pay215 x0 x1 x2 x3) (View.ld x0 r2_1) (View.ld x2 r2_132) (View.ld x3 r2_133) -- `v1129`
def k2_pay252 (x0 : Vec F S256x2304 .fp8e4m3) (x1 : Vec F S256x128 .f32) (x2 : Vec F S2304x7168 .fp8e4m3) (x3 : Vec F S1x7168 .f32) : FVec F S256x1 .f32 :=
  k2_pay205 (k2_pay215 x0 x1 x2 x3) (View.ld x0 r2_1) (View.ld x2 r2_132) (View.ld x3 r2_133) -- `v1133`
def k2_pay253 (x0 : Vec F S256x2304 .fp8e4m3) (x1 : Vec F S256x128 .f32) (x2 : Vec F S2304x7168 .fp8e4m3) (x3 : Vec F S1x7168 .f32) : FVec F S256x128 .f32 :=
  k2_pay212 (k2_pay251 x0 x1 x2 x3) -- `v1169`

/-- Window 4's staging buffer after the body, from the input windows' blocks: its 56 stores as pieces, LAST
    FIRST (Lib/Pipeline/FrameBody.lean `View.canon`; the payloads are the skeleton's and the values stated above). -/
def out2_4 (x0 : Vec F S256x2304 .fp8e4m3) (x1 : Vec F S256x128 .f32) (x2 : Vec F S2304x7168 .fp8e4m3) (x3 : Vec F S1x7168 .f32) : Vec F S256x7168 .fp8e4m3 :=
  View.canon [⟨r2_140, k2_pay3 (k2_pay251 x0 x1 x2 x3)⟩,
    ⟨r2_138, k2_pay214 (k2_pay211 (k2_pay251 x0 x1 x2 x3)) (k2_pay253 x0 x1 x2 x3)⟩,
    ⟨r2_136, k2_pay210 (k2_pay251 x0 x1 x2 x3)⟩,
    ⟨r2_134, k2_pay207 (k2_pay204 (k2_pay215 x0 x1 x2 x3) (View.ld x0 r2_1) (View.ld x2 r2_132) (View.ld x3 r2_133)) (k2_pay252 x0 x1 x2 x3)⟩,
    ⟨r2_130, k2_pay202 (k2_pay250 x0 x1 x2 x3)⟩,
    ⟨r2_128, k2_pay199 (k2_pay250 x0 x1 x2 x3)⟩,
    ⟨r2_126, k2_pay196 (k2_pay250 x0 x1 x2 x3)⟩,
    ⟨r2_124, k2_pay193 (k2_pay215 x0 x1 x2 x3) (View.ld x0 r2_1) (View.ld x2 r2_122) (View.ld x3 r2_123)⟩,
    ⟨r2_120, k2_pay189 (k2_pay187 (k2_pay248 x0 x1 x2 x3)) (k2_pay249 x0 x1 x2 x3)⟩,
    ⟨r2_118, k2_pay186 (k2_pay248 x0 x1 x2 x3)⟩,
    ⟨r2_116, k2_pay183 (k2_pay182 (k2_pay215 x0 x1 x2 x3) (k2_pay247 x0 x1 x2 x3) (View.ld x2 r2_112) (View.ld x3 r2_113))⟩,
    ⟨r2_114, k2_pay179 (k2_pay215 x0 x1 x2 x3) (k2_pay247 x0 x1 x2 x3) (View.ld x2 r2_112) (View.ld x3 r2_113)⟩,
    ⟨r2_110, k2_pay174 (k2_pay243 x0 x1 x2 x3)⟩,
    ⟨r2_108, k2_pay171 (k2_pay168 (k2_pay243 x0 x1 x2 x3)) (k2_pay246 x0 x1 x2 x3) (Scalar.ofBits .f32 0x00000000#32)⟩,
    ⟨r2_106, k2_pay167 (k2_pay243 x0 x1 x2 x3)⟩,
    ⟨r2_104, k2_pay164 (k2_pay160 (k2_pay215 x0 x1 x2 x3) (View.ld x0 r2_1) (View.ld x2 r2_102) (View.ld x3 r2_103)) (k2_pay244 x0 x1 x2 x3) (k2_pay245 x0 x1 x2 x3)⟩,
    ⟨r2_100, k2_pay158 (k2_pay242 x0 x1 x2 x3)⟩,
    ⟨r2_98, k2_pay155 (k2_pay242 x0 x1 x2 x3)⟩,
    ⟨r2_96, k2_pay152 (k2_pay242 x0 x1 x2 x3)⟩,
    ⟨r2_94, k2_pay149 (k2_pay215 x0 x1 x2 x3) (View.ld x0 r2_1) (View.ld x2 r2_92) (View.ld x3 r2_93)⟩,
    ⟨r2_90, k2_pay145 (k2_pay144 (k2_pay241 x0 x1 x2 x3)) (Scalar.ofBits .f32 0xC3E00000#32)⟩,
    ⟨r2_88, k2_pay141 (k2_pay241 x0 x1 x2 x3)⟩,
    ⟨r2_86, k2_pay138 (k2_pay136 (k2_pay215 x0 x1 x2 x3) (k2_pay240 x0 x1 x2 x3) (View.ld x2 r2_82) (View.ld x3 r2_83)) (Scalar.ofBits .f32 0x43E00000#32) (k2_pay137 (F := F))⟩,
    ⟨r2_84, k2_pay133 (k2_pay215 x0 x1 x2 x3) (k2_pay240 x0 x1 x2 x3) (View.ld x2 r2_82) (View.ld x3 r2_83)⟩,
    ⟨r2_80, k2_pay128 (k2_pay235 x0 x1 x2 x3)⟩,
    ⟨r2_78, k2_pay125 (k2_pay121 (k2_pay235 x0 x1 x2 x3)) (k2_pay238 x0 x1 x2 x3) (k2_pay239 x0 x1 x2 x3) (Scalar.ofBits .f32 0x43E00000#32)⟩,
    ⟨r2_76, k2_pay120 (k2_pay235 x0 x1 x2 x3)⟩,
    ⟨r2_74, k2_pay117 (k2_pay112 (k2_pay215 x0 x1 x2 x3) (View.ld x0 r2_1) (View.ld x2 r2_72) (View.ld x3 r2_73)) (k2_pay236 x0 x1 x2 x3) (k2_pay237 x0 x1 x2 x3)⟩,
    ⟨r2_70, k2_pay110 (k2_pay233 x0 x1 x2 x3)⟩,
    ⟨r2_68, k2_pay107 (k2_pay233 x0 x1 x2 x3)⟩,
    ⟨r2_66, k2_pay104 (k2_pay234 x0 x1 x2 x3)⟩,
    ⟨r2_64, k2_pay101 (k2_pay215 x0 x1 x2 x3) (View.ld x0 r2_1) (View.ld x2 r2_62) (View.ld x3 r2_63)⟩,
    ⟨r2_60, k2_pay97 (Scalar.ofBits .f32 0x43E00000#32) (k2_pay96 (k2_pay232 x0 x1 x2 x3))⟩,
    ⟨r2_58, k2_pay93 (k2_pay232 x0 x1 x2 x3)⟩,
    ⟨r2_56, k2_pay90 (k2_pay89 (k2_pay215 x0 x1 x2 x3) (k2_pay231 x0 x1 x2 x3) (View.ld x3 r2_53))⟩,
    ⟨r2_54, k2_pay86 (k2_pay215 x0 x1 x2 x3) (k2_pay231 x0 x1 x2 x3) (View.ld x3 r2_53)⟩,
    ⟨r2_50, k2_pay81 (k2_pay227 x0 x1 x2 x3)⟩,
    ⟨r2_48, k2_pay78 (k2_pay73 (k2_pay227 x0 x1 x2 x3)) (k2_pay229 x0 x1 x2 x3) (k2_pay230 x0 x1 x2 x3) (Scalar.ofBits .f32 0x3F800000#32)⟩,
    ⟨r2_46, k2_pay72 (k2_pay227 x0 x1 x2 x3)⟩,
    ⟨r2_44, k2_pay69 (k2_pay67 (k2_pay215 x0 x1 x2 x3) (View.ld x0 r2_1) (View.ld x2 r2_42) (View.ld x3 r2_43)) (k2_pay228 x0 x1 x2 x3)⟩,
    ⟨r2_40, k2_pay65 (k2_pay62 (k2_pay224 x0 x1 x2 x3)) (k2_pay226 x0 x1 x2 x3)⟩,
    ⟨r2_38, k2_pay61 (k2_pay224 x0 x1 x2 x3)⟩,
    ⟨r2_36, k2_pay58 (k2_pay55 (k2_pay215 x0 x1 x2 x3) (View.ld x0 r2_1) (View.ld x2 r2_32) (View.ld x3 r2_33)) (k2_pay225 x0 x1 x2 x3)⟩,
    ⟨r2_34, k2_pay54 (k2_pay215 x0 x1 x2 x3) (View.ld x0 r2_1) (View.ld x2 r2_32) (View.ld x3 r2_33)⟩,
    ⟨r2_30, k2_pay50 (k2_pay223 x0 x1 x2 x3)⟩,
    ⟨r2_28, k2_pay47 (k2_pay223 x0 x1 x2 x3)⟩,
    ⟨r2_26, k2_pay44 (k2_pay215 x0 x1 x2 x3) (k2_pay221 x0 x1 x2 x3) (k2_pay222 x0 x1 x2 x3)⟩,
    ⟨r2_24, k2_pay41 (k2_pay215 x0 x1 x2 x3) (k2_pay221 x0 x1 x2 x3) (k2_pay222 x0 x1 x2 x3)⟩,
    ⟨r2_20, k2_pay35 (k2_pay220 x0 x1 x2 x3)⟩,
    ⟨r2_18, k2_pay32 (k2_pay29 (k2_pay220 x0 x1 x2 x3)) (k2_pay31 (k2_pay220 x0 x1 x2 x3))⟩,
    ⟨r2_16, k2_pay28 (k2_pay220 x0 x1 x2 x3)⟩,
    ⟨r2_14, k2_pay25 (k2_pay24 (k2_pay215 x0 x1 x2 x3) (View.ld x0 r2_1) (View.ld x2 r2_12) (View.ld x3 r2_13)) (Scalar.ofBits .f32 0xC3E00000#32)⟩,
    ⟨r2_10, k2_pay20 (k2_pay17 (k2_pay216 x0 x1 x2 x3)) (k2_pay219 x0 x1 x2 x3)⟩,
    ⟨r2_8, k2_pay16 (k2_pay216 x0 x1 x2 x3)⟩,
    ⟨r2_6, k2_pay13 (k2_pay9 (View.ld x1 r2_0) (View.ld x0 r2_1) (View.ld x2 r2_2) (View.ld x3 r2_3)) (k2_pay217 x0 x1 x2 x3) (k2_pay218 x0 x1 x2 x3)⟩,
    ⟨r2_4, k2_pay8 (View.ld x1 r2_0) (View.ld x0 r2_1) (View.ld x2 r2_2) (View.ld x3 r2_3)⟩]

/-- Its stores tile the buffer (checked by evaluation), so they cover it. -/
theorem cover2_4 (p0 : Vec F S256x128 .fp8e4m3) (p1 : Vec F S256x128 .fp8e4m3) (p2 : Vec F S256x128 .fp8e4m3) (p3 : Vec F S256x128 .fp8e4m3) (p4 : Vec F S256x128 .fp8e4m3) (p5 : Vec F S256x128 .fp8e4m3) (p6 : Vec F S256x128 .fp8e4m3) (p7 : Vec F S256x128 .fp8e4m3) (p8 : Vec F S256x128 .fp8e4m3) (p9 : Vec F S256x128 .fp8e4m3) (p10 : Vec F S256x128 .fp8e4m3) (p11 : Vec F S256x128 .fp8e4m3) (p12 : Vec F S256x128 .fp8e4m3) (p13 : Vec F S256x128 .fp8e4m3) (p14 : Vec F S256x128 .fp8e4m3) (p15 : Vec F S256x128 .fp8e4m3) (p16 : Vec F S256x128 .fp8e4m3) (p17 : Vec F S256x128 .fp8e4m3) (p18 : Vec F S256x128 .fp8e4m3) (p19 : Vec F S256x128 .fp8e4m3) (p20 : Vec F S256x128 .fp8e4m3) (p21 : Vec F S256x128 .fp8e4m3) (p22 : Vec F S256x128 .fp8e4m3) (p23 : Vec F S256x128 .fp8e4m3) (p24 : Vec F S256x128 .fp8e4m3) (p25 : Vec F S256x128 .fp8e4m3) (p26 : Vec F S256x128 .fp8e4m3) (p27 : Vec F S256x128 .fp8e4m3) (p28 : Vec F S256x128 .fp8e4m3) (p29 : Vec F S256x128 .fp8e4m3) (p30 : Vec F S256x128 .fp8e4m3) (p31 : Vec F S256x128 .fp8e4m3) (p32 : Vec F S256x128 .fp8e4m3) (p33 : Vec F S256x128 .fp8e4m3) (p34 : Vec F S256x128 .fp8e4m3) (p35 : Vec F S256x128 .fp8e4m3) (p36 : Vec F S256x128 .fp8e4m3) (p37 : Vec F S256x128 .fp8e4m3) (p38 : Vec F S256x128 .fp8e4m3) (p39 : Vec F S256x128 .fp8e4m3) (p40 : Vec F S256x128 .fp8e4m3) (p41 : Vec F S256x128 .fp8e4m3) (p42 : Vec F S256x128 .fp8e4m3) (p43 : Vec F S256x128 .fp8e4m3) (p44 : Vec F S256x128 .fp8e4m3) (p45 : Vec F S256x128 .fp8e4m3) (p46 : Vec F S256x128 .fp8e4m3) (p47 : Vec F S256x128 .fp8e4m3) (p48 : Vec F S256x128 .fp8e4m3) (p49 : Vec F S256x128 .fp8e4m3) (p50 : Vec F S256x128 .fp8e4m3) (p51 : Vec F S256x128 .fp8e4m3) (p52 : Vec F S256x128 .fp8e4m3) (p53 : Vec F S256x128 .fp8e4m3) (p54 : Vec F S256x128 .fp8e4m3) (p55 : Vec F S256x128 .fp8e4m3) (y : S256x7168.Idx) :
    ∃ pc ∈ ([⟨r2_140, p0⟩, ⟨r2_138, p1⟩, ⟨r2_136, p2⟩, ⟨r2_134, p3⟩, ⟨r2_130, p4⟩, ⟨r2_128, p5⟩, ⟨r2_126, p6⟩, ⟨r2_124, p7⟩, ⟨r2_120, p8⟩, ⟨r2_118, p9⟩, ⟨r2_116, p10⟩, ⟨r2_114, p11⟩, ⟨r2_110, p12⟩, ⟨r2_108, p13⟩, ⟨r2_106, p14⟩, ⟨r2_104, p15⟩, ⟨r2_100, p16⟩, ⟨r2_98, p17⟩, ⟨r2_96, p18⟩, ⟨r2_94, p19⟩, ⟨r2_90, p20⟩, ⟨r2_88, p21⟩, ⟨r2_86, p22⟩, ⟨r2_84, p23⟩, ⟨r2_80, p24⟩, ⟨r2_78, p25⟩, ⟨r2_76, p26⟩, ⟨r2_74, p27⟩, ⟨r2_70, p28⟩, ⟨r2_68, p29⟩, ⟨r2_66, p30⟩, ⟨r2_64, p31⟩, ⟨r2_60, p32⟩, ⟨r2_58, p33⟩, ⟨r2_56, p34⟩, ⟨r2_54, p35⟩, ⟨r2_50, p36⟩, ⟨r2_48, p37⟩, ⟨r2_46, p38⟩, ⟨r2_44, p39⟩, ⟨r2_40, p40⟩, ⟨r2_38, p41⟩, ⟨r2_36, p42⟩, ⟨r2_34, p43⟩, ⟨r2_30, p44⟩, ⟨r2_28, p45⟩, ⟨r2_26, p46⟩, ⟨r2_24, p47⟩, ⟨r2_20, p48⟩, ⟨r2_18, p49⟩, ⟨r2_16, p50⟩, ⟨r2_14, p51⟩, ⟨r2_10, p52⟩, ⟨r2_8, p53⟩, ⟨r2_6, p54⟩, ⟨r2_4, p55⟩] : List (View.Piece (Elt F) S256x7168 .fp8e4m3)), y ∈ pc.1.set :=
  View.cover_of_tiled [⟨r2_140, p0⟩, ⟨r2_138, p1⟩, ⟨r2_136, p2⟩, ⟨r2_134, p3⟩, ⟨r2_130, p4⟩, ⟨r2_128, p5⟩, ⟨r2_126, p6⟩, ⟨r2_124, p7⟩, ⟨r2_120, p8⟩, ⟨r2_118, p9⟩, ⟨r2_116, p10⟩, ⟨r2_114, p11⟩, ⟨r2_110, p12⟩, ⟨r2_108, p13⟩, ⟨r2_106, p14⟩, ⟨r2_104, p15⟩, ⟨r2_100, p16⟩, ⟨r2_98, p17⟩, ⟨r2_96, p18⟩, ⟨r2_94, p19⟩, ⟨r2_90, p20⟩, ⟨r2_88, p21⟩, ⟨r2_86, p22⟩, ⟨r2_84, p23⟩, ⟨r2_80, p24⟩, ⟨r2_78, p25⟩, ⟨r2_76, p26⟩, ⟨r2_74, p27⟩, ⟨r2_70, p28⟩, ⟨r2_68, p29⟩, ⟨r2_66, p30⟩, ⟨r2_64, p31⟩, ⟨r2_60, p32⟩, ⟨r2_58, p33⟩, ⟨r2_56, p34⟩, ⟨r2_54, p35⟩, ⟨r2_50, p36⟩, ⟨r2_48, p37⟩, ⟨r2_46, p38⟩, ⟨r2_44, p39⟩, ⟨r2_40, p40⟩, ⟨r2_38, p41⟩, ⟨r2_36, p42⟩, ⟨r2_34, p43⟩, ⟨r2_30, p44⟩, ⟨r2_28, p45⟩, ⟨r2_26, p46⟩, ⟨r2_24, p47⟩, ⟨r2_20, p48⟩, ⟨r2_18, p49⟩, ⟨r2_16, p50⟩, ⟨r2_14, p51⟩, ⟨r2_10, p52⟩, ⟨r2_8, p53⟩, ⟨r2_6, p54⟩, ⟨r2_4, p55⟩] S256x128.size (by rfl) y

/-- Window 5's staging buffer after the body, from the input windows' blocks: its 56 stores as pieces, LAST
    FIRST (Lib/Pipeline/FrameBody.lean `View.canon`; the payloads are the skeleton's and the values stated above). -/
def out2_5 (x0 : Vec F S256x2304 .fp8e4m3) (x1 : Vec F S256x128 .f32) (x2 : Vec F S2304x7168 .fp8e4m3) (x3 : Vec F S1x7168 .f32) : Vec F S256x56 .f32 :=
  View.canon [⟨r2_141, k2_pay2 (k2_pay251 x0 x1 x2 x3)⟩,
    ⟨r2_139, k2_pay213 (k2_pay253 x0 x1 x2 x3)⟩,
    ⟨r2_137, k2_pay209 (k2_pay251 x0 x1 x2 x3)⟩,
    ⟨r2_135, k2_pay206 (k2_pay252 x0 x1 x2 x3)⟩,
    ⟨r2_131, k2_pay201 (k2_pay250 x0 x1 x2 x3)⟩,
    ⟨r2_129, k2_pay198 (k2_pay250 x0 x1 x2 x3)⟩,
    ⟨r2_127, k2_pay195 (k2_pay250 x0 x1 x2 x3)⟩,
    ⟨r2_125, k2_pay192 (k2_pay215 x0 x1 x2 x3) (View.ld x0 r2_1) (View.ld x2 r2_122) (View.ld x3 r2_123)⟩,
    ⟨r2_121, k2_pay249 x0 x1 x2 x3⟩,
    ⟨r2_119, k2_pay185 (k2_pay248 x0 x1 x2 x3)⟩,
    ⟨r2_117, k2_pay181 (k2_pay215 x0 x1 x2 x3) (k2_pay247 x0 x1 x2 x3) (View.ld x2 r2_112) (View.ld x3 r2_113)⟩,
    ⟨r2_115, k2_pay178 (k2_pay215 x0 x1 x2 x3) (k2_pay247 x0 x1 x2 x3) (View.ld x2 r2_112) (View.ld x3 r2_113)⟩,
    ⟨r2_111, k2_pay173 (k2_pay243 x0 x1 x2 x3)⟩,
    ⟨r2_109, k2_pay170 (k2_pay246 x0 x1 x2 x3) (Scalar.ofBits .f32 0x00000000#32)⟩,
    ⟨r2_107, k2_pay166 (k2_pay243 x0 x1 x2 x3)⟩,
    ⟨r2_105, k2_pay163 (k2_pay244 x0 x1 x2 x3) (k2_pay245 x0 x1 x2 x3)⟩,
    ⟨r2_101, k2_pay157 (k2_pay242 x0 x1 x2 x3)⟩,
    ⟨r2_99, k2_pay154 (k2_pay242 x0 x1 x2 x3)⟩,
    ⟨r2_97, k2_pay151 (k2_pay242 x0 x1 x2 x3)⟩,
    ⟨r2_95, k2_pay148 (k2_pay215 x0 x1 x2 x3) (View.ld x0 r2_1) (View.ld x2 r2_92) (View.ld x3 r2_93)⟩,
    ⟨r2_91, k2_pay143 (k2_pay241 x0 x1 x2 x3)⟩,
    ⟨r2_89, k2_pay140 (k2_pay241 x0 x1 x2 x3)⟩,
    ⟨r2_87, k2_pay135 (k2_pay215 x0 x1 x2 x3) (k2_pay240 x0 x1 x2 x3) (View.ld x2 r2_82) (View.ld x3 r2_83)⟩,
    ⟨r2_85, k2_pay132 (k2_pay215 x0 x1 x2 x3) (k2_pay240 x0 x1 x2 x3) (View.ld x2 r2_82) (View.ld x3 r2_83)⟩,
    ⟨r2_81, k2_pay127 (k2_pay235 x0 x1 x2 x3)⟩,
    ⟨r2_79, k2_pay124 (k2_pay238 x0 x1 x2 x3) (k2_pay239 x0 x1 x2 x3) (Scalar.ofBits .f32 0x43E00000#32)⟩,
    ⟨r2_77, k2_pay119 (k2_pay235 x0 x1 x2 x3)⟩,
    ⟨r2_75, k2_pay116 (k2_pay236 x0 x1 x2 x3) (k2_pay237 x0 x1 x2 x3)⟩,
    ⟨r2_71, k2_pay109 (k2_pay233 x0 x1 x2 x3)⟩,
    ⟨r2_69, k2_pay106 (k2_pay233 x0 x1 x2 x3)⟩,
    ⟨r2_67, k2_pay103 (k2_pay234 x0 x1 x2 x3)⟩,
    ⟨r2_65, k2_pay100 (k2_pay215 x0 x1 x2 x3) (View.ld x0 r2_1) (View.ld x2 r2_62) (View.ld x3 r2_63)⟩,
    ⟨r2_61, k2_pay95 (k2_pay232 x0 x1 x2 x3)⟩,
    ⟨r2_59, k2_pay92 (k2_pay232 x0 x1 x2 x3)⟩,
    ⟨r2_57, k2_pay88 (k2_pay215 x0 x1 x2 x3) (k2_pay231 x0 x1 x2 x3) (View.ld x3 r2_53)⟩,
    ⟨r2_55, k2_pay85 (k2_pay215 x0 x1 x2 x3) (k2_pay231 x0 x1 x2 x3) (View.ld x3 r2_53)⟩,
    ⟨r2_51, k2_pay80 (k2_pay227 x0 x1 x2 x3)⟩,
    ⟨r2_49, k2_pay77 (k2_pay229 x0 x1 x2 x3) (k2_pay230 x0 x1 x2 x3) (Scalar.ofBits .f32 0x3F800000#32)⟩,
    ⟨r2_47, k2_pay71 (k2_pay227 x0 x1 x2 x3)⟩,
    ⟨r2_45, k2_pay228 x0 x1 x2 x3⟩,
    ⟨r2_41, k2_pay64 (k2_pay226 x0 x1 x2 x3)⟩,
    ⟨r2_39, k2_pay60 (k2_pay224 x0 x1 x2 x3)⟩,
    ⟨r2_37, k2_pay57 (k2_pay225 x0 x1 x2 x3)⟩,
    ⟨r2_35, k2_pay53 (k2_pay215 x0 x1 x2 x3) (View.ld x0 r2_1) (View.ld x2 r2_32) (View.ld x3 r2_33)⟩,
    ⟨r2_31, k2_pay49 (k2_pay223 x0 x1 x2 x3)⟩,
    ⟨r2_29, k2_pay46 (k2_pay223 x0 x1 x2 x3)⟩,
    ⟨r2_27, k2_pay43 (k2_pay215 x0 x1 x2 x3) (k2_pay221 x0 x1 x2 x3) (k2_pay222 x0 x1 x2 x3)⟩,
    ⟨r2_25, k2_pay40 (k2_pay215 x0 x1 x2 x3) (k2_pay221 x0 x1 x2 x3) (k2_pay222 x0 x1 x2 x3)⟩,
    ⟨r2_21, k2_pay34 (k2_pay220 x0 x1 x2 x3)⟩,
    ⟨r2_19, k2_pay30 (k2_pay220 x0 x1 x2 x3)⟩,
    ⟨r2_17, k2_pay27 (k2_pay220 x0 x1 x2 x3)⟩,
    ⟨r2_15, k2_pay23 (k2_pay215 x0 x1 x2 x3) (View.ld x0 r2_1) (View.ld x2 r2_12) (View.ld x3 r2_13)⟩,
    ⟨r2_11, k2_pay19 (k2_pay219 x0 x1 x2 x3)⟩,
    ⟨r2_9, k2_pay15 (k2_pay216 x0 x1 x2 x3)⟩,
    ⟨r2_7, k2_pay12 (k2_pay217 x0 x1 x2 x3) (k2_pay218 x0 x1 x2 x3)⟩,
    ⟨r2_5, k2_pay7 (View.ld x1 r2_0) (View.ld x0 r2_1) (View.ld x2 r2_2) (View.ld x3 r2_3)⟩]

/-- Its stores tile the buffer (checked by evaluation), so they cover it. -/
theorem cover2_5 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (p16 : Vec F S256x1 .f32) (p17 : Vec F S256x1 .f32) (p18 : Vec F S256x1 .f32) (p19 : Vec F S256x1 .f32) (p20 : Vec F S256x1 .f32) (p21 : Vec F S256x1 .f32) (p22 : Vec F S256x1 .f32) (p23 : Vec F S256x1 .f32) (p24 : Vec F S256x1 .f32) (p25 : Vec F S256x1 .f32) (p26 : Vec F S256x1 .f32) (p27 : Vec F S256x1 .f32) (p28 : Vec F S256x1 .f32) (p29 : Vec F S256x1 .f32) (p30 : Vec F S256x1 .f32) (p31 : Vec F S256x1 .f32) (p32 : Vec F S256x1 .f32) (p33 : Vec F S256x1 .f32) (p34 : Vec F S256x1 .f32) (p35 : Vec F S256x1 .f32) (p36 : Vec F S256x1 .f32) (p37 : Vec F S256x1 .f32) (p38 : Vec F S256x1 .f32) (p39 : Vec F S256x1 .f32) (p40 : Vec F S256x1 .f32) (p41 : Vec F S256x1 .f32) (p42 : Vec F S256x1 .f32) (p43 : Vec F S256x1 .f32) (p44 : Vec F S256x1 .f32) (p45 : Vec F S256x1 .f32) (p46 : Vec F S256x1 .f32) (p47 : Vec F S256x1 .f32) (p48 : Vec F S256x1 .f32) (p49 : Vec F S256x1 .f32) (p50 : Vec F S256x1 .f32) (p51 : Vec F S256x1 .f32) (p52 : Vec F S256x1 .f32) (p53 : Vec F S256x1 .f32) (p54 : Vec F S256x1 .f32) (p55 : Vec F S256x1 .f32) (y : S256x56.Idx) :
    ∃ pc ∈ ([⟨r2_141, p0⟩, ⟨r2_139, p1⟩, ⟨r2_137, p2⟩, ⟨r2_135, p3⟩, ⟨r2_131, p4⟩, ⟨r2_129, p5⟩, ⟨r2_127, p6⟩, ⟨r2_125, p7⟩, ⟨r2_121, p8⟩, ⟨r2_119, p9⟩, ⟨r2_117, p10⟩, ⟨r2_115, p11⟩, ⟨r2_111, p12⟩, ⟨r2_109, p13⟩, ⟨r2_107, p14⟩, ⟨r2_105, p15⟩, ⟨r2_101, p16⟩, ⟨r2_99, p17⟩, ⟨r2_97, p18⟩, ⟨r2_95, p19⟩, ⟨r2_91, p20⟩, ⟨r2_89, p21⟩, ⟨r2_87, p22⟩, ⟨r2_85, p23⟩, ⟨r2_81, p24⟩, ⟨r2_79, p25⟩, ⟨r2_77, p26⟩, ⟨r2_75, p27⟩, ⟨r2_71, p28⟩, ⟨r2_69, p29⟩, ⟨r2_67, p30⟩, ⟨r2_65, p31⟩, ⟨r2_61, p32⟩, ⟨r2_59, p33⟩, ⟨r2_57, p34⟩, ⟨r2_55, p35⟩, ⟨r2_51, p36⟩, ⟨r2_49, p37⟩, ⟨r2_47, p38⟩, ⟨r2_45, p39⟩, ⟨r2_41, p40⟩, ⟨r2_39, p41⟩, ⟨r2_37, p42⟩, ⟨r2_35, p43⟩, ⟨r2_31, p44⟩, ⟨r2_29, p45⟩, ⟨r2_27, p46⟩, ⟨r2_25, p47⟩, ⟨r2_21, p48⟩, ⟨r2_19, p49⟩, ⟨r2_17, p50⟩, ⟨r2_15, p51⟩, ⟨r2_11, p52⟩, ⟨r2_9, p53⟩, ⟨r2_7, p54⟩, ⟨r2_5, p55⟩] : List (View.Piece (Elt F) S256x56 .f32)), y ∈ pc.1.set :=
  View.cover_of_tiled [⟨r2_141, p0⟩, ⟨r2_139, p1⟩, ⟨r2_137, p2⟩, ⟨r2_135, p3⟩, ⟨r2_131, p4⟩, ⟨r2_129, p5⟩, ⟨r2_127, p6⟩, ⟨r2_125, p7⟩, ⟨r2_121, p8⟩, ⟨r2_119, p9⟩, ⟨r2_117, p10⟩, ⟨r2_115, p11⟩, ⟨r2_111, p12⟩, ⟨r2_109, p13⟩, ⟨r2_107, p14⟩, ⟨r2_105, p15⟩, ⟨r2_101, p16⟩, ⟨r2_99, p17⟩, ⟨r2_97, p18⟩, ⟨r2_95, p19⟩, ⟨r2_91, p20⟩, ⟨r2_89, p21⟩, ⟨r2_87, p22⟩, ⟨r2_85, p23⟩, ⟨r2_81, p24⟩, ⟨r2_79, p25⟩, ⟨r2_77, p26⟩, ⟨r2_75, p27⟩, ⟨r2_71, p28⟩, ⟨r2_69, p29⟩, ⟨r2_67, p30⟩, ⟨r2_65, p31⟩, ⟨r2_61, p32⟩, ⟨r2_59, p33⟩, ⟨r2_57, p34⟩, ⟨r2_55, p35⟩, ⟨r2_51, p36⟩, ⟨r2_49, p37⟩, ⟨r2_47, p38⟩, ⟨r2_45, p39⟩, ⟨r2_41, p40⟩, ⟨r2_39, p41⟩, ⟨r2_37, p42⟩, ⟨r2_35, p43⟩, ⟨r2_31, p44⟩, ⟨r2_29, p45⟩, ⟨r2_27, p46⟩, ⟨r2_25, p47⟩, ⟨r2_21, p48⟩, ⟨r2_19, p49⟩, ⟨r2_17, p50⟩, ⟨r2_15, p51⟩, ⟨r2_11, p52⟩, ⟨r2_9, p53⟩, ⟨r2_7, p54⟩, ⟨r2_5, p55⟩] S256x1.size (by rfl) y

/-! ## The body's triple -/

set_option maxHeartbeats 1592000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x2304 .fp8e4m3) (harg1 : arg1.IsWhole) (arg2 : Memref sig .tc .vmem S256x128 .f32) (harg2 : arg2.IsWhole) (arg3 : Memref sig .tc .vmem S2304x7168 .fp8e4m3) (harg3 : arg3.IsWhole) (arg4 : Memref sig .tc .vmem S1x7168 .f32) (harg4 : arg4.IsWhole) (arg5 : Memref sig .tc .vmem S256x7168 .fp8e4m3) (harg5 : arg5.IsWhole) (arg6 : Memref sig .tc .vmem S256x56 .f32) (harg6 : arg6.IsWhole)
    (x0 : Vec F S256x2304 .fp8e4m3) (x1 : Vec F S256x128 .f32) (x2 : Vec F S2304x7168 .fp8e4m3) (x3 : Vec F S1x7168 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2_down i arg1 harg1 arg2 harg2 arg3 harg3 arg4 harg4 arg5 harg5 arg6 harg6) K := by
  simp only [cc2_down_eq_skeleton]; unfold cc2_down_skel
  simp only [k2_part33_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover2_4 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H5
  ipureintro
  refine (View.read_writes_eq_canon _ _ _ (cover2_5 _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Whole

end
-- ==== Proof.K.Run.lean ====
/- The whole kernel: its three pallas_calls among the host operations, from the launch to the return. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.K.R0
public import proofs.«01_k».proof.Proof.K.R1
public import proofs.«01_k».proof.Proof.K.R2

@[expose] public section

-- membership in a rectangle of production extents (`View.cover_of_tiled`): the elaborator's structural look
-- recurses once per coordinate of the long axes
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v11, main_v12, main_v13, main_v14, main_v15, main_v16, main_v17, main_v18, main_v19, main_v20, main_v21, main_v22]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h => h.1) (frame m ρ)

end Cert.Kernel.Whole

end
-- ==== Proof.KI.R0.lean ====
/- The first pallas_call (`cc0_receive`) at any contents of the buffers on entry: what its body leaves at each point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_receive` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S32x7168 .bf16 := (Memref.whole cc0_stg5_0 : Memref sig .tc .vmem S32x7168 .bf16).view
/-- One staging buffer of output window 6, through which its contents are stated (`View.read_writes_of_cover`: the
    choice does not matter). -/
abbrev VO0_6 : View sig .tc .vmem S32x7168 .f32 := (Memref.whole cc0_stg6_0 : Memref sig .tc .vmem S32x7168 .f32).view
/-- One staging buffer of output window 7, through which its contents are stated (`View.read_writes_of_cover`: the
    choice does not matter). -/
abbrev VO0_7 : View sig .tc .vmem S32x7168 .fp8e4m3 := (Memref.whole cc0_stg7_0 : Memref sig .tc .vmem S32x7168 .fp8e4m3).view
/-- One staging buffer of output window 8, through which its contents are stated (`View.read_writes_of_cover`: the
    choice does not matter). -/
abbrev VO0_8 : View sig .tc .vmem S32x128 .f32 := (Memref.whole cc0_stg8_0 : Memref sig .tc .vmem S32x128 .f32).view
/-- Each window's current staging memref at point `t`, spelled as the pipeline passes it (`bodyAt0`), and its wholeness. -/
abbrev ms0_0 (t : Fin cfg0.N) : Memref sig .tc .vmem S32x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32x56 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x7168 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S32x7168 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 8524000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) :
    Σ' (L5 : List (View.Piece (Elt F) S32x7168 .bf16)), Σ' (L6 : List (View.Piece (Elt F) S32x7168 .f32)), Σ' (L7 : List (View.Piece (Elt F) S32x7168 .fp8e4m3)), Σ' (L8 : List (View.Piece (Elt F) S32x128 .f32)), { LT0 : List (View.Piece (Elt F) S32x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0)) -∗ K ⟨⟩))
          ⊢ wp frame (wpE (defs₀ (F := F)) Variants.none c none) E (cc0_receive i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_receive_eq_skeleton]; unfold cc0_receive_skel
    simp only [k0_part164_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part165_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part166_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact HS0

/-- The run's pieces for output 5 tile its block (56 stores of `S32x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).1 S32x128.size (by sl_kernel_rfl) y

/-- What the run leaves in output 5's staging buffer: its pieces read back over junk. -/
def out0_A_5 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3 x4).1)

/-- The run's pieces for output 6 tile its block (112 stores of `S32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.1 S32x128.size (by sl_kernel_rfl) y

/-- What the run leaves in output 6's staging buffer: its pieces read back over junk. -/
def out0_A_6 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4).2.1)

/-- The run's pieces for output 7 tile its block (56 stores of `S32x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x7168.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.2.1 S32x128.size (by sl_kernel_rfl) y

/-- What the run leaves in output 7's staging buffer: its pieces read back over junk. -/
def out0_A_7 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x7168 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4).2.2.1)

/-- The run's pieces for output 8 tile its block (1 store of `S32x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) (y : S32x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.2.2.1 S32x128.size (by sl_kernel_rfl) y

/-- What the run leaves in output 8's staging buffer: its pieces read back over junk. -/
def out0_A_8 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32) : Vec F S32x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4).2.2.2.1)

/-! ## What the outputs hold after each point -/

/-- What the outputs' staging buffers hold after the body at point `t` (as a tuple, in window order): the run's contents at
    the point's memrefs and input blocks. -/
def outsAt0 (c : Dev nD) (t : Fin cfg0.N) : Vec F S32x7168 .bf16 × Vec F S32x7168 .f32 × Vec F S32x7168 .fp8e4m3 × Vec F S32x128 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2.1
    | ⟨8, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2.1 := by dsimp only [dat0]
theorem after0_8 (c : Dev nD) (t : Fin cfg0.N) : (dat0 V c).after 8 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  rw [show (dat0 V c).Φ t.castSucc = Pipeline.ΦA spec0 c from rfl, PhiA0_eq]
  unfold outsAt0
  unfold out0_A_5 out0_A_6 out0_A_7 out0_A_8; (try dsimp only)
  iintro ⟨⟨⟨HS0, HR1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  iintro ⟨H0, H1, H2, H3, H4, ⟨%e5, H5⟩, ⟨%e6, H6⟩, ⟨%e7, H7⟩, ⟨%e8, H8⟩, ⟨%fT0, HS0⟩⟩
  isplitl [HS0 HR1 HR2 HR3 HR4 HR5 HR6 HR7 HR8 HR9 HR10 HR11 HR12 HR13 HR14 HR15 HR16 HR17 HR18 HR19 HR20 HR21 HR22 HR23 Hg]
  · isplitl [HS0 HR1 HR2 HR3 HR4 HR5 HR6 HR7 HR8 HR9 HR10 HR11 HR12 HR13 HR14 HR15 HR16 HR17 HR18 HR19 HR20 HR21 HR22 HR23]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      isplitl [HR22]
      · iexact HR22
      iexact HR23
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KI.R1.lean ====
/- The second pallas_call (`cc1_gate_up`) at any contents of the buffers on entry: what its body leaves at each point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_gate_up` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S256x2304 .fp8e4m3 := (Memref.whole cc1_stg6_0 : Memref sig .tc .vmem S256x2304 .fp8e4m3).view
/-- One staging buffer of output window 7, through which its contents are stated (`View.read_writes_of_cover`: the
    choice does not matter). -/
abbrev VO1_7 : View sig .tc .vmem S256x128 .f32 := (Memref.whole cc1_stg7_0 : Memref sig .tc .vmem S256x128 .f32).view
/-- Each window's current staging memref at point `t`, spelled as the pipeline passes it (`bodyAt1`), and its wholeness. -/
abbrev ms1_0 (t : Fin cfg1.N) : Memref sig .tc .vmem S256x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S7168x2304 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S7168x2304 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2304 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2304 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x2304 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S256x2304 .f32 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    Σ' (L6 : List (View.Piece (Elt F) S256x2304 .fp8e4m3)), { L7 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (arg9.view.loc (c : Thread nD τ) ↦[arg9.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9) K } := by
  refine ⟨?_, ?_, fun E K => ?run⟩
  case run =>
    simp only [cc1_gate_up_eq_skeleton]; unfold cc1_gate_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HS0, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _, _; isplitr; swap; · iexact HS0
    ipureintro; rfl

/-! ## The counted loop's trips, opened -/

/-- What trip `k` stores: one 256 by 256 tile of the activation, at columns `256 k` on. -/
theorem tripL1_eq (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k1_t1_loop.trips) (acc : FVec F S256x1 .f32) :
    tripL_k1_t1 (F := F) 𝒱 c bd i arg1 harg1 arg2 harg2 arg3 harg3 arg4 harg4 arg5 harg5 arg6 harg6 arg7 harg7 arg8 harg8 arg9 harg9 v0 X1 X3 X4 X5 X6 k acc
      = [⟨Rect.unit (s := S256x2304) (k1_off3 k) S256x256.size (k1_off3_inb k),
          k1_pay3 v0 (View.readAt (Elt F) arg1.view (Rect.unit ![0, 0] S256x7168.size inb_S256x7168_S256x7168_0_0).toLoadRect X1)
            (View.readAt (Elt F) arg3.view (Rect.unit (s := S7168x2304) (k1_off1 k) S7168x256.size (k1_off1_inb k)).toLoadRect X3)
            (View.readAt (Elt F) arg1.view (Rect.unit ![0, 0] S256x7168.size inb_S256x7168_S256x7168_0_0).toLoadRect X1)
            (View.readAt (Elt F) arg4.view (Rect.unit (s := S7168x2304) (k1_off1 k) S7168x256.size (k1_off1_inb k)).toLoadRect X4)
            (View.readAt (Elt F) arg5.view (Rect.unit (s := S1x2304) (k1_off2 k) S1x256.size (k1_off2_inb k)).toLoadRect X5)
            (View.readAt (Elt F) arg6.view (Rect.unit (s := S1x2304) (k1_off2 k) S1x256.size (k1_off2_inb k)).toLoadRect X6)⟩] := by
  unfold tripL_k1_t1 trip_k1_t1; rfl

/-- What trip `k` carries on: the row maximum so far. -/
theorem tripR1_eq (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k1_t1_loop.trips) (acc : FVec F S256x1 .f32) :
    tripR_k1_t1 (F := F) 𝒱 c bd i arg1 harg1 arg2 harg2 arg3 harg3 arg4 harg4 arg5 harg5 arg6 harg6 arg7 harg7 arg8 harg8 arg9 harg9 v0 X1 X3 X4 X5 X6 k acc
      = k1_pay4 v0 acc (View.readAt (Elt F) arg1.view (Rect.unit ![0, 0] S256x7168.size inb_S256x7168_S256x7168_0_0).toLoadRect X1)
            (View.readAt (Elt F) arg3.view (Rect.unit (s := S7168x2304) (k1_off1 k) S7168x256.size (k1_off1_inb k)).toLoadRect X3)
            (View.readAt (Elt F) arg1.view (Rect.unit ![0, 0] S256x7168.size inb_S256x7168_S256x7168_0_0).toLoadRect X1)
            (View.readAt (Elt F) arg4.view (Rect.unit (s := S7168x2304) (k1_off1 k) S7168x256.size (k1_off1_inb k)).toLoadRect X4)
            (View.readAt (Elt F) arg5.view (Rect.unit (s := S1x2304) (k1_off2 k) S1x256.size (k1_off2_inb k)).toLoadRect X5)
            (View.readAt (Elt F) arg6.view (Rect.unit (s := S1x2304) (k1_off2 k) S1x256.size (k1_off2_inb k)).toLoadRect X6) := by
  unfold tripR_k1_t1 trip_k1_t1; rfl

/-- Before trip `n` the pieces of every earlier trip are listed. -/
theorem mem_st1 (𝒱 : Variants) (c : Dev nD) (bd : Option 𝒱.V) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (v0 : Vec F S256x1 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (init : FVec F S256x1 .f32) (k : Fin k1_t1_loop.trips) (n : ℕ) (hk : k.val < n) (hn : n ≤ k1_t1_loop.trips) :
    ∃ w, (⟨Rect.unit (s := S256x2304) (k1_off3 k) S256x256.size (k1_off3_inb k), w⟩ : View.Piece (Elt F) S256x2304 .f32) ∈ (st_k1_t1 (F := F) 𝒱 c bd i arg1 harg1 arg2 harg2 arg3 harg3 arg4 harg4 arg5 harg5 arg6 harg6 arg7 harg7 arg8 harg8 arg9 harg9 v0 X1 X3 X4 X5 X6 init n).2 := by
  induction n with
  | zero => omega
  | succ n ih =>
    have hs := st_k1_t1_succ (F := F) 𝒱 c bd i arg1 harg1 arg2 harg2 arg3 harg3 arg4 harg4 arg5 harg5 arg6 harg6 arg7 harg7 arg8 harg8 arg9 harg9 v0 X1 X3 X4 X5 X6 init ⟨n, hn⟩
    rw [show n + 1 = (⟨n, hn⟩ : Fin k1_t1_loop.trips).val + 1 from rfl, hs, tripL1_eq]
    rcases Nat.lt_succ_iff_lt_or_eq.mp hk with h | h
    · obtain ⟨w, hw⟩ := ih h (by omega)
      exact ⟨w, List.mem_append_right _ hw⟩
    · obtain rfl : k = ⟨n, hn⟩ := Fin.ext h
      exact ⟨_, List.mem_append_left _ (List.mem_singleton.mpr rfl)⟩

/-- The loop's state after its last trip: the row maximum it carried and the pieces its trips stored into the scratch
    buffer, which do not depend on what that buffer held before. -/
def loopEnd1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : FVec F S256x1 .f32 × List (View.Piece (Elt F) S256x2304 .f32) :=
  st_k1_t1 Variants.none c none i arg1 harg1 arg2 harg2 arg3 harg3 arg4 harg4 arg5 harg5 arg6 harg6 arg7 harg7 arg8 harg8 arg9 harg9
    (View.readAt (Elt F) arg2.view (Rect.unit (s := S256x128) ![0, 0] S256x1.size inb_S256x128_S256x1_0_0).toLoadRect (harg2.unread x1))
    (harg1.unread x0) (harg3.unread x2) (harg4.unread x3) (harg5.unread x4) (harg6.unread x5) k1_pay1
    (Scf.trips k1_t1_loop.lb k1_t1_loop.ub k1_t1_loop.st)

/-- The nine trips' stores tile the scratch buffer. -/
theorem loopCover1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (y : S256x2304.Idx) : ∃ pc ∈ (loopEnd1 c i arg1 harg1 arg2 harg2 arg3 harg3 arg4 harg4 arg5 harg5 arg6 harg6 arg7 harg7 arg8 harg8 arg9 harg9 x0 x1 x2 x3 x4 x5).2, y ∈ pc.1.set := by
  have h9 : k1_t1_loop.trips = 9 := by decide
  have hy : (y 1).val < 2304 := (y 1).isLt
  have hy0 : (y 0).val < 256 := (y 0).isLt
  have hk : (y 1).val / 256 < k1_t1_loop.trips := by omega
  obtain ⟨w, hw⟩ := mem_st1 (F := F) Variants.none c none i arg1 harg1 arg2 harg2 arg3 harg3 arg4 harg4 arg5 harg5 arg6 harg6 arg7 harg7 arg8 harg8 arg9 harg9
    (View.readAt (Elt F) arg2.view (Rect.unit (s := S256x128) ![0, 0] S256x1.size inb_S256x128_S256x1_0_0).toLoadRect (harg2.unread x1))
    (harg1.unread x0) (harg3.unread x2) (harg4.unread x3) (harg5.unread x4) (harg6.unread x5) k1_pay1 ⟨_, hk⟩ k1_t1_loop.trips hk le_rfl
  refine ⟨_, hw, ?_⟩
  rw [Rect.mem_set_unit, k1_off3_eq]
  intro a
  fin_cases a
  · exact ⟨Nat.zero_le _, by simpa using hy0⟩
  · show 256 * ((y 1).val / 256) ≤ (y 1).val ∧ (y 1).val < 256 * ((y 1).val / 256) + 256
    omega

/-- What the first output's store holds: the quantised activation, from the scratch buffer as the trips' pieces leave it. -/
def out1_A_6 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : Vec F S256x2304 .fp8e4m3 := k1_pay7 (loopEnd1 c i arg1 harg1 arg2 harg2 arg3 harg3 arg4 harg4 arg5 harg5 arg6 harg6 arg7 harg7 arg8 harg8 arg9 harg9 x0 x1 x2 x3 x4 x5).1 (View.canon (loopEnd1 c i arg1 harg1 arg2 harg2 arg3 harg3 arg4 harg4 arg5 harg5 arg6 harg6 arg7 harg7 arg8 harg8 arg9 harg9 x0 x1 x2 x3 x4 x5).2)

/-- What the second output's store holds: the scale, spread along its lanes. -/
def out1_A_7 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) : Vec F S256x128 .f32 := k1_pay6 (loopEnd1 c i arg1 harg1 arg2 harg2 arg3 harg3 arg4 harg4 arg5 harg5 arg6 harg6 arg7 harg7 arg8 harg8 arg9 harg9 x0 x1 x2 x3 x4 x5).1

/-- Reading a whole buffer at the rectangle of its whole block gives its contents, whatever they were before the pieces
    that cover it. -/
theorem scratch1 (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    kernelRun1_A.sl.v14 c i arg1 harg1 arg2 harg2 arg3 harg3 arg4 harg4 arg5 harg5 arg6 harg6 arg7 harg7 arg8 harg8 arg9 harg9 x0 x1 x2 x3 x4 x5 fs0 = View.canon (loopEnd1 c i arg1 harg1 arg2 harg2 arg3 harg3 arg4 harg4 arg5 harg5 arg6 harg6 arg7 harg7 arg8 harg8 arg9 harg9 x0 x1 x2 x3 x4 x5).2 := by
  unfold kernelRun1_A.sl.v14
  rw [← View.read_writes_eq_canon arg9.view fs0 _ (loopCover1 c i arg1 harg1 arg2 harg2 arg3 harg3 arg4 harg4 arg5 harg5 arg6 harg6 arg7 harg7 arg8 harg8 arg9 harg9 x0 x1 x2 x3 x4 x5)]
  unfold loopEnd1
  exact View.readAt_full _ _ _

/-- The first output's pieces: one store of the whole block, the same whatever the scratch buffer held. -/
theorem run6_eq (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    (kernelRun1_A c i arg1 harg1 arg2 harg2 arg3 harg3 arg4 harg4 arg5 harg5 arg6 harg6 arg7 harg7 arg8 harg8 arg9 harg9 x0 x1 x2 x3 x4 x5 fs0).1 = [⟨Rect.unit ![0, 0] S256x2304.size inb_S256x2304_S256x2304_0_0, out1_A_6 c i arg1 harg1 arg2 harg2 arg3 harg3 arg4 harg4 arg5 harg5 arg6 harg6 arg7 harg7 arg8 harg8 arg9 harg9 x0 x1 x2 x3 x4 x5⟩] := by
  unfold out1_A_6
  rw [← scratch1 c i arg1 harg1 arg2 harg2 arg3 harg3 arg4 harg4 arg5 harg5 arg6 harg6 arg7 harg7 arg8 harg8 arg9 harg9 x0 x1 x2 x3 x4 x5 fs0]
  unfold kernelRun1_A loopEnd1
  rfl

/-- The second output's pieces: one store of the whole block, and nothing of the scratch buffer in it. -/
theorem run7_eq (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole)
    (x0 : Vec F S256x7168 .fp8e4m3) (x1 : Vec F S256x128 .f32) (x2 : Vec F S7168x2304 .fp8e4m3) (x3 : Vec F S7168x2304 .fp8e4m3) (x4 : Vec F S1x2304 .f32) (x5 : Vec F S1x2304 .f32) (fs0 : BufTy.Contents (Elt F) arg9.view.ty) :
    (kernelRun1_A c i arg1 harg1 arg2 harg2 arg3 harg3 arg4 harg4 arg5 harg5 arg6 harg6 arg7 harg7 arg8 harg8 arg9 harg9 x0 x1 x2 x3 x4 x5 fs0).2.1 = [⟨Rect.unit ![0, 0] S256x128.size inb_S256x128_S256x128_0_0, out1_A_7 c i arg1 harg1 arg2 harg2 arg3 harg3 arg4 harg4 arg5 harg5 arg6 harg6 arg7 harg7 arg8 harg8 arg9 harg9 x0 x1 x2 x3 x4 x5⟩] := by
  unfold kernelRun1_A out1_A_7 loopEnd1
  rfl

/-- One store of a whole block covers it, and reads back as what was stored. -/
theorem read_whole1 {e : EltTy} {s : Shape} (v : View sig .tc .vmem s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := by
  have h2 := View.readAt_writes_full v f inb inb w []
  rw [View.readAt_full] at h2
  exact h2

/-! ## What the outputs hold after each point -/

/-- What the outputs' staging buffers hold after the body at point `t` (as a tuple, in window order): the run's contents at
    the point's memrefs and input blocks. -/
def outsAt1 (c : Dev nD) (t : Fin cfg1.N) : Vec F S256x2304 .fp8e4m3 × Vec F S256x128 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  (try dsimp only)
  iintro ⟨⟨⟨⟨%ds0, HS0⟩, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hopen : owns (c : Thread nD τ) scM1_0 fullShare ds0 ⊢ (iprop(∃ f, scM1_0.view.loc (c : Thread nD τ) ↦[scM1_0.view.set]{fullShare} f) : sProp 𝕄) := by
    unfold owns
    iintro ⟨%f, -, H⟩
    iexists f; iexact H
  ihave HS0 := hopen $$ HS0
  icases HS0 with ⟨%fs0, HS0⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) fs0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [run6_eq]; exact read_whole1 _ _ _ _
  unfold owns; iexists _; isplitr
  swap; · iexact H7
  ipureintro; rw [run7_eq]; exact read_whole1 _ _ _ _

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KI.R2.lean ====
/- The third pallas_call (`cc2_down`) at any contents of the buffers on entry: what its body leaves at each point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2 of @main: custom_call 2, `cc2_down` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x128 := Rect.unit (s := S256x128) ![0, 0] S256x1.size inb_S256x128_S256x1_0_0
abbrev r2_1 : Rect S256x2304 := Rect.unit (s := S256x2304) ![0, 0] S256x2304.size inb_S256x2304_S256x2304_0_0
abbrev r2_2 : Rect S2304x7168 := Rect.unit (s := S2304x7168) ![0, 0] S2304x512.size inb_S2304x7168_S2304x512_0_0
abbrev r2_3 : Rect S1x7168 := Rect.unit (s := S1x7168) ![0, 0] S1x512.size inb_S1x7168_S1x512_0_0
abbrev r2_4 : Rect S256x7168 := Rect.unit (s := S256x7168) ![0, 0] S256x128.size inb_S256x7168_S256x128_0_0
abbrev r2_5 : Rect S256x56 := Rect.unit (s := S256x56) ![0, 0] S256x1.size inb_S256x56_S256x1_0_0
abbrev r2_6 : Rect S256x7168 := Rect.unit (s := S256x7168) ![0, 128] S256x128.size inb_S256x7168_S256x128_0_128
abbrev r2_7 : Rect S256x56 := Rect.unit (s := S256x56) ![0, 1] S256x1.size inb_S256x56_S256x1_0_1
abbrev r2_8 : Rect S256x7168 := Rect.unit (s := S256x7168) ![0, 256] S256x128.size inb_S256x7168_S256x128_0_256
abbrev r2_9 : Rect S256x56 := Rect.unit (s := S256x56) ![0, 2] S256x1.size inb_S256x56_S256x1_0_2
abbrev r2_10 : Rect S256x7168 := Rect.unit (s := S256x7168) ![0, 384] S256x128.size inb_S256x7168_S256x128_0_384
abbrev r2_11 : Rect S256x56 := Rect.unit (s := S256x56) ![0, 3] S256x1.size inb_S256x56_S256x1_0_3
abbrev r2_12 : Rect S2304x7168 := Rect.unit (s := S2304x7168) ![0, 512] S2304x512.size inb_S2304x7168_S2304x512_0_512
abbrev r2_13 : Rect S1x7168 := Rect.unit (s := S1x7168) ![0, 512] S1x512.size inb_S1x7168_S1x512_0_512
abbrev r2_14 : Rect S256x7168 := Rect.unit (s := S256x7168) ![0, 512] S256x128.size inb_S256x7168_S256x128_0_512
abbrev r2_15 : Rect S256x56 := Rect.unit (s := S256x56) ![0, 4] S256x1.size inb_S256x56_S256x1_0_4
abbrev r2_16 : Rect S256x7168 := Rect.unit (s := S256x7168) ![0, 640] S256x128.size inb_S256x7168_S256x128_0_640
abbrev r2_17 : Rect S256x56 := Rect.unit (s := S256x56) ![0, 5] S256x1.size inb_S256x56_S256x1_0_5
abbrev r2_18 : Rect S256x7168 := Rect.unit (s := S256x7168) ![0, 768] S256x128.size inb_S256x7168_S256x128_0_768
abbrev r2_19 : Rect S256x56 := Rect.unit (s := S256x56) ![0, 6] S256x1.size inb_S256x56_S256x1_0_6
abbrev r2_20 : Rect S256x7168 := Rect.unit (s := S256x7168) ![0, 896] S256x128.size inb_S256x7168_S256x128_0_896
abbrev r2_21 : Rect S256x56 := Rect.unit (s := S256x56) ![0, 7] S256x1.size inb_S256x56_S256x1_0_7
abbrev r2_22 : Rect S2304x7168 := Rect.unit (s := S2304x7168) ![0, 1024] S2304x512.size inb_S2304x7168_S2304x512_0_1024
abbrev r2_23 : Rect S1x7168 := Rect.unit (s := S1x7168) ![0, 1024] S1x512.size inb_S1x7168_S1x512_0_1024
abbrev r2_24 : Rect S256x7168 := Rect.unit (s := S256x7168) ![0, 1024] S256x128.size inb_S256x7168_S256x128_0_1024
abbrev r2_25 : Rect S256x56 := Rect.unit (s := S256x56) ![0, 8] S256x1.size inb_S256x56_S256x1_0_8
abbrev r2_26 : Rect S256x7168 := Rect.unit (s := S256x7168) ![0, 1152] S256x128.size inb_S256x7168_S256x128_0_1152
abbrev r2_27 : Rect S256x56 := Rect.unit (s := S256x56) ![0, 9] S256x1.size inb_S256x56_S256x1_0_9
abbrev r2_28 : Rect S256x7168 := Rect.unit (s := S256x7168) ![0, 1280] S256x128.size inb_S256x7168_S256x128_0_1280
abbrev r2_29 : Rect S256x56 := Rect.unit (s := S256x56) ![0, 10] S256x1.size inb_S256x56_S256x1_0_10
abbrev r2_30 : Rect S256x7168 := Rect.unit (s := S256x7168) ![0, 1408] S256x128.size inb_S256x7168_S256x128_0_1408
abbrev r2_31 : Rect S256x56 := Rect.unit (s := S256x56) ![0, 11] S256x1.size inb_S256x56_S256x1_0_11
abbrev r2_32 : Rect S2304x7168 := Rect.unit (s := S2304x7168) ![0, 1536] S2304x512.size inb_S2304x7168_S2304x512_0_1536
abbrev r2_33 : Rect S1x7168 := Rect.unit (s := S1x7168) ![0, 1536] S1x512.size inb_S1x7168_S1x512_0_1536
abbrev r2_34 : Rect S256x7168 := Rect.unit (s := S256x7168) ![0, 1536] S256x128.size inb_S256x7168_S256x128_0_1536
abbrev r2_35 : Rect S256x56 := Rect.unit (s := S256x56) ![0, 12] S256x1.size inb_S256x56_S256x1_0_12
abbrev r2_36 : Rect S256x7168 := Rect.unit (s := S256x7168) ![0, 1664] S256x128.size inb_S256x7168_S256x128_0_1664
abbrev r2_37 : Rect S256x56 := Rect.unit (s := S256x56) ![0, 13] S256x1.size inb_S256x56_S256x1_0_13
abbrev r2_38 : Rect S256x7168 := Rect.unit (s := S256x7168) ![0, 1792] S256x128.size inb_S256x7168_S256x128_0_1792
abbrev r2_39 : Rect S256x56 := Rect.unit (s := S256x56) ![0, 14] S256x1.size inb_S256x56_S256x1_0_14
abbrev r2_40 : Rect S256x7168 := Rect.unit (s := S256x7168) ![0, 1920] S256x128.size inb_S256x7168_S256x128_0_1920
abbrev r2_41 : Rect S256x56 := Rect.unit (s := S256x56) ![0, 15] S256x1.size inb_S256x56_S256x1_0_15
abbrev r2_42 : Rect S2304x7168 := Rect.unit (s := S2304x7168) ![0, 2048] S2304x512.size inb_S2304x7168_S2304x512_0_2048
abbrev r2_43 : Rect S1x7168 := Rect.unit (s := S1x7168) ![0, 2048] S1x512.size inb_S1x7168_S1x512_0_2048
abbrev r2_44 : Rect S256x7168 := Rect.unit (s := S256x7168) ![0, 2048] S256x128.size inb_S256x7168_S256x128_0_2048
abbrev r2_45 : Rect S256x56 := Rect.unit (s := S256x56) ![0, 16] S256x1.size inb_S256x56_S256x1_0_16
abbrev r2_46 : Rect S256x7168 := Rect.unit (s := S256x7168) ![0, 2176] S256x128.size inb_S256x7168_S256x128_0_2176
abbrev r2_47 : Rect S256x56 := Rect.unit (s := S256x56) ![0, 17] S256x1.size inb_S256x56_S256x1_0_17
abbrev r2_48 : Rect S256x7168 := Rect.unit (s := S256x7168) ![0, 2304] S256x128.size inb_S256x7168_S256x128_0_2304
abbrev r2_49 : Rect S256x56 := Rect.unit (s := S256x56) ![0, 18] S256x1.size inb_S256x56_S256x1_0_18
abbrev r2_50 : Rect S256x7168 := Rect.unit (s := S256x7168) ![0, 2432] S256x128.size inb_S256x7168_S256x128_0_2432
abbrev r2_51 : Rect S256x56 := Rect.unit (s := S256x56) ![0, 19] S256x1.size inb_S256x56_S256x1_0_19
abbrev r2_52 : Rect S2304x7168 := Rect.unit (s := S2304x7168) ![0, 2560] S2304x512.size inb_S2304x7168_S2304x512_0_2560
abbrev r2_53 : Rect S1x7168 := Rect.unit (s := S1x7168) ![0, 2560] S1x512.size inb_S1x7168_S1x512_0_2560
abbrev r2_54 : Rect S256x7168 := Rect.unit (s := S256x7168) ![0, 2560] S256x128.size inb_S256x7168_S256x128_0_2560
abbrev r2_55 : Rect S256x56 := Rect.unit (s := S256x56) ![0, 20] S256x1.size inb_S256x56_S256x1_0_20
abbrev r2_56 : Rect S256x7168 := Rect.unit (s := S256x7168) ![0, 2688] S256x128.size inb_S256x7168_S256x128_0_2688
abbrev r2_57 : Rect S256x56 := Rect.unit (s := S256x56) ![0, 21] S256x1.size inb_S256x56_S256x1_0_21
abbrev r2_58 : Rect S256x7168 := Rect.unit (s := S256x7168) ![0, 2816] S256x128.size inb_S256x7168_S256x128_0_2816
abbrev r2_59 : Rect S256x56 := Rect.unit (s := S256x56) ![0, 22] S256x1.size inb_S256x56_S256x1_0_22
abbrev r2_60 : Rect S256x7168 := Rect.unit (s := S256x7168) ![0, 2944] S256x128.size inb_S256x7168_S256x128_0_2944
abbrev r2_61 : Rect S256x56 := Rect.unit (s := S256x56) ![0, 23] S256x1.size inb_S256x56_S256x1_0_23
abbrev r2_62 : Rect S2304x7168 := Rect.unit (s := S2304x7168) ![0, 3072] S2304x512.size inb_S2304x7168_S2304x512_0_3072
abbrev r2_63 : Rect S1x7168 := Rect.unit (s := S1x7168) ![0, 3072] S1x512.size inb_S1x7168_S1x512_0_3072
abbrev r2_64 : Rect S256x7168 := Rect.unit (s := S256x7168) ![0, 3072] S256x128.size inb_S256x7168_S256x128_0_3072
abbrev r2_65 : Rect S256x56 := Rect.unit (s := S256x56) ![0, 24] S256x1.size inb_S256x56_S256x1_0_24
abbrev r2_66 : Rect S256x7168 := Rect.unit (s := S256x7168) ![0, 3200] S256x128.size inb_S256x7168_S256x128_0_3200
abbrev r2_67 : Rect S256x56 := Rect.unit (s := S256x56) ![0, 25] S256x1.size inb_S256x56_S256x1_0_25
abbrev r2_68 : Rect S256x7168 := Rect.unit (s := S256x7168) ![0, 3328] S256x128.size inb_S256x7168_S256x128_0_3328
abbrev r2_69 : Rect S256x56 := Rect.unit (s := S256x56) ![0, 26] S256x1.size inb_S256x56_S256x1_0_26
abbrev r2_70 : Rect S256x7168 := Rect.unit (s := S256x7168) ![0, 3456] S256x128.size inb_S256x7168_S256x128_0_3456
abbrev r2_71 : Rect S256x56 := Rect.unit (s := S256x56) ![0, 27] S256x1.size inb_S256x56_S256x1_0_27
abbrev r2_72 : Rect S2304x7168 := Rect.unit (s := S2304x7168) ![0, 3584] S2304x512.size inb_S2304x7168_S2304x512_0_3584
abbrev r2_73 : Rect S1x7168 := Rect.unit (s := S1x7168) ![0, 3584] S1x512.size inb_S1x7168_S1x512_0_3584
abbrev r2_74 : Rect S256x7168 := Rect.unit (s := S256x7168) ![0, 3584] S256x128.size inb_S256x7168_S256x128_0_3584
abbrev r2_75 : Rect S256x56 := Rect.unit (s := S256x56) ![0, 28] S256x1.size inb_S256x56_S256x1_0_28
abbrev r2_76 : Rect S256x7168 := Rect.unit (s := S256x7168) ![0, 3712] S256x128.size inb_S256x7168_S256x128_0_3712
abbrev r2_77 : Rect S256x56 := Rect.unit (s := S256x56) ![0, 29] S256x1.size inb_S256x56_S256x1_0_29
abbrev r2_78 : Rect S256x7168 := Rect.unit (s := S256x7168) ![0, 3840] S256x128.size inb_S256x7168_S256x128_0_3840
abbrev r2_79 : Rect S256x56 := Rect.unit (s := S256x56) ![0, 30] S256x1.size inb_S256x56_S256x1_0_30
abbrev r2_80 : Rect S256x7168 := Rect.unit (s := S256x7168) ![0, 3968] S256x128.size inb_S256x7168_S256x128_0_3968
abbrev r2_81 : Rect S256x56 := Rect.unit (s := S256x56) ![0, 31] S256x1.size inb_S256x56_S256x1_0_31
abbrev r2_82 : Rect S2304x7168 := Rect.unit (s := S2304x7168) ![0, 4096] S2304x512.size inb_S2304x7168_S2304x512_0_4096
abbrev r2_83 : Rect S1x7168 := Rect.unit (s := S1x7168) ![0, 4096] S1x512.size inb_S1x7168_S1x512_0_4096
abbrev r2_84 : Rect S256x7168 := Rect.unit (s := S256x7168) ![0, 4096] S256x128.size inb_S256x7168_S256x128_0_4096
abbrev r2_85 : Rect S256x56 := Rect.unit (s := S256x56) ![0, 32] S256x1.size inb_S256x56_S256x1_0_32
abbrev r2_86 : Rect S256x7168 := Rect.unit (s := S256x7168) ![0, 4224] S256x128.size inb_S256x7168_S256x128_0_4224
abbrev r2_87 : Rect S256x56 := Rect.unit (s := S256x56) ![0, 33] S256x1.size inb_S256x56_S256x1_0_33
abbrev r2_88 : Rect S256x7168 := Rect.unit (s := S256x7168) ![0, 4352] S256x128.size inb_S256x7168_S256x128_0_4352
abbrev r2_89 : Rect S256x56 := Rect.unit (s := S256x56) ![0, 34] S256x1.size inb_S256x56_S256x1_0_34
abbrev r2_90 : Rect S256x7168 := Rect.unit (s := S256x7168) ![0, 4480] S256x128.size inb_S256x7168_S256x128_0_4480
abbrev r2_91 : Rect S256x56 := Rect.unit (s := S256x56) ![0, 35] S256x1.size inb_S256x56_S256x1_0_35
abbrev r2_92 : Rect S2304x7168 := Rect.unit (s := S2304x7168) ![0, 4608] S2304x512.size inb_S2304x7168_S2304x512_0_4608
abbrev r2_93 : Rect S1x7168 := Rect.unit (s := S1x7168) ![0, 4608] S1x512.size inb_S1x7168_S1x512_0_4608
abbrev r2_94 : Rect S256x7168 := Rect.unit (s := S256x7168) ![0, 4608] S256x128.size inb_S256x7168_S256x128_0_4608
abbrev r2_95 : Rect S256x56 := Rect.unit (s := S256x56) ![0, 36] S256x1.size inb_S256x56_S256x1_0_36
abbrev r2_96 : Rect S256x7168 := Rect.unit (s := S256x7168) ![0, 4736] S256x128.size inb_S256x7168_S256x128_0_4736
abbrev r2_97 : Rect S256x56 := Rect.unit (s := S256x56) ![0, 37] S256x1.size inb_S256x56_S256x1_0_37
abbrev r2_98 : Rect S256x7168 := Rect.unit (s := S256x7168) ![0, 4864] S256x128.size inb_S256x7168_S256x128_0_4864
abbrev r2_99 : Rect S256x56 := Rect.unit (s := S256x56) ![0, 38] S256x1.size inb_S256x56_S256x1_0_38
abbrev r2_100 : Rect S256x7168 := Rect.unit (s := S256x7168) ![0, 4992] S256x128.size inb_S256x7168_S256x128_0_4992
abbrev r2_101 : Rect S256x56 := Rect.unit (s := S256x56) ![0, 39] S256x1.size inb_S256x56_S256x1_0_39
abbrev r2_102 : Rect S2304x7168 := Rect.unit (s := S2304x7168) ![0, 5120] S2304x512.size inb_S2304x7168_S2304x512_0_5120
abbrev r2_103 : Rect S1x7168 := Rect.unit (s := S1x7168) ![0, 5120] S1x512.size inb_S1x7168_S1x512_0_5120
abbrev r2_104 : Rect S256x7168 := Rect.unit (s := S256x7168) ![0, 5120] S256x128.size inb_S256x7168_S256x128_0_5120
abbrev r2_105 : Rect S256x56 := Rect.unit (s := S256x56) ![0, 40] S256x1.size inb_S256x56_S256x1_0_40
abbrev r2_106 : Rect S256x7168 := Rect.unit (s := S256x7168) ![0, 5248] S256x128.size inb_S256x7168_S256x128_0_5248
abbrev r2_107 : Rect S256x56 := Rect.unit (s := S256x56) ![0, 41] S256x1.size inb_S256x56_S256x1_0_41
abbrev r2_108 : Rect S256x7168 := Rect.unit (s := S256x7168) ![0, 5376] S256x128.size inb_S256x7168_S256x128_0_5376
abbrev r2_109 : Rect S256x56 := Rect.unit (s := S256x56) ![0, 42] S256x1.size inb_S256x56_S256x1_0_42
abbrev r2_110 : Rect S256x7168 := Rect.unit (s := S256x7168) ![0, 5504] S256x128.size inb_S256x7168_S256x128_0_5504
abbrev r2_111 : Rect S256x56 := Rect.unit (s := S256x56) ![0, 43] S256x1.size inb_S256x56_S256x1_0_43
abbrev r2_112 : Rect S2304x7168 := Rect.unit (s := S2304x7168) ![0, 5632] S2304x512.size inb_S2304x7168_S2304x512_0_5632
abbrev r2_113 : Rect S1x7168 := Rect.unit (s := S1x7168) ![0, 5632] S1x512.size inb_S1x7168_S1x512_0_5632
abbrev r2_114 : Rect S256x7168 := Rect.unit (s := S256x7168) ![0, 5632] S256x128.size inb_S256x7168_S256x128_0_5632
abbrev r2_115 : Rect S256x56 := Rect.unit (s := S256x56) ![0, 44] S256x1.size inb_S256x56_S256x1_0_44
abbrev r2_116 : Rect S256x7168 := Rect.unit (s := S256x7168) ![0, 5760] S256x128.size inb_S256x7168_S256x128_0_5760
abbrev r2_117 : Rect S256x56 := Rect.unit (s := S256x56) ![0, 45] S256x1.size inb_S256x56_S256x1_0_45
abbrev r2_118 : Rect S256x7168 := Rect.unit (s := S256x7168) ![0, 5888] S256x128.size inb_S256x7168_S256x128_0_5888
abbrev r2_119 : Rect S256x56 := Rect.unit (s := S256x56) ![0, 46] S256x1.size inb_S256x56_S256x1_0_46
abbrev r2_120 : Rect S256x7168 := Rect.unit (s := S256x7168) ![0, 6016] S256x128.size inb_S256x7168_S256x128_0_6016
abbrev r2_121 : Rect S256x56 := Rect.unit (s := S256x56) ![0, 47] S256x1.size inb_S256x56_S256x1_0_47
abbrev r2_122 : Rect S2304x7168 := Rect.unit (s := S2304x7168) ![0, 6144] S2304x512.size inb_S2304x7168_S2304x512_0_6144
abbrev r2_123 : Rect S1x7168 := Rect.unit (s := S1x7168) ![0, 6144] S1x512.size inb_S1x7168_S1x512_0_6144
abbrev r2_124 : Rect S256x7168 := Rect.unit (s := S256x7168) ![0, 6144] S256x128.size inb_S256x7168_S256x128_0_6144
abbrev r2_125 : Rect S256x56 := Rect.unit (s := S256x56) ![0, 48] S256x1.size inb_S256x56_S256x1_0_48
abbrev r2_126 : Rect S256x7168 := Rect.unit (s := S256x7168) ![0, 6272] S256x128.size inb_S256x7168_S256x128_0_6272
abbrev r2_127 : Rect S256x56 := Rect.unit (s := S256x56) ![0, 49] S256x1.size inb_S256x56_S256x1_0_49
abbrev r2_128 : Rect S256x7168 := Rect.unit (s := S256x7168) ![0, 6400] S256x128.size inb_S256x7168_S256x128_0_6400
abbrev r2_129 : Rect S256x56 := Rect.unit (s := S256x56) ![0, 50] S256x1.size inb_S256x56_S256x1_0_50
abbrev r2_130 : Rect S256x7168 := Rect.unit (s := S256x7168) ![0, 6528] S256x128.size inb_S256x7168_S256x128_0_6528
abbrev r2_131 : Rect S256x56 := Rect.unit (s := S256x56) ![0, 51] S256x1.size inb_S256x56_S256x1_0_51
abbrev r2_132 : Rect S2304x7168 := Rect.unit (s := S2304x7168) ![0, 6656] S2304x512.size inb_S2304x7168_S2304x512_0_6656
abbrev r2_133 : Rect S1x7168 := Rect.unit (s := S1x7168) ![0, 6656] S1x512.size inb_S1x7168_S1x512_0_6656
abbrev r2_134 : Rect S256x7168 := Rect.unit (s := S256x7168) ![0, 6656] S256x128.size inb_S256x7168_S256x128_0_6656
abbrev r2_135 : Rect S256x56 := Rect.unit (s := S256x56) ![0, 52] S256x1.size inb_S256x56_S256x1_0_52
abbrev r2_136 : Rect S256x7168 := Rect.unit (s := S256x7168) ![0, 6784] S256x128.size inb_S256x7168_S256x128_0_6784
abbrev r2_137 : Rect S256x56 := Rect.unit (s := S256x56) ![0, 53] S256x1.size inb_S256x56_S256x1_0_53
abbrev r2_138 : Rect S256x7168 := Rect.unit (s := S256x7168) ![0, 6912] S256x128.size inb_S256x7168_S256x128_0_6912
abbrev r2_139 : Rect S256x56 := Rect.unit (s := S256x56) ![0, 54] S256x1.size inb_S256x56_S256x1_0_54
abbrev r2_140 : Rect S256x7168 := Rect.unit (s := S256x7168) ![0, 7040] S256x128.size inb_S256x7168_S256x128_0_7040
abbrev r2_141 : Rect S256x56 := Rect.unit (s := S256x56) ![0, 55] S256x1.size inb_S256x56_S256x1_0_55

/-! ## What the body leaves in each output window's buffer -/

/-! ### Values of the body that the stores' payloads, spelt out, would write more than once

    Each is a vector the body binds (often a part call's result), stated over the input windows' blocks and
    numbered on from the skeleton's payload functions (`k2_pay215` …, after `k2_pay214`), so that
    `out2_W` and the values after it name it instead of spelling it out (`unfold_out out2_W` opens a canon
    with them, `unfold_payloads` opens them with the payloads); the comment after each is the printed function's
    name for the value (a count appended where that name is bound again). -/

def k2_pay215 (x0 : Vec F S256x2304 .fp8e4m3) (x1 : Vec F S256x128 .f32) (x2 : Vec F S2304x7168 .fp8e4m3) (x3 : Vec F S1x7168 .f32) : FVec F S256x1 .f32 :=
  k2_pay4 (View.ld x1 r2_0) -- `v1`
def k2_pay216 (x0 : Vec F S256x2304 .fp8e4m3) (x1 : Vec F S256x128 .f32) (x2 : Vec F S2304x7168 .fp8e4m3) (x3 : Vec F S1x7168 .f32) : FVec F S256x512 .f32 :=
  k2_pay5 (View.ld x1 r2_0) (View.ld x0 r2_1) (View.ld x2 r2_2) (View.ld x3 r2_3) -- `v11`
def k2_pay217 (x0 : Vec F S256x2304 .fp8e4m3) (x1 : Vec F S256x128 .f32) (x2 : Vec F S2304x7168 .fp8e4m3) (x3 : Vec F S1x7168 .f32) : FVec F S256x1 .f32 :=
  k2_pay10 (View.ld x1 r2_0) (View.ld x0 r2_1) (View.ld x2 r2_2) (View.ld x3 r2_3) -- `v34`
def k2_pay218 (x0 : Vec F S256x2304 .fp8e4m3) (x1 : Vec F S256x128 .f32) (x2 : Vec F S2304x7168 .fp8e4m3) (x3 : Vec F S1x7168 .f32) : FVec F S256x1 .f32 :=
  k2_pay11 (F := F) -- `v35`
def k2_pay219 (x0 : Vec F S256x2304 .fp8e4m3) (x1 : Vec F S256x128 .f32) (x2 : Vec F S2304x7168 .fp8e4m3) (x3 : Vec F S1x7168 .f32) : FVec F S256x1 .f32 :=
  k2_pay18 (k2_pay216 x0 x1 x2 x3) -- `v72`
def k2_pay220 (x0 : Vec F S256x2304 .fp8e4m3) (x1 : Vec F S256x128 .f32) (x2 : Vec F S2304x7168 .fp8e4m3) (x3 : Vec F S1x7168 .f32) : FVec F S256x512 .f32 :=
  k2_pay21 (k2_pay215 x0 x1 x2 x3) (View.ld x0 r2_1) (View.ld x2 r2_12) (View.ld x3 r2_13) -- `v97`
def k2_pay221 (x0 : Vec F S256x2304 .fp8e4m3) (x1 : Vec F S256x128 .f32) (x2 : Vec F S2304x7168 .fp8e4m3) (x3 : Vec F S1x7168 .f32) : FVec F S256x512 .f32 :=
  k2_pay36 (View.ld x0 r2_1) (View.ld x2 r2_22) -- `v177`
def k2_pay222 (x0 : Vec F S256x2304 .fp8e4m3) (x1 : Vec F S256x128 .f32) (x2 : Vec F S2304x7168 .fp8e4m3) (x3 : Vec F S1x7168 .f32) : FVec F S1x512 .f32 :=
  k2_pay37 (View.ld x3 r2_23) -- `v179`
def k2_pay223 (x0 : Vec F S256x2304 .fp8e4m3) (x1 : Vec F S256x128 .f32) (x2 : Vec F S2304x7168 .fp8e4m3) (x3 : Vec F S1x7168 .f32) : FVec F S256x512 .f32 :=
  k2_pay38 (k2_pay215 x0 x1 x2 x3) (k2_pay221 x0 x1 x2 x3) (k2_pay222 x0 x1 x2 x3) -- `v183`
def k2_pay224 (x0 : Vec F S256x2304 .fp8e4m3) (x1 : Vec F S256x128 .f32) (x2 : Vec F S2304x7168 .fp8e4m3) (x3 : Vec F S1x7168 .f32) : FVec F S256x512 .f32 :=
  k2_pay51 (k2_pay215 x0 x1 x2 x3) (View.ld x0 r2_1) (View.ld x2 r2_32) (View.ld x3 r2_33) -- `v269`
def k2_pay225 (x0 : Vec F S256x2304 .fp8e4m3) (x1 : Vec F S256x128 .f32) (x2 : Vec F S2304x7168 .fp8e4m3) (x3 : Vec F S1x7168 .f32) : FVec F S256 .f32 :=
  k2_pay56 (k2_pay215 x0 x1 x2 x3) (View.ld x0 r2_1) (View.ld x2 r2_32) (View.ld x3 r2_33) -- `v291`
def k2_pay226 (x0 : Vec F S256x2304 .fp8e4m3) (x1 : Vec F S256x128 .f32) (x2 : Vec F S2304x7168 .fp8e4m3) (x3 : Vec F S1x7168 .f32) : FVec F S256x128 .f32 :=
  k2_pay63 (k2_pay224 x0 x1 x2 x3) -- `v328`
def k2_pay227 (x0 : Vec F S256x2304 .fp8e4m3) (x1 : Vec F S256x128 .f32) (x2 : Vec F S2304x7168 .fp8e4m3) (x3 : Vec F S1x7168 .f32) : FVec F S256x512 .f32 :=
  k2_pay66 (k2_pay215 x0 x1 x2 x3) (View.ld x0 r2_1) (View.ld x2 r2_42) (View.ld x3 r2_43) -- `v355`
def k2_pay228 (x0 : Vec F S256x2304 .fp8e4m3) (x1 : Vec F S256x128 .f32) (x2 : Vec F S2304x7168 .fp8e4m3) (x3 : Vec F S1x7168 .f32) : FVec F S256x1 .f32 :=
  k2_pay68 (k2_pay215 x0 x1 x2 x3) (View.ld x0 r2_1) (View.ld x2 r2_42) (View.ld x3 r2_43) -- `v365`
def k2_pay229 (x0 : Vec F S256x2304 .fp8e4m3) (x1 : Vec F S256x128 .f32) (x2 : Vec F S2304x7168 .fp8e4m3) (x3 : Vec F S1x7168 .f32) : IVec S256x1 1 :=
  k2_pay75 (k2_pay227 x0 x1 x2 x3) -- `v399`
def k2_pay230 (x0 : Vec F S256x2304 .fp8e4m3) (x1 : Vec F S256x128 .f32) (x2 : Vec F S2304x7168 .fp8e4m3) (x3 : Vec F S1x7168 .f32) : FVec F S256x1 .f32 :=
  k2_pay76 (k2_pay227 x0 x1 x2 x3) -- `v401`
def k2_pay231 (x0 : Vec F S256x2304 .fp8e4m3) (x1 : Vec F S256x128 .f32) (x2 : Vec F S2304x7168 .fp8e4m3) (x3 : Vec F S1x7168 .f32) : FVec F S256x512 .f32 :=
  k2_pay82 (View.ld x0 r2_1) (View.ld x2 r2_52) -- `v435`
def k2_pay232 (x0 : Vec F S256x2304 .fp8e4m3) (x1 : Vec F S256x128 .f32) (x2 : Vec F S2304x7168 .fp8e4m3) (x3 : Vec F S1x7168 .f32) : FVec F S256x512 .f32 :=
  k2_pay83 (k2_pay215 x0 x1 x2 x3) (k2_pay231 x0 x1 x2 x3) (View.ld x3 r2_53) -- `v441`
def k2_pay233 (x0 : Vec F S256x2304 .fp8e4m3) (x1 : Vec F S256x128 .f32) (x2 : Vec F S2304x7168 .fp8e4m3) (x3 : Vec F S1x7168 .f32) : FVec F S256x512 .f32 :=
  k2_pay98 (k2_pay215 x0 x1 x2 x3) (View.ld x0 r2_1) (View.ld x2 r2_62) (View.ld x3 r2_63) -- `v527`
def k2_pay234 (x0 : Vec F S256x2304 .fp8e4m3) (x1 : Vec F S256x128 .f32) (x2 : Vec F S2304x7168 .fp8e4m3) (x3 : Vec F S1x7168 .f32) : FVec F S256x128 .f32 :=
  k2_pay102 (k2_pay215 x0 x1 x2 x3) (View.ld x0 r2_1) (View.ld x2 r2_62) (View.ld x3 r2_63) -- `v547`
def k2_pay235 (x0 : Vec F S256x2304 .fp8e4m3) (x1 : Vec F S256x128 .f32) (x2 : Vec F S2304x7168 .fp8e4m3) (x3 : Vec F S1x7168 .f32) : FVec F S256x512 .f32 :=
  k2_pay111 (k2_pay215 x0 x1 x2 x3) (View.ld x0 r2_1) (View.ld x2 r2_72) (View.ld x3 r2_73) -- `v613`
def k2_pay236 (x0 : Vec F S256x2304 .fp8e4m3) (x1 : Vec F S256x128 .f32) (x2 : Vec F S2304x7168 .fp8e4m3) (x3 : Vec F S1x7168 .f32) : IVec S256x1 1 :=
  k2_pay114 (k2_pay215 x0 x1 x2 x3) (View.ld x0 r2_1) (View.ld x2 r2_72) (View.ld x3 r2_73) -- `v619`
def k2_pay237 (x0 : Vec F S256x2304 .fp8e4m3) (x1 : Vec F S256x128 .f32) (x2 : Vec F S2304x7168 .fp8e4m3) (x3 : Vec F S1x7168 .f32) : FVec F S256x1 .f32 :=
  k2_pay115 (k2_pay215 x0 x1 x2 x3) (View.ld x0 r2_1) (View.ld x2 r2_72) (View.ld x3 r2_73) -- `v621`
def k2_pay238 (x0 : Vec F S256x2304 .fp8e4m3) (x1 : Vec F S256x128 .f32) (x2 : Vec F S2304x7168 .fp8e4m3) (x3 : Vec F S1x7168 .f32) : FVec F S256x1 .f32 :=
  k2_pay122 (k2_pay235 x0 x1 x2 x3) -- `v655`
def k2_pay239 (x0 : Vec F S256x2304 .fp8e4m3) (x1 : Vec F S256x128 .f32) (x2 : Vec F S2304x7168 .fp8e4m3) (x3 : Vec F S1x7168 .f32) : IVec S256x1 1 :=
  k2_pay123 (k2_pay235 x0 x1 x2 x3) -- `v657`
def k2_pay240 (x0 : Vec F S256x2304 .fp8e4m3) (x1 : Vec F S256x128 .f32) (x2 : Vec F S2304x7168 .fp8e4m3) (x3 : Vec F S1x7168 .f32) : FVec F S256x2304 .fp8e4m3 :=
  k2_pay129 (View.ld x0 r2_1) -- `v691`
def k2_pay241 (x0 : Vec F S256x2304 .fp8e4m3) (x1 : Vec F S256x128 .f32) (x2 : Vec F S2304x7168 .fp8e4m3) (x3 : Vec F S1x7168 .f32) : FVec F S256x512 .f32 :=
  k2_pay130 (k2_pay215 x0 x1 x2 x3) (k2_pay240 x0 x1 x2 x3) (View.ld x2 r2_82) (View.ld x3 r2_83) -- `v699`
def k2_pay242 (x0 : Vec F S256x2304 .fp8e4m3) (x1 : Vec F S256x128 .f32) (x2 : Vec F S2304x7168 .fp8e4m3) (x3 : Vec F S1x7168 .f32) : FVec F S256x512 .f32 :=
  k2_pay146 (k2_pay215 x0 x1 x2 x3) (View.ld x0 r2_1) (View.ld x2 r2_92) (View.ld x3 r2_93) -- `v785`
def k2_pay243 (x0 : Vec F S256x2304 .fp8e4m3) (x1 : Vec F S256x128 .f32) (x2 : Vec F S2304x7168 .fp8e4m3) (x3 : Vec F S1x7168 .f32) : FVec F S256x512 .f32 :=
  k2_pay159 (k2_pay215 x0 x1 x2 x3) (View.ld x0 r2_1) (View.ld x2 r2_102) (View.ld x3 r2_103) -- `v871`
def k2_pay244 (x0 : Vec F S256x2304 .fp8e4m3) (x1 : Vec F S256x128 .f32) (x2 : Vec F S2304x7168 .fp8e4m3) (x3 : Vec F S1x7168 .f32) : FVec F S256x1 .f32 :=
  k2_pay161 (k2_pay215 x0 x1 x2 x3) (View.ld x0 r2_1) (View.ld x2 r2_102) (View.ld x3 r2_103) -- `v875`
def k2_pay245 (x0 : Vec F S256x2304 .fp8e4m3) (x1 : Vec F S256x128 .f32) (x2 : Vec F S2304x7168 .fp8e4m3) (x3 : Vec F S1x7168 .f32) : IVec S256x1 1 :=
  k2_pay162 (k2_pay215 x0 x1 x2 x3) (View.ld x0 r2_1) (View.ld x2 r2_102) (View.ld x3 r2_103) -- `v877`
def k2_pay246 (x0 : Vec F S256x2304 .fp8e4m3) (x1 : Vec F S256x128 .f32) (x2 : Vec F S2304x7168 .fp8e4m3) (x3 : Vec F S1x7168 .f32) : FVec F S256x1 .f32 :=
  k2_pay169 (k2_pay243 x0 x1 x2 x3) -- `v913`
def k2_pay247 (x0 : Vec F S256x2304 .fp8e4m3) (x1 : Vec F S256x128 .f32) (x2 : Vec F S2304x7168 .fp8e4m3) (x3 : Vec F S1x7168 .f32) : FVec F S256x2304 .fp8e4m3 :=
  k2_pay175 (View.ld x0 r2_1) -- `v949`
def k2_pay248 (x0 : Vec F S256x2304 .fp8e4m3) (x1 : Vec F S256x128 .f32) (x2 : Vec F S2304x7168 .fp8e4m3) (x3 : Vec F S1x7168 .f32) : FVec F S256x512 .f32 :=
  k2_pay176 (k2_pay215 x0 x1 x2 x3) (k2_pay247 x0 x1 x2 x3) (View.ld x2 r2_112) (View.ld x3 r2_113) -- `v957`
def k2_pay249 (x0 : Vec F S256x2304 .fp8e4m3) (x1 : Vec F S256x128 .f32) (x2 : Vec F S2304x7168 .fp8e4m3) (x3 : Vec F S1x7168 .f32) : FVec F S256x1 .f32 :=
  k2_pay188 (k2_pay248 x0 x1 x2 x3) -- `v1024`
def k2_pay250 (x0 : Vec F S256x2304 .fp8e4m3) (x1 : Vec F S256x128 .f32) (x2 : Vec F S2304x7168 .fp8e4m3) (x3 : Vec F S1x7168 .f32) : FVec F S256x512 .f32 :=
  k2_pay190 (k2_pay215 x0 x1 x2 x3) (View.ld x0 r2_1) (View.ld x2 r2_122) (View.ld x3 r2_123) -- `v1043`
def k2_pay251 (x0 : Vec F S256x2304 .fp8e4m3) (x1 : Vec F S256x128 .f32) (x2 : Vec F S2304x7168 .fp8e4m3) (x3 : Vec F S1x7168 .f32) : FVec F S256x512 .f32 :=
  k2_pay203 (k2_pay215 x0 x1 x2 x3) (View.ld x0 r2_1) (View.ld x2 r2_132) (View.ld x3 r2_133) -- `v1129`
def k2_pay252 (x0 : Vec F S256x2304 .fp8e4m3) (x1 : Vec F S256x128 .f32) (x2 : Vec F S2304x7168 .fp8e4m3) (x3 : Vec F S1x7168 .f32) : FVec F S256x1 .f32 :=
  k2_pay205 (k2_pay215 x0 x1 x2 x3) (View.ld x0 r2_1) (View.ld x2 r2_132) (View.ld x3 r2_133) -- `v1133`
def k2_pay253 (x0 : Vec F S256x2304 .fp8e4m3) (x1 : Vec F S256x128 .f32) (x2 : Vec F S2304x7168 .fp8e4m3) (x3 : Vec F S1x7168 .f32) : FVec F S256x128 .f32 :=
  k2_pay212 (k2_pay251 x0 x1 x2 x3) -- `v1169`

/-- Window 4's staging buffer after the body, from the input windows' blocks: its 56 stores as pieces, LAST
    FIRST (Lib/Pipeline/FrameBody.lean `View.canon`; the payloads are the skeleton's and the values stated above). -/
def out2_4 (x0 : Vec F S256x2304 .fp8e4m3) (x1 : Vec F S256x128 .f32) (x2 : Vec F S2304x7168 .fp8e4m3) (x3 : Vec F S1x7168 .f32) : Vec F S256x7168 .fp8e4m3 :=
  View.canon [⟨r2_140, k2_pay3 (k2_pay251 x0 x1 x2 x3)⟩,
    ⟨r2_138, k2_pay214 (k2_pay211 (k2_pay251 x0 x1 x2 x3)) (k2_pay253 x0 x1 x2 x3)⟩,
    ⟨r2_136, k2_pay210 (k2_pay251 x0 x1 x2 x3)⟩,
    ⟨r2_134, k2_pay207 (k2_pay204 (k2_pay215 x0 x1 x2 x3) (View.ld x0 r2_1) (View.ld x2 r2_132) (View.ld x3 r2_133)) (k2_pay252 x0 x1 x2 x3)⟩,
    ⟨r2_130, k2_pay202 (k2_pay250 x0 x1 x2 x3)⟩,
    ⟨r2_128, k2_pay199 (k2_pay250 x0 x1 x2 x3)⟩,
    ⟨r2_126, k2_pay196 (k2_pay250 x0 x1 x2 x3)⟩,
    ⟨r2_124, k2_pay193 (k2_pay215 x0 x1 x2 x3) (View.ld x0 r2_1) (View.ld x2 r2_122) (View.ld x3 r2_123)⟩,
    ⟨r2_120, k2_pay189 (k2_pay187 (k2_pay248 x0 x1 x2 x3)) (k2_pay249 x0 x1 x2 x3)⟩,
    ⟨r2_118, k2_pay186 (k2_pay248 x0 x1 x2 x3)⟩,
    ⟨r2_116, k2_pay183 (k2_pay182 (k2_pay215 x0 x1 x2 x3) (k2_pay247 x0 x1 x2 x3) (View.ld x2 r2_112) (View.ld x3 r2_113))⟩,
    ⟨r2_114, k2_pay179 (k2_pay215 x0 x1 x2 x3) (k2_pay247 x0 x1 x2 x3) (View.ld x2 r2_112) (View.ld x3 r2_113)⟩,
    ⟨r2_110, k2_pay174 (k2_pay243 x0 x1 x2 x3)⟩,
    ⟨r2_108, k2_pay171 (k2_pay168 (k2_pay243 x0 x1 x2 x3)) (k2_pay246 x0 x1 x2 x3) (Scalar.ofBits .f32 0x00000000#32)⟩,
    ⟨r2_106, k2_pay167 (k2_pay243 x0 x1 x2 x3)⟩,
    ⟨r2_104, k2_pay164 (k2_pay160 (k2_pay215 x0 x1 x2 x3) (View.ld x0 r2_1) (View.ld x2 r2_102) (View.ld x3 r2_103)) (k2_pay244 x0 x1 x2 x3) (k2_pay245 x0 x1 x2 x3)⟩,
    ⟨r2_100, k2_pay158 (k2_pay242 x0 x1 x2 x3)⟩,
    ⟨r2_98, k2_pay155 (k2_pay242 x0 x1 x2 x3)⟩,
    ⟨r2_96, k2_pay152 (k2_pay242 x0 x1 x2 x3)⟩,
    ⟨r2_94, k2_pay149 (k2_pay215 x0 x1 x2 x3) (View.ld x0 r2_1) (View.ld x2 r2_92) (View.ld x3 r2_93)⟩,
    ⟨r2_90, k2_pay145 (k2_pay144 (k2_pay241 x0 x1 x2 x3)) (Scalar.ofBits .f32 0xC3E00000#32)⟩,
    ⟨r2_88, k2_pay141 (k2_pay241 x0 x1 x2 x3)⟩,
    ⟨r2_86, k2_pay138 (k2_pay136 (k2_pay215 x0 x1 x2 x3) (k2_pay240 x0 x1 x2 x3) (View.ld x2 r2_82) (View.ld x3 r2_83)) (Scalar.ofBits .f32 0x43E00000#32) (k2_pay137 (F := F))⟩,
    ⟨r2_84, k2_pay133 (k2_pay215 x0 x1 x2 x3) (k2_pay240 x0 x1 x2 x3) (View.ld x2 r2_82) (View.ld x3 r2_83)⟩,
    ⟨r2_80, k2_pay128 (k2_pay235 x0 x1 x2 x3)⟩,
    ⟨r2_78, k2_pay125 (k2_pay121 (k2_pay235 x0 x1 x2 x3)) (k2_pay238 x0 x1 x2 x3) (k2_pay239 x0 x1 x2 x3) (Scalar.ofBits .f32 0x43E00000#32)⟩,
    ⟨r2_76, k2_pay120 (k2_pay235 x0 x1 x2 x3)⟩,
    ⟨r2_74, k2_pay117 (k2_pay112 (k2_pay215 x0 x1 x2 x3) (View.ld x0 r2_1) (View.ld x2 r2_72) (View.ld x3 r2_73)) (k2_pay236 x0 x1 x2 x3) (k2_pay237 x0 x1 x2 x3)⟩,
    ⟨r2_70, k2_pay110 (k2_pay233 x0 x1 x2 x3)⟩,
    ⟨r2_68, k2_pay107 (k2_pay233 x0 x1 x2 x3)⟩,
    ⟨r2_66, k2_pay104 (k2_pay234 x0 x1 x2 x3)⟩,
    ⟨r2_64, k2_pay101 (k2_pay215 x0 x1 x2 x3) (View.ld x0 r2_1) (View.ld x2 r2_62) (View.ld x3 r2_63)⟩,
    ⟨r2_60, k2_pay97 (Scalar.ofBits .f32 0x43E00000#32) (k2_pay96 (k2_pay232 x0 x1 x2 x3))⟩,
    ⟨r2_58, k2_pay93 (k2_pay232 x0 x1 x2 x3)⟩,
    ⟨r2_56, k2_pay90 (k2_pay89 (k2_pay215 x0 x1 x2 x3) (k2_pay231 x0 x1 x2 x3) (View.ld x3 r2_53))⟩,
    ⟨r2_54, k2_pay86 (k2_pay215 x0 x1 x2 x3) (k2_pay231 x0 x1 x2 x3) (View.ld x3 r2_53)⟩,
    ⟨r2_50, k2_pay81 (k2_pay227 x0 x1 x2 x3)⟩,
    ⟨r2_48, k2_pay78 (k2_pay73 (k2_pay227 x0 x1 x2 x3)) (k2_pay229 x0 x1 x2 x3) (k2_pay230 x0 x1 x2 x3) (Scalar.ofBits .f32 0x3F800000#32)⟩,
    ⟨r2_46, k2_pay72 (k2_pay227 x0 x1 x2 x3)⟩,
    ⟨r2_44, k2_pay69 (k2_pay67 (k2_pay215 x0 x1 x2 x3) (View.ld x0 r2_1) (View.ld x2 r2_42) (View.ld x3 r2_43)) (k2_pay228 x0 x1 x2 x3)⟩,
    ⟨r2_40, k2_pay65 (k2_pay62 (k2_pay224 x0 x1 x2 x3)) (k2_pay226 x0 x1 x2 x3)⟩,
    ⟨r2_38, k2_pay61 (k2_pay224 x0 x1 x2 x3)⟩,
    ⟨r2_36, k2_pay58 (k2_pay55 (k2_pay215 x0 x1 x2 x3) (View.ld x0 r2_1) (View.ld x2 r2_32) (View.ld x3 r2_33)) (k2_pay225 x0 x1 x2 x3)⟩,
    ⟨r2_34, k2_pay54 (k2_pay215 x0 x1 x2 x3) (View.ld x0 r2_1) (View.ld x2 r2_32) (View.ld x3 r2_33)⟩,
    ⟨r2_30, k2_pay50 (k2_pay223 x0 x1 x2 x3)⟩,
    ⟨r2_28, k2_pay47 (k2_pay223 x0 x1 x2 x3)⟩,
    ⟨r2_26, k2_pay44 (k2_pay215 x0 x1 x2 x3) (k2_pay221 x0 x1 x2 x3) (k2_pay222 x0 x1 x2 x3)⟩,
    ⟨r2_24, k2_pay41 (k2_pay215 x0 x1 x2 x3) (k2_pay221 x0 x1 x2 x3) (k2_pay222 x0 x1 x2 x3)⟩,
    ⟨r2_20, k2_pay35 (k2_pay220 x0 x1 x2 x3)⟩,
    ⟨r2_18, k2_pay32 (k2_pay29 (k2_pay220 x0 x1 x2 x3)) (k2_pay31 (k2_pay220 x0 x1 x2 x3))⟩,
    ⟨r2_16, k2_pay28 (k2_pay220 x0 x1 x2 x3)⟩,
    ⟨r2_14, k2_pay25 (k2_pay24 (k2_pay215 x0 x1 x2 x3) (View.ld x0 r2_1) (View.ld x2 r2_12) (View.ld x3 r2_13)) (Scalar.ofBits .f32 0xC3E00000#32)⟩,
    ⟨r2_10, k2_pay20 (k2_pay17 (k2_pay216 x0 x1 x2 x3)) (k2_pay219 x0 x1 x2 x3)⟩,
    ⟨r2_8, k2_pay16 (k2_pay216 x0 x1 x2 x3)⟩,
    ⟨r2_6, k2_pay13 (k2_pay9 (View.ld x1 r2_0) (View.ld x0 r2_1) (View.ld x2 r2_2) (View.ld x3 r2_3)) (k2_pay217 x0 x1 x2 x3) (k2_pay218 x0 x1 x2 x3)⟩,
    ⟨r2_4, k2_pay8 (View.ld x1 r2_0) (View.ld x0 r2_1) (View.ld x2 r2_2) (View.ld x3 r2_3)⟩]

/-- Its stores tile the buffer (checked by evaluation), so they cover it. -/
theorem cover2_4 (p0 : Vec F S256x128 .fp8e4m3) (p1 : Vec F S256x128 .fp8e4m3) (p2 : Vec F S256x128 .fp8e4m3) (p3 : Vec F S256x128 .fp8e4m3) (p4 : Vec F S256x128 .fp8e4m3) (p5 : Vec F S256x128 .fp8e4m3) (p6 : Vec F S256x128 .fp8e4m3) (p7 : Vec F S256x128 .fp8e4m3) (p8 : Vec F S256x128 .fp8e4m3) (p9 : Vec F S256x128 .fp8e4m3) (p10 : Vec F S256x128 .fp8e4m3) (p11 : Vec F S256x128 .fp8e4m3) (p12 : Vec F S256x128 .fp8e4m3) (p13 : Vec F S256x128 .fp8e4m3) (p14 : Vec F S256x128 .fp8e4m3) (p15 : Vec F S256x128 .fp8e4m3) (p16 : Vec F S256x128 .fp8e4m3) (p17 : Vec F S256x128 .fp8e4m3) (p18 : Vec F S256x128 .fp8e4m3) (p19 : Vec F S256x128 .fp8e4m3) (p20 : Vec F S256x128 .fp8e4m3) (p21 : Vec F S256x128 .fp8e4m3) (p22 : Vec F S256x128 .fp8e4m3) (p23 : Vec F S256x128 .fp8e4m3) (p24 : Vec F S256x128 .fp8e4m3) (p25 : Vec F S256x128 .fp8e4m3) (p26 : Vec F S256x128 .fp8e4m3) (p27 : Vec F S256x128 .fp8e4m3) (p28 : Vec F S256x128 .fp8e4m3) (p29 : Vec F S256x128 .fp8e4m3) (p30 : Vec F S256x128 .fp8e4m3) (p31 : Vec F S256x128 .fp8e4m3) (p32 : Vec F S256x128 .fp8e4m3) (p33 : Vec F S256x128 .fp8e4m3) (p34 : Vec F S256x128 .fp8e4m3) (p35 : Vec F S256x128 .fp8e4m3) (p36 : Vec F S256x128 .fp8e4m3) (p37 : Vec F S256x128 .fp8e4m3) (p38 : Vec F S256x128 .fp8e4m3) (p39 : Vec F S256x128 .fp8e4m3) (p40 : Vec F S256x128 .fp8e4m3) (p41 : Vec F S256x128 .fp8e4m3) (p42 : Vec F S256x128 .fp8e4m3) (p43 : Vec F S256x128 .fp8e4m3) (p44 : Vec F S256x128 .fp8e4m3) (p45 : Vec F S256x128 .fp8e4m3) (p46 : Vec F S256x128 .fp8e4m3) (p47 : Vec F S256x128 .fp8e4m3) (p48 : Vec F S256x128 .fp8e4m3) (p49 : Vec F S256x128 .fp8e4m3) (p50 : Vec F S256x128 .fp8e4m3) (p51 : Vec F S256x128 .fp8e4m3) (p52 : Vec F S256x128 .fp8e4m3) (p53 : Vec F S256x128 .fp8e4m3) (p54 : Vec F S256x128 .fp8e4m3) (p55 : Vec F S256x128 .fp8e4m3) (y : S256x7168.Idx) :
    ∃ pc ∈ ([⟨r2_140, p0⟩, ⟨r2_138, p1⟩, ⟨r2_136, p2⟩, ⟨r2_134, p3⟩, ⟨r2_130, p4⟩, ⟨r2_128, p5⟩, ⟨r2_126, p6⟩, ⟨r2_124, p7⟩, ⟨r2_120, p8⟩, ⟨r2_118, p9⟩, ⟨r2_116, p10⟩, ⟨r2_114, p11⟩, ⟨r2_110, p12⟩, ⟨r2_108, p13⟩, ⟨r2_106, p14⟩, ⟨r2_104, p15⟩, ⟨r2_100, p16⟩, ⟨r2_98, p17⟩, ⟨r2_96, p18⟩, ⟨r2_94, p19⟩, ⟨r2_90, p20⟩, ⟨r2_88, p21⟩, ⟨r2_86, p22⟩, ⟨r2_84, p23⟩, ⟨r2_80, p24⟩, ⟨r2_78, p25⟩, ⟨r2_76, p26⟩, ⟨r2_74, p27⟩, ⟨r2_70, p28⟩, ⟨r2_68, p29⟩, ⟨r2_66, p30⟩, ⟨r2_64, p31⟩, ⟨r2_60, p32⟩, ⟨r2_58, p33⟩, ⟨r2_56, p34⟩, ⟨r2_54, p35⟩, ⟨r2_50, p36⟩, ⟨r2_48, p37⟩, ⟨r2_46, p38⟩, ⟨r2_44, p39⟩, ⟨r2_40, p40⟩, ⟨r2_38, p41⟩, ⟨r2_36, p42⟩, ⟨r2_34, p43⟩, ⟨r2_30, p44⟩, ⟨r2_28, p45⟩, ⟨r2_26, p46⟩, ⟨r2_24, p47⟩, ⟨r2_20, p48⟩, ⟨r2_18, p49⟩, ⟨r2_16, p50⟩, ⟨r2_14, p51⟩, ⟨r2_10, p52⟩, ⟨r2_8, p53⟩, ⟨r2_6, p54⟩, ⟨r2_4, p55⟩] : List (View.Piece (Elt F) S256x7168 .fp8e4m3)), y ∈ pc.1.set :=
  View.cover_of_tiled [⟨r2_140, p0⟩, ⟨r2_138, p1⟩, ⟨r2_136, p2⟩, ⟨r2_134, p3⟩, ⟨r2_130, p4⟩, ⟨r2_128, p5⟩, ⟨r2_126, p6⟩, ⟨r2_124, p7⟩, ⟨r2_120, p8⟩, ⟨r2_118, p9⟩, ⟨r2_116, p10⟩, ⟨r2_114, p11⟩, ⟨r2_110, p12⟩, ⟨r2_108, p13⟩, ⟨r2_106, p14⟩, ⟨r2_104, p15⟩, ⟨r2_100, p16⟩, ⟨r2_98, p17⟩, ⟨r2_96, p18⟩, ⟨r2_94, p19⟩, ⟨r2_90, p20⟩, ⟨r2_88, p21⟩, ⟨r2_86, p22⟩, ⟨r2_84, p23⟩, ⟨r2_80, p24⟩, ⟨r2_78, p25⟩, ⟨r2_76, p26⟩, ⟨r2_74, p27⟩, ⟨r2_70, p28⟩, ⟨r2_68, p29⟩, ⟨r2_66, p30⟩, ⟨r2_64, p31⟩, ⟨r2_60, p32⟩, ⟨r2_58, p33⟩, ⟨r2_56, p34⟩, ⟨r2_54, p35⟩, ⟨r2_50, p36⟩, ⟨r2_48, p37⟩, ⟨r2_46, p38⟩, ⟨r2_44, p39⟩, ⟨r2_40, p40⟩, ⟨r2_38, p41⟩, ⟨r2_36, p42⟩, ⟨r2_34, p43⟩, ⟨r2_30, p44⟩, ⟨r2_28, p45⟩, ⟨r2_26, p46⟩, ⟨r2_24, p47⟩, ⟨r2_20, p48⟩, ⟨r2_18, p49⟩, ⟨r2_16, p50⟩, ⟨r2_14, p51⟩, ⟨r2_10, p52⟩, ⟨r2_8, p53⟩, ⟨r2_6, p54⟩, ⟨r2_4, p55⟩] S256x128.size (by rfl) y

/-- Window 5's staging buffer after the body, from the input windows' blocks: its 56 stores as pieces, LAST
    FIRST (Lib/Pipeline/FrameBody.lean `View.canon`; the payloads are the skeleton's and the values stated above). -/
def out2_5 (x0 : Vec F S256x2304 .fp8e4m3) (x1 : Vec F S256x128 .f32) (x2 : Vec F S2304x7168 .fp8e4m3) (x3 : Vec F S1x7168 .f32) : Vec F S256x56 .f32 :=
  View.canon [⟨r2_141, k2_pay2 (k2_pay251 x0 x1 x2 x3)⟩,
    ⟨r2_139, k2_pay213 (k2_pay253 x0 x1 x2 x3)⟩,
    ⟨r2_137, k2_pay209 (k2_pay251 x0 x1 x2 x3)⟩,
    ⟨r2_135, k2_pay206 (k2_pay252 x0 x1 x2 x3)⟩,
    ⟨r2_131, k2_pay201 (k2_pay250 x0 x1 x2 x3)⟩,
    ⟨r2_129, k2_pay198 (k2_pay250 x0 x1 x2 x3)⟩,
    ⟨r2_127, k2_pay195 (k2_pay250 x0 x1 x2 x3)⟩,
    ⟨r2_125, k2_pay192 (k2_pay215 x0 x1 x2 x3) (View.ld x0 r2_1) (View.ld x2 r2_122) (View.ld x3 r2_123)⟩,
    ⟨r2_121, k2_pay249 x0 x1 x2 x3⟩,
    ⟨r2_119, k2_pay185 (k2_pay248 x0 x1 x2 x3)⟩,
    ⟨r2_117, k2_pay181 (k2_pay215 x0 x1 x2 x3) (k2_pay247 x0 x1 x2 x3) (View.ld x2 r2_112) (View.ld x3 r2_113)⟩,
    ⟨r2_115, k2_pay178 (k2_pay215 x0 x1 x2 x3) (k2_pay247 x0 x1 x2 x3) (View.ld x2 r2_112) (View.ld x3 r2_113)⟩,
    ⟨r2_111, k2_pay173 (k2_pay243 x0 x1 x2 x3)⟩,
    ⟨r2_109, k2_pay170 (k2_pay246 x0 x1 x2 x3) (Scalar.ofBits .f32 0x00000000#32)⟩,
    ⟨r2_107, k2_pay166 (k2_pay243 x0 x1 x2 x3)⟩,
    ⟨r2_105, k2_pay163 (k2_pay244 x0 x1 x2 x3) (k2_pay245 x0 x1 x2 x3)⟩,
    ⟨r2_101, k2_pay157 (k2_pay242 x0 x1 x2 x3)⟩,
    ⟨r2_99, k2_pay154 (k2_pay242 x0 x1 x2 x3)⟩,
    ⟨r2_97, k2_pay151 (k2_pay242 x0 x1 x2 x3)⟩,
    ⟨r2_95, k2_pay148 (k2_pay215 x0 x1 x2 x3) (View.ld x0 r2_1) (View.ld x2 r2_92) (View.ld x3 r2_93)⟩,
    ⟨r2_91, k2_pay143 (k2_pay241 x0 x1 x2 x3)⟩,
    ⟨r2_89, k2_pay140 (k2_pay241 x0 x1 x2 x3)⟩,
    ⟨r2_87, k2_pay135 (k2_pay215 x0 x1 x2 x3) (k2_pay240 x0 x1 x2 x3) (View.ld x2 r2_82) (View.ld x3 r2_83)⟩,
    ⟨r2_85, k2_pay132 (k2_pay215 x0 x1 x2 x3) (k2_pay240 x0 x1 x2 x3) (View.ld x2 r2_82) (View.ld x3 r2_83)⟩,
    ⟨r2_81, k2_pay127 (k2_pay235 x0 x1 x2 x3)⟩,
    ⟨r2_79, k2_pay124 (k2_pay238 x0 x1 x2 x3) (k2_pay239 x0 x1 x2 x3) (Scalar.ofBits .f32 0x43E00000#32)⟩,
    ⟨r2_77, k2_pay119 (k2_pay235 x0 x1 x2 x3)⟩,
    ⟨r2_75, k2_pay116 (k2_pay236 x0 x1 x2 x3) (k2_pay237 x0 x1 x2 x3)⟩,
    ⟨r2_71, k2_pay109 (k2_pay233 x0 x1 x2 x3)⟩,
    ⟨r2_69, k2_pay106 (k2_pay233 x0 x1 x2 x3)⟩,
    ⟨r2_67, k2_pay103 (k2_pay234 x0 x1 x2 x3)⟩,
    ⟨r2_65, k2_pay100 (k2_pay215 x0 x1 x2 x3) (View.ld x0 r2_1) (View.ld x2 r2_62) (View.ld x3 r2_63)⟩,
    ⟨r2_61, k2_pay95 (k2_pay232 x0 x1 x2 x3)⟩,
    ⟨r2_59, k2_pay92 (k2_pay232 x0 x1 x2 x3)⟩,
    ⟨r2_57, k2_pay88 (k2_pay215 x0 x1 x2 x3) (k2_pay231 x0 x1 x2 x3) (View.ld x3 r2_53)⟩,
    ⟨r2_55, k2_pay85 (k2_pay215 x0 x1 x2 x3) (k2_pay231 x0 x1 x2 x3) (View.ld x3 r2_53)⟩,
    ⟨r2_51, k2_pay80 (k2_pay227 x0 x1 x2 x3)⟩,
    ⟨r2_49, k2_pay77 (k2_pay229 x0 x1 x2 x3) (k2_pay230 x0 x1 x2 x3) (Scalar.ofBits .f32 0x3F800000#32)⟩,
    ⟨r2_47, k2_pay71 (k2_pay227 x0 x1 x2 x3)⟩,
    ⟨r2_45, k2_pay228 x0 x1 x2 x3⟩,
    ⟨r2_41, k2_pay64 (k2_pay226 x0 x1 x2 x3)⟩,
    ⟨r2_39, k2_pay60 (k2_pay224 x0 x1 x2 x3)⟩,
    ⟨r2_37, k2_pay57 (k2_pay225 x0 x1 x2 x3)⟩,
    ⟨r2_35, k2_pay53 (k2_pay215 x0 x1 x2 x3) (View.ld x0 r2_1) (View.ld x2 r2_32) (View.ld x3 r2_33)⟩,
    ⟨r2_31, k2_pay49 (k2_pay223 x0 x1 x2 x3)⟩,
    ⟨r2_29, k2_pay46 (k2_pay223 x0 x1 x2 x3)⟩,
    ⟨r2_27, k2_pay43 (k2_pay215 x0 x1 x2 x3) (k2_pay221 x0 x1 x2 x3) (k2_pay222 x0 x1 x2 x3)⟩,
    ⟨r2_25, k2_pay40 (k2_pay215 x0 x1 x2 x3) (k2_pay221 x0 x1 x2 x3) (k2_pay222 x0 x1 x2 x3)⟩,
    ⟨r2_21, k2_pay34 (k2_pay220 x0 x1 x2 x3)⟩,
    ⟨r2_19, k2_pay30 (k2_pay220 x0 x1 x2 x3)⟩,
    ⟨r2_17, k2_pay27 (k2_pay220 x0 x1 x2 x3)⟩,
    ⟨r2_15, k2_pay23 (k2_pay215 x0 x1 x2 x3) (View.ld x0 r2_1) (View.ld x2 r2_12) (View.ld x3 r2_13)⟩,
    ⟨r2_11, k2_pay19 (k2_pay219 x0 x1 x2 x3)⟩,
    ⟨r2_9, k2_pay15 (k2_pay216 x0 x1 x2 x3)⟩,
    ⟨r2_7, k2_pay12 (k2_pay217 x0 x1 x2 x3) (k2_pay218 x0 x1 x2 x3)⟩,
    ⟨r2_5, k2_pay7 (View.ld x1 r2_0) (View.ld x0 r2_1) (View.ld x2 r2_2) (View.ld x3 r2_3)⟩]

/-- Its stores tile the buffer (checked by evaluation), so they cover it. -/
theorem cover2_5 (p0 : Vec F S256x1 .f32) (p1 : Vec F S256x1 .f32) (p2 : Vec F S256x1 .f32) (p3 : Vec F S256x1 .f32) (p4 : Vec F S256x1 .f32) (p5 : Vec F S256x1 .f32) (p6 : Vec F S256x1 .f32) (p7 : Vec F S256x1 .f32) (p8 : Vec F S256x1 .f32) (p9 : Vec F S256x1 .f32) (p10 : Vec F S256x1 .f32) (p11 : Vec F S256x1 .f32) (p12 : Vec F S256x1 .f32) (p13 : Vec F S256x1 .f32) (p14 : Vec F S256x1 .f32) (p15 : Vec F S256x1 .f32) (p16 : Vec F S256x1 .f32) (p17 : Vec F S256x1 .f32) (p18 : Vec F S256x1 .f32) (p19 : Vec F S256x1 .f32) (p20 : Vec F S256x1 .f32) (p21 : Vec F S256x1 .f32) (p22 : Vec F S256x1 .f32) (p23 : Vec F S256x1 .f32) (p24 : Vec F S256x1 .f32) (p25 : Vec F S256x1 .f32) (p26 : Vec F S256x1 .f32) (p27 : Vec F S256x1 .f32) (p28 : Vec F S256x1 .f32) (p29 : Vec F S256x1 .f32) (p30 : Vec F S256x1 .f32) (p31 : Vec F S256x1 .f32) (p32 : Vec F S256x1 .f32) (p33 : Vec F S256x1 .f32) (p34 : Vec F S256x1 .f32) (p35 : Vec F S256x1 .f32) (p36 : Vec F S256x1 .f32) (p37 : Vec F S256x1 .f32) (p38 : Vec F S256x1 .f32) (p39 : Vec F S256x1 .f32) (p40 : Vec F S256x1 .f32) (p41 : Vec F S256x1 .f32) (p42 : Vec F S256x1 .f32) (p43 : Vec F S256x1 .f32) (p44 : Vec F S256x1 .f32) (p45 : Vec F S256x1 .f32) (p46 : Vec F S256x1 .f32) (p47 : Vec F S256x1 .f32) (p48 : Vec F S256x1 .f32) (p49 : Vec F S256x1 .f32) (p50 : Vec F S256x1 .f32) (p51 : Vec F S256x1 .f32) (p52 : Vec F S256x1 .f32) (p53 : Vec F S256x1 .f32) (p54 : Vec F S256x1 .f32) (p55 : Vec F S256x1 .f32) (y : S256x56.Idx) :
    ∃ pc ∈ ([⟨r2_141, p0⟩, ⟨r2_139, p1⟩, ⟨r2_137, p2⟩, ⟨r2_135, p3⟩, ⟨r2_131, p4⟩, ⟨r2_129, p5⟩, ⟨r2_127, p6⟩, ⟨r2_125, p7⟩, ⟨r2_121, p8⟩, ⟨r2_119, p9⟩, ⟨r2_117, p10⟩, ⟨r2_115, p11⟩, ⟨r2_111, p12⟩, ⟨r2_109, p13⟩, ⟨r2_107, p14⟩, ⟨r2_105, p15⟩, ⟨r2_101, p16⟩, ⟨r2_99, p17⟩, ⟨r2_97, p18⟩, ⟨r2_95, p19⟩, ⟨r2_91, p20⟩, ⟨r2_89, p21⟩, ⟨r2_87, p22⟩, ⟨r2_85, p23⟩, ⟨r2_81, p24⟩, ⟨r2_79, p25⟩, ⟨r2_77, p26⟩, ⟨r2_75, p27⟩, ⟨r2_71, p28⟩, ⟨r2_69, p29⟩, ⟨r2_67, p30⟩, ⟨r2_65, p31⟩, ⟨r2_61, p32⟩, ⟨r2_59, p33⟩, ⟨r2_57, p34⟩, ⟨r2_55, p35⟩, ⟨r2_51, p36⟩, ⟨r2_49, p37⟩, ⟨r2_47, p38⟩, ⟨r2_45, p39⟩, ⟨r2_41, p40⟩, ⟨r2_39, p41⟩, ⟨r2_37, p42⟩, ⟨r2_35, p43⟩, ⟨r2_31, p44⟩, ⟨r2_29, p45⟩, ⟨r2_27, p46⟩, ⟨r2_25, p47⟩, ⟨r2_21, p48⟩, ⟨r2_19, p49⟩, ⟨r2_17, p50⟩, ⟨r2_15, p51⟩, ⟨r2_11, p52⟩, ⟨r2_9, p53⟩, ⟨r2_7, p54⟩, ⟨r2_5, p55⟩] : List (View.Piece (Elt F) S256x56 .f32)), y ∈ pc.1.set :=
  View.cover_of_tiled [⟨r2_141, p0⟩, ⟨r2_139, p1⟩, ⟨r2_137, p2⟩, ⟨r2_135, p3⟩, ⟨r2_131, p4⟩, ⟨r2_129, p5⟩, ⟨r2_127, p6⟩, ⟨r2_125, p7⟩, ⟨r2_121, p8⟩, ⟨r2_119, p9⟩, ⟨r2_117, p10⟩, ⟨r2_115, p11⟩, ⟨r2_111, p12⟩, ⟨r2_109, p13⟩, ⟨r2_107, p14⟩, ⟨r2_105, p15⟩, ⟨r2_101, p16⟩, ⟨r2_99, p17⟩, ⟨r2_97, p18⟩, ⟨r2_95, p19⟩, ⟨r2_91, p20⟩, ⟨r2_89, p21⟩, ⟨r2_87, p22⟩, ⟨r2_85, p23⟩, ⟨r2_81, p24⟩, ⟨r2_79, p25⟩, ⟨r2_77, p26⟩, ⟨r2_75, p27⟩, ⟨r2_71, p28⟩, ⟨r2_69, p29⟩, ⟨r2_67, p30⟩, ⟨r2_65, p31⟩, ⟨r2_61, p32⟩, ⟨r2_59, p33⟩, ⟨r2_57, p34⟩, ⟨r2_55, p35⟩, ⟨r2_51, p36⟩, ⟨r2_49, p37⟩, ⟨r2_47, p38⟩, ⟨r2_45, p39⟩, ⟨r2_41, p40⟩, ⟨r2_39, p41⟩, ⟨r2_37, p42⟩, ⟨r2_35, p43⟩, ⟨r2_31, p44⟩, ⟨r2_29, p45⟩, ⟨r2_27, p46⟩, ⟨r2_25, p47⟩, ⟨r2_21, p48⟩, ⟨r2_19, p49⟩, ⟨r2_17, p50⟩, ⟨r2_15, p51⟩, ⟨r2_11, p52⟩, ⟨r2_9, p53⟩, ⟨r2_7, p54⟩, ⟨r2_5, p55⟩] S256x1.size (by rfl) y

/-! ## The body's triple -/

set_option maxHeartbeats 1592000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x2304 .fp8e4m3) (harg1 : arg1.IsWhole) (arg2 : Memref sig .tc .vmem S256x128 .f32) (harg2 : arg2.IsWhole) (arg3 : Memref sig .tc .vmem S2304x7168 .fp8e4m3) (harg3 : arg3.IsWhole) (arg4 : Memref sig .tc .vmem S1x7168 .f32) (harg4 : arg4.IsWhole) (arg5 : Memref sig .tc .vmem S256x7168 .fp8e4m3) (harg5 : arg5.IsWhole) (arg6 : Memref sig .tc .vmem S256x56 .f32) (harg6 : arg6.IsWhole)
    (x0 : Vec F S256x2304 .fp8e4m3) (x1 : Vec F S256x128 .f32) (x2 : Vec F S2304x7168 .fp8e4m3) (x3 : Vec F S1x7168 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2_down i arg1 harg1 arg2 harg2 arg3 harg3 arg4 harg4 arg5 harg5 arg6 harg6) K := by
  simp only [cc2_down_eq_skeleton]; unfold cc2_down_skel
  simp only [k2_part33_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover2_4 _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H5
  ipureintro
  refine (View.read_writes_eq_canon _ _ _ (cover2_5 _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.KI.Run.lean ====
/- The whole kernel: its three pallas_calls among the host operations, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KI.R0
public import proofs.«01_k».proof.Proof.KI.R1
public import proofs.«01_k».proof.Proof.KI.R2

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v11, main_v12, main_v13, main_v14, main_v15, main_v16, main_v17, main_v18, main_v19, main_v20, main_v21, main_v22]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h => h.1) (frame m ρ)

end Cert.KernelIdeal.Whole

end
-- ==== Proof.V.List0.lean ====
/- The first pallas_call's stores as lists built group by group: what the run's pieces are, said once for any group. -/
module

public import proofs.«01_k».proof.Proof.KI.R0

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loads and the vector operations of one group of 128 columns -/

theorem inbC (r : Fin 8) (g : Fin 56) : ∀ a, (![r.val, 0, 128 * g.val] : Fin 3 → Nat) a + S1x32x128.size a ≤ S8x32x7168.size a := by
  intro a; have := r.isLt; have := g.isLt; fin_cases a <;> simp <;> omega
theorem inbP (r : Fin 8) (g : Fin 56) : ∀ a, (![r.val, 0, g.val] : Fin 3 → Nat) a + S1x32x1.size a ≤ S8x32x56.size a := by
  intro a; have := r.isLt; have := g.isLt; fin_cases a <;> simp <;> omega
theorem inbW (g : Fin 56) : ∀ a, (![0, 128 * g.val] : Fin 2 → Nat) a + S1x128.size a ≤ S1x7168.size a := by
  intro a; have := g.isLt; fin_cases a <;> simp <;> omega
theorem inbG (g : Fin 56) : ∀ a, (![0, 128 * g.val] : Fin 2 → Nat) a + S32x128.size a ≤ S32x7168.size a := by
  intro a; have := g.isLt; fin_cases a <;> simp <;> omega

/-- The columns of group `g` in a block of 32 rows. -/
abbrev rectG (g : Fin 56) : Rect S32x7168 := Rect.unit ![0, 128 * g.val] S32x128.size (inbG g)

/-- One sender's contribution to a group: its codes times its scale. -/
def term (a : Vec F S1x32x128 .fp8e4m3) (s : Vec F S1x32x1 .f32) : FVec F S32x128 .f32 :=
  mulf (extf .f32 (shapeCast S32x128 a shapeCasts_S1x32x128_S32x128) bitsLt_fp8e4m3_f32)
    (broadcastTo S32x128 (shapeCast S32x1 s shapeCasts_S1x32x1_S32x1) broadcasts_S32x1_S32x128)

/-- A row's reciprocal root mean square, from its sums of squares in 128 lanes. -/
def rinvOf (ss : FVec F S32x128 .f32) : FVec F S32x1 .f32 :=
  divf (broadcast S32x1 (Scalar.ofBits .f32 0x3F800000#32))
    (sqrt (addf (divf (shapeCast S32x1 (multiReduction .add [1] S32 ss 0x00000000#32 reduces_S32x128_S32 (.inl rfl) rfl) shapeCasts_S32_S32x1)
      (broadcast S32x1 (Scalar.ofBits .f32 0x45E00000#32))) (broadcast S32x1 (Scalar.ofBits .f32 0x3727C5AC#32))))

/-- A column of 32 values spread over 128 lanes. -/
def lanes (v : FVec F S32x1 .f32) : FVec F S32x128 .f32 :=
  broadcastTo S32x128 (shapeCast S32x1 v shapeCasts_S32x1_S32x1) broadcasts_S32x1_S32x128

/-- A row of weights spread over 32 rows. -/
def rowsW (w : Vec F S1x128 .f32) : FVec F S32x128 .f32 :=
  broadcastTo S32x128 (shapeCast S1x128 w shapeCasts_S1x128_S1x128) broadcasts_S1x128_S32x128

/-- The scale of a row from its lanes' greatest magnitudes and its reciprocal root mean square. -/
def scaleV (am : FVec F S32x128 .f32) (ri : FVec F S32x1 .f32) : FVec F S32x1 .f32 :=
  have v : FVec F S32x1 .f32 := mulf (shapeCast S32x1 (multiReduction .maximumf [1] S32 am 0xFF800000#32 reduces_S32x128_S32 (.inl rfl) rfl) shapeCasts_S32_S32x1) ri
  select (cmpf .oeq v (broadcast S32x1 (Scalar.ofBits .f32 0x00000000#32))) (broadcast S32x1 (Scalar.ofBits .f32 0x3F800000#32))
    (divf v (broadcast S32x1 (Scalar.ofBits .f32 0x43E00000#32)))

/-- A group's codes from its values and the factor of each row. -/
def codesV (y q : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf y q))) bitsLt_fp8e4m3_f32

section Lists
variable (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg7 arg10 : Memref sig .tc .vmem S32x7168 .f32)
  (x0 : Vec F S32x7168 .bf16) (x1 : Vec F S8x32x7168 .fp8e4m3) (x2 : Vec F S8x32x56 .f32) (x3 x4 : Vec F S1x7168 .f32)

def ldC (r : Fin 8) (g : Fin 56) : Vec F S1x32x128 .fp8e4m3 := View.readAt (Elt F) arg2.view (Rect.unit (s := S8x32x7168) ![r.val, 0, 128 * g.val] S1x32x128.size (inbC r g)).toLoadRect (harg2.unread x1)
def ldP (r : Fin 8) (g : Fin 56) : Vec F S1x32x1 .f32 := View.readAt (Elt F) arg3.view (Rect.unit (s := S8x32x56) ![r.val, 0, g.val] S1x32x1.size (inbP r g)).toLoadRect (harg3.unread x2)
def ldNw (g : Fin 56) : Vec F S1x128 .f32 := View.readAt (Elt F) arg4.view (Rect.unit (s := S1x7168) ![0, 128 * g.val] S1x128.size (inbW g)).toLoadRect (harg4.unread x3)
def ldPw (g : Fin 56) : Vec F S1x128 .f32 := View.readAt (Elt F) arg5.view (Rect.unit (s := S1x7168) ![0, 128 * g.val] S1x128.size (inbW g)).toLoadRect (harg5.unread x4)
def ldX (g : Fin 56) : Vec F S32x128 .bf16 := View.readAt (Elt F) arg1.view (rectG g).toLoadRect (harg1.unread x0)

/-- The sum of the eight senders' contributions to group `g`. -/
def sG (g : Fin 56) : FVec F S32x128 .f32 :=
  addf (addf (addf (addf (addf (addf (addf (term (ldC arg2 harg2 x1 0 g) (ldP arg3 harg3 x2 0 g)) (term (ldC arg2 harg2 x1 1 g) (ldP arg3 harg3 x2 1 g)))
    (term (ldC arg2 harg2 x1 2 g) (ldP arg3 harg3 x2 2 g))) (term (ldC arg2 harg2 x1 3 g) (ldP arg3 harg3 x2 3 g)))
    (term (ldC arg2 harg2 x1 4 g) (ldP arg3 harg3 x2 4 g))) (term (ldC arg2 harg2 x1 5 g) (ldP arg3 harg3 x2 5 g)))
    (term (ldC arg2 harg2 x1 6 g) (ldP arg3 harg3 x2 6 g))) (term (ldC arg2 harg2 x1 7 g) (ldP arg3 harg3 x2 7 g))

/-- The first sweep's stores after `k` groups, last first: the sums. -/
def L1 : (k : Nat) → k ≤ 56 → List (View.Piece (Elt F) S32x7168 .f32)
  | 0, _ => []
  | k + 1, h => ⟨rectG ⟨k, h⟩, sG arg2 harg2 arg3 harg3 x1 x2 ⟨k, h⟩⟩ :: L1 k (Nat.le_of_succ_le h)

/-- The lanes' sums of squares after `k` groups. -/
def ssK : (k : Nat) → k ≤ 56 → FVec F S32x128 .f32
  | 0, _ => broadcast S32x128 (Scalar.ofBits .f32 0x00000000#32)
  | k + 1, h => addf (ssK k (Nat.le_of_succ_le h)) (mulf (sG arg2 harg2 arg3 harg3 x1 x2 ⟨k, h⟩) (sG arg2 harg2 arg3 harg3 x1 x2 ⟨k, h⟩))

/-- The second sweep's value of `s_n` in group `g`, from the sums it reads back. -/
def snG (v : Vec F S32x128 .f32) (g : Fin 56) : FVec F S32x128 .f32 :=
  mulf (mulf (shapeCast S32x128 v shapeCasts_S32x128_S32x128) (lanes (rinvOf (ssK arg2 harg2 arg3 harg3 x1 x2 56 le_rfl)))) (rowsW (ldPw arg5 harg5 x4 g))

/-- The stores to `s_n` after the first sweep and `k` groups of the second, last first. -/
def L2 : (k : Nat) → k ≤ 56 → List (View.Piece (Elt F) S32x7168 .f32)
  | 0, _ => L1 arg2 harg2 arg3 harg3 x1 x2 56 le_rfl
  | k + 1, h => ⟨rectG ⟨k, h⟩, snG arg2 harg2 arg3 harg3 arg5 harg5 x1 x2 x4 (arg7.view.readCov (L2 k (Nat.le_of_succ_le h)) (rectG ⟨k, h⟩).toLoadRect) ⟨k, h⟩⟩
      :: L2 k (Nat.le_of_succ_le h)

/-- The residual in group `k`. -/
def hG (k : Nat) (h : k < 56) : FVec F S32x128 .f32 :=
  addf (extf .f32 (shapeCast S32x128 (ldX arg1 harg1 x0 ⟨k, h⟩) shapeCasts_S32x128_S32x128) bitsLt_bf16_f32)
    (snG arg2 harg2 arg3 harg3 arg5 harg5 x1 x2 x4 (arg7.view.readCov (L2 arg2 harg2 arg3 harg3 arg5 harg5 arg7 x1 x2 x4 k h.le) (rectG ⟨k, h⟩).toLoadRect) ⟨k, h⟩)

/-- The stores to the residual after `k` groups, last first. -/
def LR : (k : Nat) → k ≤ 56 → List (View.Piece (Elt F) S32x7168 .bf16)
  | 0, _ => []
  | k + 1, h => ⟨rectG ⟨k, h⟩, truncf .bf16 (hG arg1 harg1 arg2 harg2 arg3 harg3 arg5 harg5 arg7 x0 x1 x2 x4 k h) bitsLt_bf16_f32⟩
      :: LR k (Nat.le_of_succ_le h)

/-- The residual's sums of squares in the lanes after `k` groups. -/
def hhK : (k : Nat) → k ≤ 56 → FVec F S32x128 .f32
  | 0, _ => broadcast S32x128 (Scalar.ofBits .f32 0x00000000#32)
  | k + 1, h => addf (hhK k (Nat.le_of_succ_le h)) (mulf (hG arg1 harg1 arg2 harg2 arg3 harg3 arg5 harg5 arg7 x0 x1 x2 x4 k h)
      (hG arg1 harg1 arg2 harg2 arg3 harg3 arg5 harg5 arg7 x0 x1 x2 x4 k h))

/-- The weighted residual in group `k`, before the division by its root mean square. -/
def yG (k : Nat) (h : k < 56) : FVec F S32x128 .f32 :=
  mulf (hG arg1 harg1 arg2 harg2 arg3 harg3 arg5 harg5 arg7 x0 x1 x2 x4 k h) (rowsW (ldNw arg4 harg4 x3 ⟨k, h⟩))

/-- The stores to the scratch after `k` groups, last first. -/
def LY : (k : Nat) → k ≤ 56 → List (View.Piece (Elt F) S32x7168 .f32)
  | 0, _ => []
  | k + 1, h => ⟨rectG ⟨k, h⟩, shapeCast S32x128 (yG arg1 harg1 arg2 harg2 arg3 harg3 arg4 harg4 arg5 harg5 arg7 x0 x1 x2 x3 x4 k h) shapeCasts_S32x128_S32x128⟩
      :: LY k (Nat.le_of_succ_le h)

/-- The lanes' greatest magnitudes after `k` groups. -/
def amK : (k : Nat) → k ≤ 56 → FVec F S32x128 .f32
  | 0, _ => broadcast S32x128 (Scalar.ofBits .f32 0x00000000#32)
  | k + 1, h => maximumf (amK k (Nat.le_of_succ_le h)) (absf (yG arg1 harg1 arg2 harg2 arg3 harg3 arg4 harg4 arg5 harg5 arg7 x0 x1 x2 x3 x4 k h))

/-- The residual's reciprocal root mean square. -/
def rinv2 : FVec F S32x1 .f32 := rinvOf (hhK arg1 harg1 arg2 harg2 arg3 harg3 arg5 harg5 arg7 x0 x1 x2 x4 56 le_rfl)
/-- The rows' scales. -/
def scaleR : FVec F S32x1 .f32 :=
  scaleV (amK arg1 harg1 arg2 harg2 arg3 harg3 arg4 harg4 arg5 harg5 arg7 x0 x1 x2 x3 x4 56 le_rfl) (rinv2 arg1 harg1 arg2 harg2 arg3 harg3 arg5 harg5 arg7 x0 x1 x2 x4)

/-- The stores to the codes after `k` groups, last first. -/
def LC : (k : Nat) → k ≤ 56 → List (View.Piece (Elt F) S32x7168 .fp8e4m3)
  | 0, _ => []
  | k + 1, h => ⟨rectG ⟨k, h⟩, codesV (arg10.view.readCov (LY arg1 harg1 arg2 harg2 arg3 harg3 arg4 harg4 arg5 harg5 arg7 x0 x1 x2 x3 x4 56 le_rfl) (rectG ⟨k, h⟩).toLoadRect)
        (lanes (divf (rinv2 arg1 harg1 arg2 harg2 arg3 harg3 arg5 harg5 arg7 x0 x1 x2 x4) (scaleR arg1 harg1 arg2 harg2 arg3 harg3 arg4 harg4 arg5 harg5 arg7 x0 x1 x2 x3 x4)))⟩
      :: LC k (Nat.le_of_succ_le h)
end Lists

/-! ## The run's pieces are these lists -/

theorem pieces6 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32)  :
    (kernelRun0_A c i arg1 harg1 arg2 harg2 arg3 harg3 arg4 harg4 arg5 harg5 arg6 harg6 arg7 harg7 arg8 harg8 arg9 harg9 arg10 harg10 x0 x1 x2 x3 x4).2.1 = L2 arg2 harg2 arg3 harg3 arg5 harg5 arg7 x1 x2 x4 56 le_rfl := by
  sl_kernel_rfl
theorem pieces5 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32)  :
    (kernelRun0_A c i arg1 harg1 arg2 harg2 arg3 harg3 arg4 harg4 arg5 harg5 arg6 harg6 arg7 harg7 arg8 harg8 arg9 harg9 arg10 harg10 x0 x1 x2 x3 x4).1 = LR arg1 harg1 arg2 harg2 arg3 harg3 arg5 harg5 arg7 x0 x1 x2 x4 56 le_rfl := by
  sl_kernel_rfl
theorem pieces8 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32)  :
    (kernelRun0_A c i arg1 harg1 arg2 harg2 arg3 harg3 arg4 harg4 arg5 harg5 arg6 harg6 arg7 harg7 arg8 harg8 arg9 harg9 arg10 harg10 x0 x1 x2 x3 x4).2.2.2.1 = [⟨Rect.unit ![0, 0] S32x128.size inb_S32x128_S32x128_0_0, lanes (scaleR arg1 harg1 arg2 harg2 arg3 harg3 arg4 harg4 arg5 harg5 arg7 x0 x1 x2 x3 x4)⟩] := by
  sl_kernel_rfl
theorem pieces7 (c : Dev nD) (i : grid0.Coords) (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S32x7168 .bf16) (harg6 : arg6.IsWhole) (arg7 : Memref sig .tc .vmem S32x7168 .f32) (harg7 : arg7.IsWhole) (arg8 : Memref sig .tc .vmem S32x7168 .fp8e4m3) (harg8 : arg8.IsWhole) (arg9 : Memref sig .tc .vmem S32x128 .f32) (harg9 : arg9.IsWhole) (arg10 : Memref sig .tc .vmem S32x7168 .f32) (harg10 : arg10.IsWhole)
    (x0 : Vec F S32x7168 .bf16) (x1 : Vec F S8x32x7168 .fp8e4m3) (x2 : Vec F S8x32x56 .f32) (x3 : Vec F S1x7168 .f32) (x4 : Vec F S1x7168 .f32)  :
    (kernelRun0_A c i arg1 harg1 arg2 harg2 arg3 harg3 arg4 harg4 arg5 harg5 arg6 harg6 arg7 harg7 arg8 harg8 arg9 harg9 arg10 harg10 x0 x1 x2 x3 x4).2.2.1 = LC arg1 harg1 arg2 harg2 arg3 harg3 arg4 harg4 arg5 harg5 arg7 arg10 x0 x1 x2 x3 x4 56 le_rfl := by
  sl_kernel_rfl

end Cert.KernelIdeal.Whole

end
-- ==== Proof.V.Spec.lean ====
/- The problem's mathematics over the extended reals, row by row, and the laws by which the kernel's order of
   operations and the problem's agree. -/
module

public import Idealize.ShloMosaic.PureOps.Ideal

@[expose] public section

noncomputable section

namespace Cert.Spec

open Idealize.ShloMosaic

/-! ## Columns and groups -/

/-- Column `l` of group `g`. -/
def col (g : Fin 56) (l : Fin 128) : Fin 7168 := ⟨128 * g.val + l.val, by omega⟩
/-- The group of a column, and its place there. -/
def grp (j : Fin 7168) : Fin 56 := ⟨j.val / 128, by omega⟩
def lane (j : Fin 7168) : Fin 128 := ⟨j.val % 128, by omega⟩

theorem col_grp (j : Fin 7168) : col (grp j) (lane j) = j := Fin.ext (Nat.div_add_mod j.val 128)
theorem grp_col (g : Fin 56) (l : Fin 128) : grp (col g l) = g := Fin.ext (by show (128 * g.val + l.val) / 128 = g.val; omega)
theorem lane_col (g : Fin 56) (l : Fin 128) : lane (col g l) = l := Fin.ext (by show (128 * g.val + l.val) % 128 = l.val; omega)

/-- A sum over the columns is the sum over lanes of the sums over groups. -/
theorem sum_lanes (f : Fin 7168 → EReal) : ∑ l : Fin 128, ∑ g : Fin 56, f (col g l) = ∑ j, f j := by
  rw [Finset.sum_comm, ← Finset.sum_product', Finset.univ_product_univ]
  exact Fintype.sum_bijective (fun q : Fin 56 × Fin 128 => col q.1 q.2)
    ⟨fun a b h => Prod.ext (by simpa [grp_col] using congrArg grp h) (by simpa [lane_col] using congrArg lane h),
      fun j => ⟨(grp j, lane j), col_grp j⟩⟩ _ _ fun _ => rfl

/-! ## Magnitudes and their maxima -/

def absE (x : EReal) : EReal := max x (-x)

theorem absE_nonneg (x : EReal) : 0 ≤ absE x := by
  rcases le_total 0 x with h | h
  · exact le_max_of_le_left h
  · exact le_max_of_le_right (EReal.neg_nonneg.mpr h)

/-- The pattern the maxima start from. -/
def lo : EReal := Ideal.ofBits .f32 0xFF800000#32
theorem lo_eq : lo = ⊥ := by simp [lo, Ideal.ofBits, Ideal.ieee]

/-- The greatest of finitely many values. -/
def top {n : Nat} (f : Fin n → EReal) : EReal := Finset.univ.fold max lo f

theorem top_le {n : Nat} {f : Fin n → EReal} {b : EReal} : top f ≤ b ↔ ∀ j, f j ≤ b := by
  rw [top, Finset.fold_max_le, lo_eq]; simp
theorem le_top {n : Nat} (f : Fin n → EReal) (j : Fin n) : f j ≤ top f := top_le.mp le_rfl j

/-- The greatest magnitude of a row. -/
def amax {n : Nat} (v : Fin n → EReal) : EReal := top fun j => absE (v j)

theorem amax_nonneg {n : Nat} (v : Fin (n + 1) → EReal) : 0 ≤ amax v := (absE_nonneg (v 0)).trans (le_top (fun j => absE (v j)) 0)

/-- A nonnegative factor comes out of a maximum. -/
theorem top_mul {n : Nat} (f : Fin (n + 1) → EReal) {r : EReal} (hr : 0 ≤ r) : (top fun j => f j * r) = top f * r := by
  apply le_antisymm
  · exact top_le.mpr fun j => mul_le_mul_of_nonneg_right (le_top f j) hr
  · obtain ⟨j, -, hj⟩ := Finset.exists_max_image (Finset.univ : Finset (Fin (n + 1))) f ⟨0, Finset.mem_univ _⟩
    have : top f = f j := le_antisymm (top_le.mpr fun k => hj k (Finset.mem_univ k)) (le_top f j)
    rw [this]; exact le_top (fun j => f j * r) j

theorem absE_mul (x : EReal) {r : EReal} (hr : 0 ≤ r) : absE (x * r) = absE x * r := by
  unfold absE
  rw [← EReal.neg_mul]
  rcases le_total x (-x) with h | h
  · rw [max_eq_right h, max_eq_right (mul_le_mul_of_nonneg_right h hr)]
  · rw [max_eq_left h, max_eq_left (mul_le_mul_of_nonneg_right h hr)]

/-! ## The quantiser -/

def c448 : EReal := Ideal.ofBits .f32 0x43E00000#32
def cm448 : EReal := Ideal.ofBits .f32 0xC3E00000#32

theorem c448_eq : c448 = ((448 : ℝ) : EReal) := by
  simp [c448, Ideal.ofBits, Ideal.ieee]; rw [← EReal.coe_mul]; norm_num

/-- The scale of a row from its greatest magnitude. -/
def scale (a : EReal) : EReal := if a = 0 then 1 else Ideal.div a c448

theorem div_of_ne {x y : EReal} (h : y ≠ 0) : Ideal.div x y = x * y⁻¹ := by simp [Ideal.div, h]

theorem scale_ne (a : EReal) : scale a ≠ 0 := by
  unfold scale; split
  · exact one_ne_zero
  · rename_i h
    have h4 : c448 ≠ 0 := by rw [c448_eq]; exact_mod_cast (by norm_num : (448 : ℝ) ≠ 0)
    rw [div_of_ne h4, c448_eq, ← EReal.coe_inv]
    exact mul_ne_zero h (by exact_mod_cast (by norm_num : ((448 : ℝ)⁻¹) ≠ 0))

def clip (x : EReal) : EReal := min c448 (max cm448 x)

/-- The code of element `j` of a row. -/
def code {n : Nat} (v : Fin n → EReal) (j : Fin n) : EReal := clip (Ideal.div (v j) (scale (amax v)))

/-! ## The root mean square -/

def cD : EReal := Ideal.ofBits .f32 0x45E00000#32
def cEps : EReal := Ideal.ofBits .f32 0x3727C5AC#32

theorem cD_eq : cD = ((7168 : ℝ) : EReal) := by
  simp [cD, Ideal.ofBits, Ideal.ieee]; rw [← EReal.coe_mul]; norm_num
theorem cEps_pos : 0 < cEps := by
  simp [cEps, Ideal.ofBits, Ideal.ieee]; rw [← EReal.coe_mul]; exact_mod_cast (by positivity)

/-- The root of a mean square from the sum of squares. -/
def rms (q : EReal) : EReal := Ideal.sqrt (Ideal.div q cD + cEps)

theorem sq_nonneg' (x : EReal) : 0 ≤ x * x := by
  rcases le_total 0 x with h | h
  · exact mul_nonneg h h
  · have := mul_nonneg (EReal.neg_nonneg.mpr h) (EReal.neg_nonneg.mpr h)
    rwa [EReal.neg_mul, mul_comm x, EReal.neg_mul, neg_neg] at this

theorem sqrt_pos {z : EReal} (h : 0 < z) : 0 < Ideal.sqrt z := by
  rcases eq_or_ne z ⊤ with rfl | ht
  · exact EReal.zero_lt_top
  · lift z to ℝ using ⟨ht, (bot_le.trans_lt h).ne'⟩
    have hr : 0 < z := by exact_mod_cast h
    have e : Ideal.sqrt (z : EReal) = if z < 0 then ⊥ else (Real.sqrt z : EReal) := rfl
    rw [e, if_neg (not_lt.mpr hr.le)]
    exact_mod_cast Real.sqrt_pos.mpr hr

theorem rms_pos {q : EReal} (hq : 0 ≤ q) : 0 < rms q := by
  have hD : cD ≠ 0 := by rw [cD_eq]; exact_mod_cast (by norm_num : (7168 : ℝ) ≠ 0)
  have h1 : 0 ≤ Ideal.div q cD := by
    rw [div_of_ne hD, cD_eq, ← EReal.coe_inv]
    exact mul_nonneg hq (by exact_mod_cast (by norm_num : (0 : ℝ) ≤ (7168 : ℝ)⁻¹))
  have h2 : 0 < Ideal.div q cD + cEps := lt_of_lt_of_le cEps_pos (le_add_of_nonneg_left h1)
  unfold rms
  exact sqrt_pos h2

/-- The reciprocal the kernel multiplies by. -/
def rinv (q : EReal) : EReal := Ideal.div 1 (rms q)

theorem rinv_eq {q : EReal} (hq : 0 ≤ q) : rinv q = (rms q)⁻¹ := by
  rw [rinv, div_of_ne (rms_pos hq).ne', one_mul]
theorem rinv_nonneg {q : EReal} (hq : 0 ≤ q) : 0 ≤ rinv q := by
  rw [rinv_eq hq]; exact EReal.inv_nonneg_of_nonneg (rms_pos hq).le
theorem div_rms (x : EReal) {q : EReal} (hq : 0 ≤ q) : Ideal.div x (rms q) = x * rinv q := by
  rw [div_of_ne (rms_pos hq).ne', rinv_eq hq]

/-! ## The rows of the layer -/

/-- A row's sum of squares. -/
def ssq (v : Fin 7168 → EReal) : EReal := ∑ j, v j * v j
theorem ssq_nonneg (v : Fin 7168 → EReal) : 0 ≤ ssq v := Finset.sum_nonneg fun _ _ => sq_nonneg' _

/-- The sum over the eight senders of codes times their group's scale. -/
def sRow (c : Fin 8 → Fin 7168 → EReal) (p : Fin 8 → Fin 56 → EReal) (j : Fin 7168) : EReal :=
  c 0 j * p 0 (grp j) + c 1 j * p 1 (grp j) + c 2 j * p 2 (grp j) + c 3 j * p 3 (grp j) + c 4 j * p 4 (grp j)
    + c 5 j * p 5 (grp j) + c 6 j * p 6 (grp j) + c 7 j * p 7 (grp j)

/-- A row divided by its root mean square, times weights. -/
def normRow (v w : Fin 7168 → EReal) (j : Fin 7168) : EReal := Ideal.div (v j) (rms (ssq v)) * w j

def snRow (c : Fin 8 → Fin 7168 → EReal) (p : Fin 8 → Fin 56 → EReal) (pw : Fin 7168 → EReal) : Fin 7168 → EReal :=
  normRow (sRow c p) pw
def hRow (x : Fin 7168 → EReal) (c : Fin 8 → Fin 7168 → EReal) (p : Fin 8 → Fin 56 → EReal) (pw : Fin 7168 → EReal) (j : Fin 7168) : EReal :=
  x j + snRow c p pw j
def vRow (x : Fin 7168 → EReal) (c : Fin 8 → Fin 7168 → EReal) (p : Fin 8 → Fin 56 → EReal) (pw nw : Fin 7168 → EReal) : Fin 7168 → EReal :=
  normRow (hRow x c p pw) nw

/-- The gated activation of a row of codes `a` with scale `s`. -/
def actRow (a : Fin 7168 → EReal) (s : EReal) (wg wu : Fin 7168 → Fin 2304 → EReal) (sg su : Fin 2304 → EReal) (j : Fin 2304) : EReal :=
  (∑ k, a k * wg k j) * (s * sg j) * Ideal.logistic ((∑ k, a k * wg k j) * (s * sg j)) * ((∑ k, a k * wu k j) * (s * su j))

/-- The down projection of a row of codes `a` with scale `s`. -/
def pRow (a : Fin 2304 → EReal) (s : EReal) (wd : Fin 2304 → Fin 7168 → EReal) (sd : Fin 7168 → EReal) (j : Fin 7168) : EReal :=
  (∑ k, a k * wd k j) * (s * sd j)

/-! ## The kernel's order of operations -/

/-- Multiplying by the reciprocal is dividing. -/
theorem normRow_eq (v w : Fin 7168 → EReal) (j : Fin 7168) : v j * rinv (ssq v) * w j = normRow v w j := by
  rw [normRow, div_rms _ (ssq_nonneg v)]

/-- The kernel takes the maximum before the division. -/
theorem amax_normRow (v w : Fin 7168 → EReal) :
    (top fun j => absE (v j * w j)) * rinv (ssq v) = amax (normRow v w) := by
  have hr := rinv_nonneg (ssq_nonneg v)
  rw [← top_mul (n := 7167) _ hr, amax]
  congr 1; funext j
  rw [← absE_mul _ hr, ← normRow_eq, mul_right_comm]

/-- The kernel's codes: one factor for the reciprocal and the scale. -/
theorem code_normRow (v w : Fin 7168 → EReal) (j : Fin 7168) :
    clip (v j * w j * Ideal.div (rinv (ssq v)) (scale (amax (normRow v w)))) = code (normRow v w) j := by
  rw [code, div_of_ne (scale_ne _), div_of_ne (scale_ne _), ← normRow_eq, ← mul_assoc, mul_right_comm (v j)]

/-- The maximum over the columns, taken lane by lane from zero. -/
theorem top_lanes (f : Fin 7168 → EReal) (h0 : ∀ j, 0 ≤ f j) (m : Fin 128 → EReal)
    (hm : ∀ l b, m l ≤ b ↔ 0 ≤ b ∧ ∀ g, f (col g l) ≤ b) : top m = top f := by
  apply le_antisymm
  · exact top_le.mpr fun l => (hm l _).mpr ⟨(h0 0).trans (le_top f 0), fun g => le_top f _⟩
  · refine top_le.mpr fun j => ?_
    have h := ((hm (lane j) (m (lane j))).mp le_rfl).2 (grp j)
    rw [col_grp] at h
    exact h.trans (le_top m _)

end Cert.Spec

end
-- ==== Proof.V.Recv.lean ====
/- One block of 32 rows of the first pallas_call over the extended reals: its four results are the layer's rows. -/
module

public import proofs.«01_k».proof.Proof.V.List0
public import proofs.«01_k».proof.Proof.V.Spec
public import Idealize.ShloMosaic.Lib.Pointwise

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat Cfg Window BodyObligation cellOf)

/-! ## The loads and the vector operations of one group of 128 columns -/

/-! ## The stores of column groups, read back -/

theorem idxG (g : Fin 56) (r : Fin 32) (l : Fin 128) : (rectG g).toLoadRect.idx (ix2 r l) = ix2 r (col g l) := by
  funext a
  refine Fin.ext ?_
  match a with
  | ⟨0, _⟩ => show 0 + 1 * r.val = r.val; omega
  | ⟨1, _⟩ => show 128 * g.val + 1 * l.val = 128 * g.val + l.val; omega

section Canon
variable {e : EltTy} (Lk : (k : Nat) → k ≤ 56 → List (View.Piece (Elt Ideal) S32x7168 e))
  (f : (k : Nat) → k < 56 → Vec Ideal S32x128 e)
  (hs : ∀ k (h : k < 56), Lk (k + 1) h = ⟨rectG ⟨k, h⟩, f k h⟩ :: Lk k h.le)
include hs

/-- A store at another group leaves a group alone. -/
theorem canon_skip (k : Nat) (h : k < 56) (g : Fin 56) (hg : g.val ≠ k) (r : Fin 32) (l : Fin 128) :
    View.canon (Lk (k + 1) h) (ix2 r (col g l)) = View.canon (Lk k h.le) (ix2 r (col g l)) := by
  rw [hs]
  refine View.canon_cons_of_not_mem _ _ fun hm => hg ?_
  have hm' : ix2 r (col g l) ∈ (Rect.unit (s := S32x7168) ![0, 128 * k] S32x128.size (inbG ⟨k, h⟩)).set := hm
  rw [Rect.mem_set_unit] at hm'
  have h1 := hm' (1 : Fin 2)
  have h2 : 128 * k ≤ 128 * g.val + l.val := h1.1
  have h3 : 128 * g.val + l.val < 128 * k + 128 := h1.2
  have := l.isLt
  omega

/-- Groups not yet stored hold what was there. -/
theorem canon_later (r : Fin 32) (l : Fin 128) : ∀ (k : Nat) (h : k ≤ 56) (g : Fin 56), k ≤ g.val →
    View.canon (Lk k h) (ix2 r (col g l)) = View.canon (Lk 0 (Nat.zero_le _)) (ix2 r (col g l))
  | 0, _, _, _ => rfl
  | k + 1, h, g, hg => (canon_skip Lk f hs k h g (by omega) r l).trans (canon_later r l k _ g (by omega))

/-- A stored group reads back. -/
theorem canon_group (r : Fin 32) (l : Fin 128) : ∀ (k : Nat) (h : k ≤ 56) (g : Fin 56), g.val < k →
    View.canon (Lk k h) (ix2 r (col g l)) = f g.val g.isLt (ix2 r l)
  | 0, _, _, hg => absurd hg (Nat.not_lt_zero _)
  | k + 1, h, g, hg => by
    by_cases e : g.val = k
    · obtain ⟨g, hg'⟩ := g
      simp only at e
      subst e
      rw [hs, ← idxG]
      exact View.canon_cons_emb (rectG ⟨g, hg'⟩) (f g hg') _ (ix2 r l)
    · exact (canon_skip Lk f hs k h g e r l).trans (canon_group r l k _ g (by omega))
end Canon

theorem readG {e : EltTy} (v : View sig .tc .vmem S32x7168 e) (L : List (View.Piece (Elt Ideal) S32x7168 e)) (g : Fin 56) (r : Fin 32) (l : Fin 128) :
    v.readCov L (rectG g).toLoadRect (ix2 r l) = View.canon L (ix2 r (col g l)) := by
  rw [View.readCov_eq_canon']; show View.canon L ((rectG g).toLoadRect.idx (ix2 r l)) = _; rw [idxG]

/-! ## The vector operations at an index -/

theorem rinvOf_apply (ss : FVec Ideal S32x128 .f32) (r : Fin 32) : rinvOf ss (ix2 r 0) = rinv (∑ l, ss (ix2 r l)) := by
  pointwise [rinvOf]; rfl
theorem lanes_apply (v : FVec Ideal S32x1 .f32) (r : Fin 32) (l : Fin 128) : lanes v (ix2 r l) = v (ix2 r 0) := by
  pointwise [lanes]
theorem rowsW_apply (w : Vec Ideal S1x128 .f32) (r : Fin 32) (l : Fin 128) : rowsW w (ix2 r l) = w (ix2 0 l) := by
  pointwise [rowsW]
theorem scaleV_apply (am : FVec Ideal S32x128 .f32) (ri : FVec Ideal S32x1 .f32) (r : Fin 32) :
    scaleV am ri (ix2 r 0) = scale ((top fun l => am (ix2 r l)) * ri (ix2 r 0)) := by
  pointwise [scaleV]; rfl
theorem codesV_apply (y q : FVec Ideal S32x128 .f32) (r : Fin 32) (l : Fin 128) :
    codesV y q (ix2 r l) = clip (y (ix2 r l) * q (ix2 r l)) := by
  pointwise [codesV]; rfl
theorem term_apply (a : Vec Ideal S1x32x128 .fp8e4m3) (s : Vec Ideal S1x32x1 .f32) (r : Fin 32) (l : Fin 128) :
    term a s (ix2 r l) = a (ix3 0 r l) * s (ix3 0 r 0) := by
  pointwise [term]

section Tile
variable (arg1 : Memref sig .tc .vmem S32x7168 .bf16) (harg1 : arg1.IsWhole) (arg2 : Memref sig .tc .vmem S8x32x7168 .fp8e4m3) (harg2 : arg2.IsWhole) (arg3 : Memref sig .tc .vmem S8x32x56 .f32) (harg3 : arg3.IsWhole) (arg4 : Memref sig .tc .vmem S1x7168 .f32) (harg4 : arg4.IsWhole) (arg5 : Memref sig .tc .vmem S1x7168 .f32) (harg5 : arg5.IsWhole) (arg7 arg10 : Memref sig .tc .vmem S32x7168 .f32)
  (x0 : Vec Ideal S32x7168 .bf16) (x1 : Vec Ideal S8x32x7168 .fp8e4m3) (x2 : Vec Ideal S8x32x56 .f32) (x3 x4 : Vec Ideal S1x7168 .f32)

theorem ldC_apply (a : Fin 8) (g : Fin 56) (r : Fin 32) (l : Fin 128) : ldC arg2 harg2 x1 a g (ix3 0 r l) = x1 (ix3 a r (col g l)) := by
  unfold ldC; rw [View.readAt_eq_ld, harg2.read_unread]; pointwise [col]
theorem ldP_apply (a : Fin 8) (g : Fin 56) (r : Fin 32) : ldP arg3 harg3 x2 a g (ix3 0 r 0) = x2 (ix3 a r g) := by
  unfold ldP; rw [View.readAt_eq_ld, harg3.read_unread]; pointwise
theorem ldNw_apply (g : Fin 56) (l : Fin 128) : ldNw arg4 harg4 x3 g (ix2 0 l) = x3 (ix2 0 (col g l)) := by
  unfold ldNw; rw [View.readAt_eq_ld, harg4.read_unread]; pointwise [col]
theorem ldPw_apply (g : Fin 56) (l : Fin 128) : ldPw arg5 harg5 x4 g (ix2 0 l) = x4 (ix2 0 (col g l)) := by
  unfold ldPw; rw [View.readAt_eq_ld, harg5.read_unread]; pointwise [col]
theorem ldX_apply (g : Fin 56) (r : Fin 32) (l : Fin 128) : ldX arg1 harg1 x0 g (ix2 r l) = x0 (ix2 r (col g l)) := by
  unfold ldX; rw [View.readAt_eq_ld, harg1.read_unread]; pointwise [col]

/-- The rows of a block's inputs. -/
abbrev rowX (r : Fin 32) (j : Fin 7168) : EReal := x0 (ix2 r j)
abbrev rowC (r : Fin 32) (a : Fin 8) (j : Fin 7168) : EReal := x1 (ix3 a r j)
abbrev rowP (r : Fin 32) (a : Fin 8) (g : Fin 56) : EReal := x2 (ix3 a r g)
abbrev rowW (j : Fin 7168) : EReal := x3 (ix2 0 j)

theorem sG_apply (g : Fin 56) (r : Fin 32) (l : Fin 128) :
    sG arg2 harg2 arg3 harg3 x1 x2 g (ix2 r l) = sRow (rowC x1 r) (rowP x2 r) (col g l) := by
  unfold sG sRow
  simp only [grp_col]
  pointwise
  simp only [term_apply, ldC_apply, ldP_apply]

theorem ssK_apply (r : Fin 32) (l : Fin 128) : ∀ (k : Nat) (h : k ≤ 56), ssK arg2 harg2 arg3 harg3 x1 x2 k h (ix2 r l)
    = ∑ g : Fin k, sRow (rowC x1 r) (rowP x2 r) (col (g.castLE h) l) * sRow (rowC x1 r) (rowP x2 r) (col (g.castLE h) l)
  | 0, _ => by unfold ssK; pointwise; simp
  | k + 1, h => by
    unfold ssK
    rw [Fin.sum_univ_castSucc]
    pointwise
    rw [ssK_apply r l k, sG_apply]
    rfl

theorem rinv1_apply (r : Fin 32) : rinvOf (ssK arg2 harg2 arg3 harg3 x1 x2 56 le_rfl) (ix2 r 0) = rinv (ssq (sRow (rowC x1 r) (rowP x2 r))) := by
  rw [rinvOf_apply]; simp only [ssK_apply]
  exact congrArg rinv (sum_lanes fun j => sRow (rowC x1 r) (rowP x2 r) j * sRow (rowC x1 r) (rowP x2 r) j)

theorem canonL1 (k : Nat) (h : k ≤ 56) (g : Fin 56) (hg : g.val < k) (r : Fin 32) (l : Fin 128) :
    View.canon (L1 arg2 harg2 arg3 harg3 x1 x2 k h) (ix2 r (col g l)) = sG arg2 harg2 arg3 harg3 x1 x2 g (ix2 r l) :=
  canon_group (L1 arg2 harg2 arg3 harg3 x1 x2) (fun k h => sG arg2 harg2 arg3 harg3 x1 x2 ⟨k, h⟩) (fun _ _ => rfl) r l k h g hg

/-- The second sweep's value of `s_n`. -/
abbrev snAt (k : Nat) (h : k < 56) : FVec Ideal S32x128 .f32 :=
  snG arg2 harg2 arg3 harg3 arg5 harg5 x1 x2 x4 (arg7.view.readCov (L2 arg2 harg2 arg3 harg3 arg5 harg5 arg7 x1 x2 x4 k h.le) (rectG ⟨k, h⟩).toLoadRect) ⟨k, h⟩

theorem snAt_apply (k : Nat) (h : k < 56) (r : Fin 32) (l : Fin 128) :
    snAt arg2 harg2 arg3 harg3 arg5 harg5 arg7 x1 x2 x4 k h (ix2 r l) = snRow (rowC x1 r) (rowP x2 r) (rowW x4) (col ⟨k, h⟩ l) := by
  unfold snAt snG snRow
  pointwise
  rw [lanes_apply, rowsW_apply, rinv1_apply, ldPw_apply, readG,
    canon_later (L2 arg2 harg2 arg3 harg3 arg5 harg5 arg7 x1 x2 x4) (snAt arg2 harg2 arg3 harg3 arg5 harg5 arg7 x1 x2 x4) (fun _ _ => rfl) r l k h.le ⟨k, h⟩ le_rfl]
  exact (congrArg (· * _ * _) ((canonL1 arg2 harg2 arg3 harg3 x1 x2 56 le_rfl ⟨k, h⟩ h r l).trans (sG_apply arg2 harg2 arg3 harg3 x1 x2 _ r l))).trans
    (normRow_eq (sRow (rowC x1 r) (rowP x2 r)) (rowW x4) (col ⟨k, h⟩ l))

theorem out6_apply (r : Fin 32) (g : Fin 56) (l : Fin 128) :
    View.canon (L2 arg2 harg2 arg3 harg3 arg5 harg5 arg7 x1 x2 x4 56 le_rfl) (ix2 r (col g l)) = snRow (rowC x1 r) (rowP x2 r) (rowW x4) (col g l) :=
  (canon_group (L2 arg2 harg2 arg3 harg3 arg5 harg5 arg7 x1 x2 x4) (snAt arg2 harg2 arg3 harg3 arg5 harg5 arg7 x1 x2 x4) (fun _ _ => rfl) r l 56 le_rfl g g.isLt).trans (snAt_apply arg2 harg2 arg3 harg3 arg5 harg5 arg7 x1 x2 x4 _ _ r l)

theorem hG_apply (k : Nat) (h : k < 56) (r : Fin 32) (l : Fin 128) :
    hG arg1 harg1 arg2 harg2 arg3 harg3 arg5 harg5 arg7 x0 x1 x2 x4 k h (ix2 r l) = hRow (rowX x0 r) (rowC x1 r) (rowP x2 r) (rowW x4) (col ⟨k, h⟩ l) := by
  have e := snAt_apply arg2 harg2 arg3 harg3 arg5 harg5 arg7 x1 x2 x4 k h r l
  unfold snAt at e
  unfold hG hRow
  pointwise
  rw [e, ldX_apply]

theorem out5_apply (r : Fin 32) (g : Fin 56) (l : Fin 128) :
    View.canon (LR arg1 harg1 arg2 harg2 arg3 harg3 arg5 harg5 arg7 x0 x1 x2 x4 56 le_rfl) (ix2 r (col g l)) = hRow (rowX x0 r) (rowC x1 r) (rowP x2 r) (rowW x4) (col g l) :=
  (canon_group (LR arg1 harg1 arg2 harg2 arg3 harg3 arg5 harg5 arg7 x0 x1 x2 x4) (fun k h => truncf .bf16 (hG arg1 harg1 arg2 harg2 arg3 harg3 arg5 harg5 arg7 x0 x1 x2 x4 k h) bitsLt_bf16_f32) (fun _ _ => rfl) r l 56 le_rfl g g.isLt).trans
    (hG_apply arg1 harg1 arg2 harg2 arg3 harg3 arg5 harg5 arg7 x0 x1 x2 x4 _ _ r l)

theorem hhK_apply (r : Fin 32) (l : Fin 128) : ∀ (k : Nat) (h : k ≤ 56), hhK arg1 harg1 arg2 harg2 arg3 harg3 arg5 harg5 arg7 x0 x1 x2 x4 k h (ix2 r l)
    = ∑ g : Fin k, hRow (rowX x0 r) (rowC x1 r) (rowP x2 r) (rowW x4) (col (g.castLE h) l) * hRow (rowX x0 r) (rowC x1 r) (rowP x2 r) (rowW x4) (col (g.castLE h) l)
  | 0, _ => by unfold hhK; pointwise; simp
  | k + 1, h => by
    unfold hhK
    rw [Fin.sum_univ_castSucc]
    pointwise
    rw [hhK_apply r l k, hG_apply]
    rfl

theorem rinv2_apply (r : Fin 32) : rinv2 arg1 harg1 arg2 harg2 arg3 harg3 arg5 harg5 arg7 x0 x1 x2 x4 (ix2 r 0) = rinv (ssq (hRow (rowX x0 r) (rowC x1 r) (rowP x2 r) (rowW x4))) := by
  unfold rinv2
  rw [rinvOf_apply]; simp only [hhK_apply]
  exact congrArg rinv (sum_lanes fun j => hRow (rowX x0 r) (rowC x1 r) (rowP x2 r) (rowW x4) j * hRow (rowX x0 r) (rowC x1 r) (rowP x2 r) (rowW x4) j)

theorem yG_apply (k : Nat) (h : k < 56) (r : Fin 32) (l : Fin 128) :
    yG arg1 harg1 arg2 harg2 arg3 harg3 arg4 harg4 arg5 harg5 arg7 x0 x1 x2 x3 x4 k h (ix2 r l) = hRow (rowX x0 r) (rowC x1 r) (rowP x2 r) (rowW x4) (col ⟨k, h⟩ l) * rowW x3 (col ⟨k, h⟩ l) := by
  unfold yG
  pointwise
  rw [hG_apply, rowsW_apply, ldNw_apply]

theorem amK_le (r : Fin 32) (l : Fin 128) (b : EReal) : ∀ (k : Nat) (h : k ≤ 56), amK arg1 harg1 arg2 harg2 arg3 harg3 arg4 harg4 arg5 harg5 arg7 x0 x1 x2 x3 x4 k h (ix2 r l) ≤ b
    ↔ 0 ≤ b ∧ ∀ g : Fin k, absE (hRow (rowX x0 r) (rowC x1 r) (rowP x2 r) (rowW x4) (col (g.castLE h) l) * rowW x3 (col (g.castLE h) l)) ≤ b
  | 0, _ => by unfold amK; pointwise; simp
  | k + 1, h => by
    have e : amK arg1 harg1 arg2 harg2 arg3 harg3 arg4 harg4 arg5 harg5 arg7 x0 x1 x2 x3 x4 (k + 1) h (ix2 r l) = max (amK arg1 harg1 arg2 harg2 arg3 harg3 arg4 harg4 arg5 harg5 arg7 x0 x1 x2 x3 x4 k (Nat.le_of_succ_le h) (ix2 r l)) (absE (yG arg1 harg1 arg2 harg2 arg3 harg3 arg4 harg4 arg5 harg5 arg7 x0 x1 x2 x3 x4 k h (ix2 r l))) := by
      conv_lhs => unfold amK
      pointwise
      rfl
    rw [e, max_le_iff, amK_le r l b k, yG_apply, and_assoc, Fin.forall_fin_succ']
    rfl

theorem scaleR_apply (r : Fin 32) : scaleR arg1 harg1 arg2 harg2 arg3 harg3 arg4 harg4 arg5 harg5 arg7 x0 x1 x2 x3 x4 (ix2 r 0)
    = scale (amax (vRow (rowX x0 r) (rowC x1 r) (rowP x2 r) (rowW x4) (rowW x3))) := by
  unfold scaleR
  rw [scaleV_apply, rinv2_apply]
  congr 1
  rw [top_lanes (fun j => absE (hRow (rowX x0 r) (rowC x1 r) (rowP x2 r) (rowW x4) j * rowW x3 j)) (fun _ => absE_nonneg _) _
    (fun l b => amK_le arg1 harg1 arg2 harg2 arg3 harg3 arg4 harg4 arg5 harg5 arg7 x0 x1 x2 x3 x4 r l b 56 le_rfl)]
  exact amax_normRow _ _

theorem out8_apply (r : Fin 32) (l : Fin 128) : lanes (scaleR arg1 harg1 arg2 harg2 arg3 harg3 arg4 harg4 arg5 harg5 arg7 x0 x1 x2 x3 x4) (ix2 r l)
    = scale (amax (vRow (rowX x0 r) (rowC x1 r) (rowP x2 r) (rowW x4) (rowW x3))) := by
  rw [lanes_apply, scaleR_apply]

theorem canonLY (g : Fin 56) (r : Fin 32) (l : Fin 128) :
    View.canon (LY arg1 harg1 arg2 harg2 arg3 harg3 arg4 harg4 arg5 harg5 arg7 x0 x1 x2 x3 x4 56 le_rfl) (ix2 r (col g l)) = hRow (rowX x0 r) (rowC x1 r) (rowP x2 r) (rowW x4) (col g l) * rowW x3 (col g l) := by
  rw [canon_group (LY arg1 harg1 arg2 harg2 arg3 harg3 arg4 harg4 arg5 harg5 arg7 x0 x1 x2 x3 x4) (fun k h => shapeCast S32x128 (yG arg1 harg1 arg2 harg2 arg3 harg3 arg4 harg4 arg5 harg5 arg7 x0 x1 x2 x3 x4 k h) shapeCasts_S32x128_S32x128) (fun _ _ => rfl) r l 56 le_rfl g g.isLt]
  pointwise
  exact yG_apply arg1 harg1 arg2 harg2 arg3 harg3 arg4 harg4 arg5 harg5 arg7 x0 x1 x2 x3 x4 _ _ r l

/-- The row factor of the codes. -/
def qR : FVec Ideal S32x128 .f32 := lanes (divf (rinv2 arg1 harg1 arg2 harg2 arg3 harg3 arg5 harg5 arg7 x0 x1 x2 x4) (scaleR arg1 harg1 arg2 harg2 arg3 harg3 arg4 harg4 arg5 harg5 arg7 x0 x1 x2 x3 x4))

theorem qR_apply (r : Fin 32) (l : Fin 128) : qR arg1 harg1 arg2 harg2 arg3 harg3 arg4 harg4 arg5 harg5 arg7 x0 x1 x2 x3 x4 (ix2 r l)
    = Ideal.div (rinv (ssq (hRow (rowX x0 r) (rowC x1 r) (rowP x2 r) (rowW x4)))) (scale (amax (vRow (rowX x0 r) (rowC x1 r) (rowP x2 r) (rowW x4) (rowW x3)))) := by
  unfold qR
  rw [lanes_apply, ← rinv2_apply arg1 harg1 arg2 harg2 arg3 harg3 arg5 harg5 arg7 x0 x1 x2 x4 r, ← scaleR_apply arg1 harg1 arg2 harg2 arg3 harg3 arg4 harg4 arg5 harg5 arg7 x0 x1 x2 x3 x4 r]
  rfl

/-- The codes stored for group `k`. -/
def codeAt (k : Nat) (h : k < 56) : Vec Ideal S32x128 .fp8e4m3 :=
  codesV (arg10.view.readCov (LY arg1 harg1 arg2 harg2 arg3 harg3 arg4 harg4 arg5 harg5 arg7 x0 x1 x2 x3 x4 56 le_rfl) (rectG ⟨k, h⟩).toLoadRect) (qR arg1 harg1 arg2 harg2 arg3 harg3 arg4 harg4 arg5 harg5 arg7 x0 x1 x2 x3 x4)

theorem codeAt_apply (k : Nat) (h : k < 56) (r : Fin 32) (l : Fin 128) : codeAt arg1 harg1 arg2 harg2 arg3 harg3 arg4 harg4 arg5 harg5 arg7 arg10 x0 x1 x2 x3 x4 k h (ix2 r l)
    = code (vRow (rowX x0 r) (rowC x1 r) (rowP x2 r) (rowW x4) (rowW x3)) (col ⟨k, h⟩ l) := by
  unfold codeAt
  rw [codesV_apply, readG, canonLY, qR_apply]
  exact code_normRow _ _ _

theorem out7_apply (r : Fin 32) (g : Fin 56) (l : Fin 128) :
    View.canon (LC arg1 harg1 arg2 harg2 arg3 harg3 arg4 harg4 arg5 harg5 arg7 arg10 x0 x1 x2 x3 x4 56 le_rfl) (ix2 r (col g l)) = code (vRow (rowX x0 r) (rowC x1 r) (rowP x2 r) (rowW x4) (rowW x3)) (col g l) :=
  (canon_group (LC arg1 harg1 arg2 harg2 arg3 harg3 arg4 harg4 arg5 harg5 arg7 arg10 x0 x1 x2 x3 x4) (codeAt arg1 harg1 arg2 harg2 arg3 harg3 arg4 harg4 arg5 harg5 arg7 arg10 x0 x1 x2 x3 x4) (fun _ _ => rfl) r l 56 le_rfl g g.isLt).trans (codeAt_apply arg1 harg1 arg2 harg2 arg3 harg3 arg4 harg4 arg5 harg5 arg7 arg10 x0 x1 x2 x3 x4 _ _ r l)
end Tile

end Cert.KernelIdeal.Whole

end
-- ==== Proof.V.Arr0.lean ====
/- The arrays the first pallas_call leaves, whole: every row of every result is the layer's row of the arrays on entry. -/
module

public import proofs.«01_k».proof.Proof.V.Recv

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

variable (V : (c : Dev nD) → (b : Ref sig .tc) → Buf (Elt Ideal) ((c : Thread nD τ).loc b))

/-- Row `r` of block `t` of 32 rows. -/
def row0 (t : Fin cfg0.N) (r : Fin 32) : Fin 1536 := ⟨32 * t.val + r.val, by have h : t.val < 48 := lt_of_lt_of_eq t.isLt N_0; omega⟩

/-- Where the blocks of the windows lie. -/
theorem at0_0 : ∀ t : Fin cfg0.N, win0_0.index t 0 = t.val ∧ win0_0.index t 1 = 0 := by decide +kernel
theorem at0_1 : ∀ t : Fin cfg0.N, win0_1.index t 0 = 0 ∧ win0_1.index t 1 = t.val ∧ win0_1.index t 2 = 0 := by decide +kernel
theorem at0_2 : ∀ t : Fin cfg0.N, win0_2.index t 0 = 0 ∧ win0_2.index t 1 = t.val ∧ win0_2.index t 2 = 0 := by decide +kernel
theorem at0_3 : ∀ t : Fin cfg0.N, win0_3.index t 0 = 0 ∧ win0_3.index t 1 = 0 := by decide +kernel
theorem at0_5 : ∀ t : Fin cfg0.N, win0_5.index t 0 = t.val ∧ win0_5.index t 1 = 0 := by decide +kernel

theorem blk0_0 (c : Dev nD) (t : Fin cfg0.N) (r : Fin 32) (j : Fin 7168) :
    (iblk0 V c 0 t : Vec Ideal S32x7168 .bf16) (ix2 r j) = V c main_v0 (ix2 (row0 t r) j) := by
  show V c main_v0 ((win0_0.rect t).emb (ix2 r j)) = _
  congr 1
  funext a
  refine Fin.ext ?_
  match a with
  | ⟨0, _⟩ => show win0_0.index t 0 * 32 + 1 * r.val = 32 * t.val + r.val; rw [(at0_0 t).1]; omega
  | ⟨1, _⟩ => show win0_0.index t 1 * 7168 + 1 * j.val = j.val; rw [(at0_0 t).2]; omega

theorem blk0_1 (c : Dev nD) (t : Fin cfg0.N) (e : Fin 8) (r : Fin 32) (j : Fin 7168) :
    (iblk0 V c 1 t : Vec Ideal S8x32x7168 .fp8e4m3) (ix3 e r j) = V c main_v1 (ix3 e (row0 t r) j) := by
  show V c main_v1 ((win0_1.rect t).emb (ix3 e r j)) = _
  congr 1
  funext a
  refine Fin.ext ?_
  match a with
  | ⟨0, _⟩ => show win0_1.index t 0 * 8 + 1 * e.val = e.val; rw [(at0_1 t).1]; omega
  | ⟨1, _⟩ => show win0_1.index t 1 * 32 + 1 * r.val = 32 * t.val + r.val; rw [(at0_1 t).2.1]; omega
  | ⟨2, _⟩ => show win0_1.index t 2 * 7168 + 1 * j.val = j.val; rw [(at0_1 t).2.2]; omega

theorem blk0_2 (c : Dev nD) (t : Fin cfg0.N) (e : Fin 8) (r : Fin 32) (j : Fin 56) :
    (iblk0 V c 2 t : Vec Ideal S8x32x56 .f32) (ix3 e r j) = V c main_v2 (ix3 e (row0 t r) j) := by
  show V c main_v2 ((win0_2.rect t).emb (ix3 e r j)) = _
  congr 1
  funext a
  refine Fin.ext ?_
  match a with
  | ⟨0, _⟩ => show win0_2.index t 0 * 8 + 1 * e.val = e.val; rw [(at0_2 t).1]; omega
  | ⟨1, _⟩ => show win0_2.index t 1 * 32 + 1 * r.val = 32 * t.val + r.val; rw [(at0_2 t).2.1]; omega
  | ⟨2, _⟩ => show win0_2.index t 2 * 56 + 1 * j.val = j.val; rw [(at0_2 t).2.2]; omega

theorem blk0_3 (c : Dev nD) (t : Fin cfg0.N) (r : Fin 1) (j : Fin 7168) :
    (iblk0 V c 3 t : Vec Ideal S1x7168 .f32) (ix2 r j) = V c main_v3 (ix2 r j) := by
  show V c main_v3 ((win0_3.rect t).emb (ix2 r j)) = _
  congr 1
  funext a
  refine Fin.ext ?_
  match a with
  | ⟨0, _⟩ => show win0_3.index t 0 * 1 + 1 * r.val = r.val; rw [(at0_3 t).1]; omega
  | ⟨1, _⟩ => show win0_3.index t 1 * 7168 + 1 * j.val = j.val; rw [(at0_3 t).2]; omega

theorem blk0_4 (c : Dev nD) (t : Fin cfg0.N) (r : Fin 1) (j : Fin 7168) :
    (iblk0 V c 4 t : Vec Ideal S1x7168 .f32) (ix2 r j) = V c main_v4 (ix2 r j) := by
  show V c main_v4 ((win0_4.rect t).emb (ix2 r j)) = _
  congr 1
  funext a
  refine Fin.ext ?_
  match a with
  | ⟨0, _⟩ => show win0_3.index t 0 * 1 + 1 * r.val = r.val; rw [(at0_3 t).1]; omega
  | ⟨1, _⟩ => show win0_3.index t 1 * 7168 + 1 * j.val = j.val; rw [(at0_3 t).2]; omega

/-! ## The rows of the arrays on entry, and of the results -/

/-- The residual's row, the senders' codes and scales, the two weights. -/
def arrX (c : Dev nD) (r : Fin 1536) (j : Fin 7168) : EReal := V c main_v0 (ix2 r j)
def arrC (c : Dev nD) (r : Fin 1536) (e : Fin 8) (j : Fin 7168) : EReal := V c main_v1 (ix3 e r j)
def arrP (c : Dev nD) (r : Fin 1536) (e : Fin 8) (g : Fin 56) : EReal := V c main_v2 (ix3 e r g)
def arrNw (c : Dev nD) (j : Fin 7168) : EReal := V c main_v3 (ix2 0 j)
def arrPw (c : Dev nD) (j : Fin 7168) : EReal := V c main_v4 (ix2 0 j)

def G5 (c : Dev nD) : Buf (Elt Ideal) ((c : Thread nD τ).loc main_v5_0) := fun i : S1536x7168.Idx => hRow (arrX V c (i 0)) (arrC V c (i 0)) (arrP V c (i 0)) (arrPw V c) (i 1)
def G6 (c : Dev nD) : Buf (Elt Ideal) ((c : Thread nD τ).loc main_v5_1) := fun i : S1536x7168.Idx => snRow (arrC V c (i 0)) (arrP V c (i 0)) (arrPw V c) (i 1)
def G7 (c : Dev nD) : Buf (Elt Ideal) ((c : Thread nD τ).loc main_v5_2) := fun i : S1536x7168.Idx => code (vRow (arrX V c (i 0)) (arrC V c (i 0)) (arrP V c (i 0)) (arrPw V c) (arrNw V c)) (i 1)
def G8 (c : Dev nD) : Buf (Elt Ideal) ((c : Thread nD τ).loc main_v5_3) := fun i : S1536x128.Idx => scale (amax (vRow (arrX V c (i 0)) (arrC V c (i 0)) (arrP V c (i 0)) (arrPw V c) (arrNw V c)))

theorem rowX_blk (c : Dev nD) (t : Fin cfg0.N) (r : Fin 32) : rowX (iblk0 V c 0 t) r = arrX V c (row0 t r) := funext fun j => blk0_0 V c t r j
theorem rowC_blk (c : Dev nD) (t : Fin cfg0.N) (r : Fin 32) : rowC (iblk0 V c 1 t) r = arrC V c (row0 t r) := funext fun e => funext fun j => blk0_1 V c t e r j
theorem rowP_blk (c : Dev nD) (t : Fin cfg0.N) (r : Fin 32) : rowP (iblk0 V c 2 t) r = arrP V c (row0 t r) := funext fun e => funext fun j => blk0_2 V c t e r j
theorem rowN_blk (c : Dev nD) (t : Fin cfg0.N) : rowW (iblk0 V c 3 t) = arrNw V c := funext fun j => blk0_3 V c t 0 j
theorem rowW_blk (c : Dev nD) (t : Fin cfg0.N) : rowW (iblk0 V c 4 t) = arrPw V c := funext fun j => blk0_4 V c t 0 j

/-- Row and column of an index of the block at `t`, in the array. -/
theorem put0 (t : Fin cfg0.N) (r : Fin 32) (j : Fin 7168) : ((win0_5.rect t).emb (ix2 r j) : S1536x7168.Idx) = ix2 (row0 t r) j := by
  funext a
  refine Fin.ext ?_
  match a with
  | ⟨0, _⟩ => show win0_5.index t 0 * 32 + 1 * r.val = 32 * t.val + r.val; rw [(at0_5 t).1]; omega
  | ⟨1, _⟩ => show win0_5.index t 1 * 7168 + 1 * j.val = j.val; rw [(at0_5 t).2]; omega
theorem put0' (t : Fin cfg0.N) (r : Fin 32) (j : Fin 128) : ((win0_8.rect t).emb (ix2 r j) : S1536x128.Idx) = ix2 (row0 t r) j := by
  funext a
  refine Fin.ext ?_
  match a with
  | ⟨0, _⟩ => show win0_5.index t 0 * 32 + 1 * r.val = 32 * t.val + r.val; rw [(at0_5 t).1]; omega
  | ⟨1, _⟩ => show win0_5.index t 1 * 128 + 1 * j.val = j.val; rw [(at0_5 t).2]; omega

/-- Two blocks of 32 rows agree when they agree at every row and column. -/
theorem ext2 {m n : Nat} {α : Type} {f g : (⟨2, ![m, n]⟩ : Shape).Idx → α} (h : ∀ r j, f (ix2 r j) = g (ix2 r j)) : f = g :=
  funext fun i => by
    have : i = ix2 (i 0) (i 1) := funext fun a => by match a with | ⟨0, _⟩ => rfl | ⟨1, _⟩ => rfl
    rw [this]; exact h _ _

theorem flushed5 (c : Dev nD) (t : Fin cfg0.N) : (dat0 V c).flushed 5 t = ((cfg0.win 5).blk t).view.read (Elt Ideal) (G5 V c) := by
  show (cfg0.win 5).cut (grid0.coords t) ((dat0 V c).after 5 t) = _
  rw [after0_5]
  unfold outsAt0 out0_A_5
  dsimp only
  rw [View.read_writes_junk_eq_canon, pieces5]
  refine ext2 (m := 32) (n := 7168) fun r j => ?_
  show View.canon _ (ix2 r j) = G5 V c ((win0_5.rect t).emb (ix2 r j))
  rw [put0, ← col_grp j, out5_apply, rowX_blk, rowC_blk, rowP_blk, rowW_blk]
  rfl

theorem cover5 (i : (⟨2, ![1536, 7168]⟩ : Shape).Idx) : ∃ t : Fin cfg0.N, (cfg0.win 5).flush t = true ∧ i ∈ ((cfg0.win 5).blk t).view.set := by
  have h0 : (i 0 : Nat) < 1536 := (i 0).isLt
  have h1 : (i 1 : Nat) < 7168 := (i 1).isLt
  have ht : (i 0 : Nat) / 32 < cfg0.N := lt_of_lt_of_eq (by omega) N_0.symm
  refine ⟨⟨_, ht⟩, flush0_5 _, ?_⟩
  show i ∈ ((View.whole main_v5_0).slice (win0_5.rect ⟨_, ht⟩)).set
  rw [View.set_slice_whole, Rect.mem_set_unit]
  intro a
  match a with
  | ⟨0, _⟩ => show win0_5.index ⟨_, ht⟩ 0 * 32 ≤ (i 0 : Nat) ∧ (i 0 : Nat) < win0_5.index ⟨_, ht⟩ 0 * 32 + 32
              rw [(at0_5 _).1]; dsimp only; omega
  | ⟨1, _⟩ => show win0_5.index ⟨_, ht⟩ 1 * 7168 ≤ (i 1 : Nat) ∧ (i 1 : Nat) < win0_5.index ⟨_, ht⟩ 1 * 7168 + 7168
              rw [(at0_5 _).2]; omega

theorem final5 (c : Dev nD) : (dat0 V c).arrAt 5 cfg0.N = G5 V c :=
  (dat0 V c).arrAt_eq_of_cover 5 (G5 V c) (fun t _ => flushed5 V c t) cover5

theorem flushed6 (c : Dev nD) (t : Fin cfg0.N) : (dat0 V c).flushed 6 t = ((cfg0.win 6).blk t).view.read (Elt Ideal) (G6 V c) := by
  show (cfg0.win 6).cut (grid0.coords t) ((dat0 V c).after 6 t) = _
  rw [after0_6]
  unfold outsAt0 out0_A_6
  dsimp only
  rw [View.read_writes_junk_eq_canon, pieces6]
  refine ext2 (m := 32) (n := 7168) fun r j => ?_
  show View.canon _ (ix2 r j) = G6 V c ((win0_5.rect t).emb (ix2 r j))
  rw [put0, ← col_grp j, out6_apply, rowC_blk, rowP_blk, rowW_blk]
  rfl

theorem cover6 (i : (⟨2, ![1536, 7168]⟩ : Shape).Idx) : ∃ t : Fin cfg0.N, (cfg0.win 6).flush t = true ∧ i ∈ ((cfg0.win 6).blk t).view.set := by
  have h0 : (i 0 : Nat) < 1536 := (i 0).isLt
  have h1 : (i 1 : Nat) < 7168 := (i 1).isLt
  have ht : (i 0 : Nat) / 32 < cfg0.N := lt_of_lt_of_eq (by omega) N_0.symm
  refine ⟨⟨_, ht⟩, flush0_6 _, ?_⟩
  show i ∈ ((View.whole main_v5_1).slice (win0_6.rect ⟨_, ht⟩)).set
  rw [View.set_slice_whole, Rect.mem_set_unit]
  intro a
  match a with
  | ⟨0, _⟩ => show win0_5.index ⟨_, ht⟩ 0 * 32 ≤ (i 0 : Nat) ∧ (i 0 : Nat) < win0_5.index ⟨_, ht⟩ 0 * 32 + 32
              rw [(at0_5 _).1]; dsimp only; omega
  | ⟨1, _⟩ => show win0_5.index ⟨_, ht⟩ 1 * 7168 ≤ (i 1 : Nat) ∧ (i 1 : Nat) < win0_5.index ⟨_, ht⟩ 1 * 7168 + 7168
              rw [(at0_5 _).2]; omega

theorem final6 (c : Dev nD) : (dat0 V c).arrAt 6 cfg0.N = G6 V c :=
  (dat0 V c).arrAt_eq_of_cover 6 (G6 V c) (fun t _ => flushed6 V c t) cover6

theorem flushed7 (c : Dev nD) (t : Fin cfg0.N) : (dat0 V c).flushed 7 t = ((cfg0.win 7).blk t).view.read (Elt Ideal) (G7 V c) := by
  show (cfg0.win 7).cut (grid0.coords t) ((dat0 V c).after 7 t) = _
  rw [after0_7]
  unfold outsAt0 out0_A_7
  dsimp only
  rw [View.read_writes_junk_eq_canon, pieces7]
  refine ext2 (m := 32) (n := 7168) fun r j => ?_
  show View.canon _ (ix2 r j) = G7 V c ((win0_5.rect t).emb (ix2 r j))
  rw [put0, ← col_grp j, out7_apply, rowX_blk, rowC_blk, rowP_blk, rowW_blk, rowN_blk]
  rfl

theorem cover7 (i : (⟨2, ![1536, 7168]⟩ : Shape).Idx) : ∃ t : Fin cfg0.N, (cfg0.win 7).flush t = true ∧ i ∈ ((cfg0.win 7).blk t).view.set := by
  have h0 : (i 0 : Nat) < 1536 := (i 0).isLt
  have h1 : (i 1 : Nat) < 7168 := (i 1).isLt
  have ht : (i 0 : Nat) / 32 < cfg0.N := lt_of_lt_of_eq (by omega) N_0.symm
  refine ⟨⟨_, ht⟩, flush0_7 _, ?_⟩
  show i ∈ ((View.whole main_v5_2).slice (win0_7.rect ⟨_, ht⟩)).set
  rw [View.set_slice_whole, Rect.mem_set_unit]
  intro a
  match a with
  | ⟨0, _⟩ => show win0_5.index ⟨_, ht⟩ 0 * 32 ≤ (i 0 : Nat) ∧ (i 0 : Nat) < win0_5.index ⟨_, ht⟩ 0 * 32 + 32
              rw [(at0_5 _).1]; dsimp only; omega
  | ⟨1, _⟩ => show win0_5.index ⟨_, ht⟩ 1 * 7168 ≤ (i 1 : Nat) ∧ (i 1 : Nat) < win0_5.index ⟨_, ht⟩ 1 * 7168 + 7168
              rw [(at0_5 _).2]; omega

theorem final7 (c : Dev nD) : (dat0 V c).arrAt 7 cfg0.N = G7 V c :=
  (dat0 V c).arrAt_eq_of_cover 7 (G7 V c) (fun t _ => flushed7 V c t) cover7

theorem flushed8 (c : Dev nD) (t : Fin cfg0.N) : (dat0 V c).flushed 8 t = ((cfg0.win 8).blk t).view.read (Elt Ideal) (G8 V c) := by
  show (cfg0.win 8).cut (grid0.coords t) ((dat0 V c).after 8 t) = _
  rw [after0_8]
  unfold outsAt0 out0_A_8
  dsimp only
  rw [View.read_writes_junk_eq_canon, pieces8, View.canon_unit_zero (by funext a; fin_cases a <;> rfl)]
  refine ext2 (m := 32) (n := 128) fun r j => ?_
  show (lanes (F := Ideal) _ : Vec Ideal S32x128 .f32) (ix2 r j) = G8 V c ((win0_8.rect t).emb (ix2 r j))
  rw [put0', out8_apply, rowX_blk, rowC_blk, rowP_blk, rowW_blk, rowN_blk]
  rfl

theorem cover8 (i : (⟨2, ![1536, 128]⟩ : Shape).Idx) : ∃ t : Fin cfg0.N, (cfg0.win 8).flush t = true ∧ i ∈ ((cfg0.win 8).blk t).view.set := by
  have h0 : (i 0 : Nat) < 1536 := (i 0).isLt
  have h1 : (i 1 : Nat) < 128 := (i 1).isLt
  have ht : (i 0 : Nat) / 32 < cfg0.N := lt_of_lt_of_eq (by omega) N_0.symm
  refine ⟨⟨_, ht⟩, flush0_8 _, ?_⟩
  show i ∈ ((View.whole main_v5_3).slice (win0_8.rect ⟨_, ht⟩)).set
  rw [View.set_slice_whole, Rect.mem_set_unit]
  intro a
  match a with
  | ⟨0, _⟩ => show win0_5.index ⟨_, ht⟩ 0 * 32 ≤ (i 0 : Nat) ∧ (i 0 : Nat) < win0_5.index ⟨_, ht⟩ 0 * 32 + 32
              rw [(at0_5 _).1]; dsimp only; omega
  | ⟨1, _⟩ => show win0_5.index ⟨_, ht⟩ 1 * 128 ≤ (i 1 : Nat) ∧ (i 1 : Nat) < win0_5.index ⟨_, ht⟩ 1 * 128 + 128
              rw [(at0_5 _).2]; omega

theorem final8 (c : Dev nD) : (dat0 V c).arrAt 8 cfg0.N = G8 V c :=
  (dat0 V c).arrAt_eq_of_cover 8 (G8 V c) (fun t _ => flushed8 V c t) cover8

end Cert.KernelIdeal.Whole

end
-- ==== Proof.V.Tile1.lean ====
/- One block of 256 rows of the second pallas_call over the extended reals: its two results are the layer's rows. -/
module

public import proofs.«01_k».proof.Proof.KI.R1
public import proofs.«01_k».proof.Proof.V.Spec
public import Idealize.ShloMosaic.Lib.Pointwise

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

/-- Column `l` of chunk `k` of 256 columns. -/
def chunk (k : Fin 9) (l : Fin 256) : Fin 2304 := ⟨256 * k.val + l.val, by omega⟩
theorem chunk_div (j : Fin 2304) : chunk ⟨j.val / 256, by omega⟩ ⟨j.val % 256, by omega⟩ = j := Fin.ext (Nat.div_add_mod j.val 256)

theorem trips1 : k1_t1_loop.trips = 9 := by decide

/-! ## The vector operations at an index -/

/-- One element of the gated activation from its two products and its factors. -/
def gated (g u s sg su : EReal) : EReal := g * (s * sg) * Ideal.logistic (g * (s * sg)) * (u * (s * su))

theorem gated_congr (g g' u u' s s' sg sg' su su' : EReal) (h1 : g = g') (h2 : u = u') (h3 : s = s') (h4 : sg = sg') (h5 : su = su') : gated g u s sg su = gated g' u' s' sg' su' := by
  rw [h1, h2, h3, h4, h5]

theorem pay2_apply (v0 : Vec Ideal S256x1 .f32) (a a' : Vec Ideal S256x7168 .fp8e4m3) (b b' : Vec Ideal S7168x256 .fp8e4m3) (s s' : Vec Ideal S1x256 .f32) (r : Fin 256) (l : Fin 256) :
    k1_pay2 v0 a b a' b' s s' (ix2 r l) = gated (∑ k, a (ix2 r k) * b (ix2 k l)) (∑ k, a' (ix2 r k) * b' (ix2 k l)) (v0 (ix2 r 0)) (s (ix2 0 l)) (s' (ix2 0 l)) := by
  pointwise [k1_pay2]; rfl
theorem pay3_apply (v0 : Vec Ideal S256x1 .f32) (a a' : Vec Ideal S256x7168 .fp8e4m3) (b b' : Vec Ideal S7168x256 .fp8e4m3) (s s' : Vec Ideal S1x256 .f32) (r : Fin 256) (l : Fin 256) :
    k1_pay3 v0 a b a' b' s s' (ix2 r l) = k1_pay2 v0 a b a' b' s s' (ix2 r l) := by
  pointwise [k1_pay3]
theorem pay4_apply (v0 : Vec Ideal S256x1 .f32) (m : FVec Ideal S256x1 .f32) (a a' : Vec Ideal S256x7168 .fp8e4m3) (b b' : Vec Ideal S7168x256 .fp8e4m3) (s s' : Vec Ideal S1x256 .f32) (r : Fin 256) :
    k1_pay4 v0 m a b a' b' s s' (ix2 r 0) = max (m (ix2 r 0)) (amax fun l => k1_pay2 v0 a b a' b' s s' (ix2 r l)) := by
  pointwise [k1_pay4]; rfl
theorem pay1_apply (r : Fin 256) : (k1_pay1 (F := Ideal)) (ix2 r 0) = 0 := by
  pointwise [k1_pay1]
theorem pay5_apply (m : FVec Ideal S256x1 .f32) (r : Fin 256) : k1_pay5 m (ix2 r 0) = scale (m (ix2 r 0)) := by
  pointwise [k1_pay5]; rfl
theorem pay6_apply (m : FVec Ideal S256x1 .f32) (r : Fin 256) (l : Fin 128) : k1_pay6 m (ix2 r l) = scale (m (ix2 r 0)) := by
  rw [← pay5_apply]; pointwise [k1_pay6]
theorem pay7_apply (m : FVec Ideal S256x1 .f32) (v : Vec Ideal S256x2304 .f32) (r : Fin 256) (j : Fin 2304) :
    k1_pay7 m v (ix2 r j) = clip (Ideal.div (v (ix2 r j)) (scale (m (ix2 r 0)))) := by
  rw [← pay5_apply]; pointwise [k1_pay7]; rfl

/-! ## One trip -/

section Loop
variable (c : Dev nD) (i : grid1.Coords) (arg1 : Memref sig .tc .vmem S256x7168 .fp8e4m3) (harg1 : arg1.IsWhole) (arg2 : Memref sig .tc .vmem S256x128 .f32) (harg2 : arg2.IsWhole) (arg3 : Memref sig .tc .vmem S7168x2304 .fp8e4m3) (harg3 : arg3.IsWhole) (arg4 : Memref sig .tc .vmem S7168x2304 .fp8e4m3) (harg4 : arg4.IsWhole) (arg5 : Memref sig .tc .vmem S1x2304 .f32) (harg5 : arg5.IsWhole) (arg6 : Memref sig .tc .vmem S1x2304 .f32) (harg6 : arg6.IsWhole) (arg7 : Memref sig .tc .vmem S256x2304 .fp8e4m3) (harg7 : arg7.IsWhole) (arg8 : Memref sig .tc .vmem S256x128 .f32) (harg8 : arg8.IsWhole) (arg9 : Memref sig .tc .vmem S256x2304 .f32) (harg9 : arg9.IsWhole) (x0 : Vec Ideal S256x7168 .fp8e4m3) (x1 : Vec Ideal S256x128 .f32) (x2 : Vec Ideal S7168x2304 .fp8e4m3) (x3 : Vec Ideal S7168x2304 .fp8e4m3) (x4 : Vec Ideal S1x2304 .f32) (x5 : Vec Ideal S1x2304 .f32)

/-- The row of the activation. -/
abbrev rowAct (r : Fin 256) : Fin 2304 → EReal :=
  actRow (fun k => x0 (ix2 r k)) (x1 (ix2 r 0)) (fun k j => x2 (ix2 k j)) (fun k j => x3 (ix2 k j)) (fun j => x4 (ix2 0 j)) (fun j => x5 (ix2 0 j))

theorem ld_w (x : Vec Ideal S7168x2304 .fp8e4m3) (k : Fin k1_t1_loop.trips) (h : k.val < 9) (a : Fin 7168) (l : Fin 256) :
    View.ld x (Rect.unit (s := S7168x2304) (k1_off1 k) S7168x256.size (k1_off1_inb k)) (ix2 a l) = x (ix2 a (chunk ⟨k.val, h⟩ l)) := by
  show x ((Rect.unit (s := S7168x2304) (k1_off1 k) S7168x256.size (k1_off1_inb k)).emb (ix2 a l)) = _
  congr 1; funext d; refine Fin.ext ?_
  match d with
  | ⟨0, _⟩ => show k1_off1 k 0 + 1 * a.val = a.val; rw [k1_off1_eq]; show 0 + 1 * a.val = a.val; omega
  | ⟨1, _⟩ => show k1_off1 k 1 + 1 * l.val = 256 * k.val + l.val; rw [k1_off1_eq]; show 256 * k.val + 1 * l.val = _; omega
theorem ld_s (x : Vec Ideal S1x2304 .f32) (k : Fin k1_t1_loop.trips) (h : k.val < 9) (l : Fin 256) :
    View.ld x (Rect.unit (s := S1x2304) (k1_off2 k) S1x256.size (k1_off2_inb k)) (ix2 0 l) = x (ix2 0 (chunk ⟨k.val, h⟩ l)) := by
  show x ((Rect.unit (s := S1x2304) (k1_off2 k) S1x256.size (k1_off2_inb k)).emb (ix2 0 l)) = _
  congr 1; funext d; refine Fin.ext ?_
  match d with
  | ⟨0, _⟩ => show k1_off2 k 0 + 1 * 0 = 0; rw [k1_off2_eq]; rfl
  | ⟨1, _⟩ => show k1_off2 k 1 + 1 * l.val = 256 * k.val + l.val; rw [k1_off2_eq]; show 256 * k.val + 1 * l.val = _; omega

/-- The tile of the activation trip `k` computes. -/
def tile (k : Fin k1_t1_loop.trips) : FVec Ideal S256x256 .f32 :=
  k1_pay2 (View.readAt (Elt Ideal) arg2.view (Rect.unit (s := S256x128) ![0, 0] S256x1.size inb_S256x128_S256x1_0_0).toLoadRect (harg2.unread x1)) (View.readAt (Elt Ideal) arg1.view (Rect.unit (s := S256x7168) ![0, 0] S256x7168.size inb_S256x7168_S256x7168_0_0).toLoadRect (harg1.unread x0))
    (View.readAt (Elt Ideal) arg3.view (Rect.unit (s := S7168x2304) (k1_off1 k) S7168x256.size (k1_off1_inb k)).toLoadRect (harg3.unread x2))
    (View.readAt (Elt Ideal) arg1.view (Rect.unit (s := S256x7168) ![0, 0] S256x7168.size inb_S256x7168_S256x7168_0_0).toLoadRect (harg1.unread x0))
    (View.readAt (Elt Ideal) arg4.view (Rect.unit (s := S7168x2304) (k1_off1 k) S7168x256.size (k1_off1_inb k)).toLoadRect (harg4.unread x3))
    (View.readAt (Elt Ideal) arg5.view (Rect.unit (s := S1x2304) (k1_off2 k) S1x256.size (k1_off2_inb k)).toLoadRect (harg5.unread x4))
    (View.readAt (Elt Ideal) arg6.view (Rect.unit (s := S1x2304) (k1_off2 k) S1x256.size (k1_off2_inb k)).toLoadRect (harg6.unread x5))

theorem tile_apply (k : Fin k1_t1_loop.trips) (h : k.val < 9) (r l : Fin 256) :
    tile arg1 harg1 arg2 harg2 arg3 harg3 arg4 harg4 arg5 harg5 arg6 harg6 x0 x1 x2 x3 x4 x5 k (ix2 r l) = rowAct x0 x1 x2 x3 x4 x5 r (chunk ⟨k.val, h⟩ l) := by
  unfold tile
  rw [View.readAt_eq_ld arg1.view, View.readAt_eq_ld arg2.view, View.readAt_eq_ld arg3.view, View.readAt_eq_ld arg4.view, View.readAt_eq_ld arg5.view, View.readAt_eq_ld arg6.view,
    harg1.read_unread, harg2.read_unread, harg3.read_unread, harg4.read_unread, harg5.read_unread, harg6.read_unread, pay2_apply,
    View.ld_unit_zero (by funext a; fin_cases a <;> rfl)]
  have e : View.ld x1 (Rect.unit (s := S256x128) ![0, 0] S256x1.size inb_S256x128_S256x1_0_0) (ix2 r 0) = x1 (ix2 r 0) := by
    show x1 ((Rect.unit (s := S256x128) ![0, 0] S256x1.size inb_S256x128_S256x1_0_0).emb (ix2 r 0)) = _
    congr 1; funext d; refine Fin.ext ?_
    match d with
    | ⟨0, _⟩ => show 0 + 1 * r.val = r.val; omega
    | ⟨1, _⟩ => show 0 + 1 * 0 = 0; rfl
  exact gated_congr _ _ _ _ _ _ _ _ _ _ (Finset.sum_congr rfl fun a _ => congrArg (x0 (ix2 r a) * ·) (ld_w x2 k h a l)) (Finset.sum_congr rfl fun a _ => congrArg (x0 (ix2 r a) * ·) (ld_w x3 k h a l)) e
    (ld_s x4 k h l) (ld_s x5 k h l)

/-! ## The whole loop -/

/-- The carried maximum after `n` trips, by its upper bounds. -/
theorem carried (r : Fin 256) (b : EReal) : ∀ n : ℕ, n ≤ 9 →
    ((st_k1_t1 (F := Ideal) Variants.none c none i arg1 harg1 arg2 harg2 arg3 harg3 arg4 harg4 arg5 harg5 arg6 harg6 arg7 harg7 arg8 harg8 arg9 harg9 (View.readAt (Elt Ideal) arg2.view (Rect.unit (s := S256x128) ![0, 0] S256x1.size inb_S256x128_S256x1_0_0).toLoadRect (harg2.unread x1)) (harg1.unread x0) (harg3.unread x2) (harg4.unread x3) (harg5.unread x4) (harg6.unread x5) k1_pay1 n).1 (ix2 r 0) ≤ b ↔ 0 ≤ b ∧ ∀ k : Fin 9, k.val < n → ∀ l, absE (rowAct x0 x1 x2 x3 x4 x5 r (chunk k l)) ≤ b)
  | 0, _ => by
    rw [st_k1_t1_zero, pay1_apply]
    exact ⟨fun h => ⟨h, fun _ hk => absurd hk (Nat.not_lt_zero _)⟩, fun h => h.1⟩
  | n + 1, hn => by
    have hn' : n < k1_t1_loop.trips := by rw [trips1]; omega
    have hs := st_k1_t1_succ (F := Ideal) Variants.none c none i arg1 harg1 arg2 harg2 arg3 harg3 arg4 harg4 arg5 harg5 arg6 harg6 arg7 harg7 arg8 harg8 arg9 harg9 (View.readAt (Elt Ideal) arg2.view (Rect.unit (s := S256x128) ![0, 0] S256x1.size inb_S256x128_S256x1_0_0).toLoadRect (harg2.unread x1)) (harg1.unread x0) (harg3.unread x2) (harg4.unread x3) (harg5.unread x4) (harg6.unread x5) k1_pay1 ⟨n, hn'⟩
    dsimp only at hs
    rw [hs]
    dsimp only
    rw [tripR1_eq, pay4_apply, max_le_iff, carried r b n (by omega)]
    have ht : ∀ l, absE (tile arg1 harg1 arg2 harg2 arg3 harg3 arg4 harg4 arg5 harg5 arg6 harg6 x0 x1 x2 x3 x4 x5 ⟨n, hn'⟩ (ix2 r l)) = absE (rowAct x0 x1 x2 x3 x4 x5 r (chunk ⟨n, by omega⟩ l)) := fun l =>
      congrArg absE (tile_apply arg1 harg1 arg2 harg2 arg3 harg3 arg4 harg4 arg5 harg5 arg6 harg6 x0 x1 x2 x3 x4 x5 ⟨n, hn'⟩ (by show n < 9; omega) r l)
    have hm : (amax fun l => tile arg1 harg1 arg2 harg2 arg3 harg3 arg4 harg4 arg5 harg5 arg6 harg6 x0 x1 x2 x3 x4 x5 ⟨n, hn'⟩ (ix2 r l)) ≤ b ↔ ∀ l, absE (rowAct x0 x1 x2 x3 x4 x5 r (chunk ⟨n, by omega⟩ l)) ≤ b := by
      rw [amax, top_le]; exact forall_congr' fun l => by rw [ht]
    refine (and_congr_right' hm).trans ⟨fun h => ⟨h.1.1, fun k hk l => ?_⟩, fun h => ⟨⟨h.1, fun k hk => h.2 k (by omega)⟩, fun l => h.2 ⟨n, by omega⟩ (by show n < n + 1; omega) l⟩⟩
    rcases Nat.lt_succ_iff_lt_or_eq.mp hk with hk' | hk'
    · exact h.1.2 k hk' l
    · have ek : (⟨n, by omega⟩ : Fin 9) = k := Fin.ext hk'.symm
      exact le_of_eq_of_le (congrArg (fun q => absE (rowAct x0 x1 x2 x3 x4 x5 r (chunk q l))) ek.symm) (h.2 l)

theorem amax_loop (r : Fin 256) : (loopEnd1 c i arg1 harg1 arg2 harg2 arg3 harg3 arg4 harg4 arg5 harg5 arg6 harg6 arg7 harg7 arg8 harg8 arg9 harg9 x0 x1 x2 x3 x4 x5).1 (ix2 r 0) = amax (rowAct x0 x1 x2 x3 x4 x5 r) := by
  refine eq_of_forall_ge_iff fun b => ?_
  refine (carried c i arg1 harg1 arg2 harg2 arg3 harg3 arg4 harg4 arg5 harg5 arg6 harg6 arg7 harg7 arg8 harg8 arg9 harg9 x0 x1 x2 x3 x4 x5 r b 9 le_rfl).trans ⟨fun h => ?_, fun h => ⟨(amax_nonneg _).trans h, fun k _ l => (le_top _ _).trans h⟩⟩
  rw [amax, top_le]
  intro j
  rw [← chunk_div j]
  exact h.2 _ (by show j.val / 256 < 9; omega) _

/-- What the trips stored reads back, chunk by chunk. -/
theorem stored (r l : Fin 256) (k : Fin 9) : ∀ n : ℕ, n ≤ 9 → k.val < n →
    View.canon (st_k1_t1 (F := Ideal) Variants.none c none i arg1 harg1 arg2 harg2 arg3 harg3 arg4 harg4 arg5 harg5 arg6 harg6 arg7 harg7 arg8 harg8 arg9 harg9 (View.readAt (Elt Ideal) arg2.view (Rect.unit (s := S256x128) ![0, 0] S256x1.size inb_S256x128_S256x1_0_0).toLoadRect (harg2.unread x1)) (harg1.unread x0) (harg3.unread x2) (harg4.unread x3) (harg5.unread x4) (harg6.unread x5) k1_pay1 n).2 (ix2 r (chunk k l)) = rowAct x0 x1 x2 x3 x4 x5 r (chunk k l)
  | 0, _, hk => absurd hk (Nat.not_lt_zero _)
  | n + 1, hn, hk => by
    have hn' : n < k1_t1_loop.trips := by rw [trips1]; omega
    have hs := st_k1_t1_succ (F := Ideal) Variants.none c none i arg1 harg1 arg2 harg2 arg3 harg3 arg4 harg4 arg5 harg5 arg6 harg6 arg7 harg7 arg8 harg8 arg9 harg9 (View.readAt (Elt Ideal) arg2.view (Rect.unit (s := S256x128) ![0, 0] S256x1.size inb_S256x128_S256x1_0_0).toLoadRect (harg2.unread x1)) (harg1.unread x0) (harg3.unread x2) (harg4.unread x3) (harg5.unread x4) (harg6.unread x5) k1_pay1 ⟨n, hn'⟩
    dsimp only at hs
    rw [hs, tripL1_eq, List.singleton_append]
    dsimp only
    by_cases e : k.val = n
    · have ek : (⟨n, by omega⟩ : Fin 9) = k := Fin.ext e.symm
      have hi : ix2 r (chunk k l) = (Rect.unit (s := S256x2304) (k1_off3 ⟨n, hn'⟩) S256x256.size (k1_off3_inb ⟨n, hn'⟩)).emb (ix2 r l) := by
        funext d; refine Fin.ext ?_
        match d with
        | ⟨0, _⟩ => show r.val = k1_off3 ⟨n, hn'⟩ 0 + 1 * r.val; rw [k1_off3_eq]; show r.val = 0 + 1 * r.val; omega
        | ⟨1, _⟩ => show 256 * k.val + l.val = k1_off3 ⟨n, hn'⟩ 1 + 1 * l.val; rw [k1_off3_eq]; show _ = 256 * n + 1 * l.val; omega
      rw [hi, View.canon_cons_emb]
      refine (pay3_apply _ _ _ _ _ _ _ r l).trans ?_
      refine (tile_apply arg1 harg1 arg2 harg2 arg3 harg3 arg4 harg4 arg5 harg5 arg6 harg6 x0 x1 x2 x3 x4 x5 ⟨n, hn'⟩ (by show n < 9; omega) r l).trans ?_
      exact congrArg (fun q => rowAct x0 x1 x2 x3 x4 x5 r (chunk q l)) ek
    · refine (View.canon_cons_of_not_mem _ _ fun hm => e ?_).trans (stored r l k n (by omega) (by omega))
      have hm' : ix2 r (chunk k l) ∈ (Rect.unit (s := S256x2304) (k1_off3 ⟨n, hn'⟩) S256x256.size (k1_off3_inb ⟨n, hn'⟩)).set := hm
      rw [Rect.mem_set_unit, k1_off3_eq] at hm'
      have h1 := hm' (1 : Fin 2)
      have h2 : 256 * n ≤ 256 * k.val + l.val := h1.1
      have h3 : 256 * k.val + l.val < 256 * n + 256 := h1.2
      have := l.isLt
      omega

theorem act_loop (r : Fin 256) (j : Fin 2304) : View.canon (loopEnd1 c i arg1 harg1 arg2 harg2 arg3 harg3 arg4 harg4 arg5 harg5 arg6 harg6 arg7 harg7 arg8 harg8 arg9 harg9 x0 x1 x2 x3 x4 x5).2 (ix2 r j) = rowAct x0 x1 x2 x3 x4 x5 r j := by
  rw [← chunk_div j]
  exact stored c i arg1 harg1 arg2 harg2 arg3 harg3 arg4 harg4 arg5 harg5 arg6 harg6 arg7 harg7 arg8 harg8 arg9 harg9 x0 x1 x2 x3 x4 x5 r _ _ 9 le_rfl (by show j.val / 256 < 9; omega)

/-- The codes of the activation, -/
theorem out1_6_apply (r : Fin 256) (j : Fin 2304) : out1_A_6 c i arg1 harg1 arg2 harg2 arg3 harg3 arg4 harg4 arg5 harg5 arg6 harg6 arg7 harg7 arg8 harg8 arg9 harg9 x0 x1 x2 x3 x4 x5 (ix2 r j) = code (rowAct x0 x1 x2 x3 x4 x5 r) j := by
  unfold out1_A_6
  rw [pay7_apply, act_loop, amax_loop]
  rfl
/-- and its scale. -/
theorem out1_7_apply (r : Fin 256) (l : Fin 128) : out1_A_7 c i arg1 harg1 arg2 harg2 arg3 harg3 arg4 harg4 arg5 harg5 arg6 harg6 arg7 harg7 arg8 harg8 arg9 harg9 x0 x1 x2 x3 x4 x5 (ix2 r l) = scale (amax (rowAct x0 x1 x2 x3 x4 x5 r)) := by
  unfold out1_A_7
  rw [pay6_apply, amax_loop]

end Loop

end Cert.KernelIdeal.Whole

end
-- ==== Proof.V.Arr1.lean ====
/- The arrays the second pallas_call leaves, whole: every row is the layer's row of the arrays on entry. -/
module

public import proofs.«01_k».proof.Proof.V.Tile1
public import proofs.«01_k».proof.Proof.V.Arr0

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

variable (V : (c : Dev nD) → (b : Ref sig .tc) → Buf (Elt Ideal) ((c : Thread nD τ).loc b))

/-- Row `r` of block `t` of 256 rows. -/
def row1 (t : Fin cfg1.N) (r : Fin 256) : Fin 1536 := ⟨256 * t.val + r.val, by have h : t.val < 6 := lt_of_lt_of_eq t.isLt N_1; omega⟩

theorem at1_0 : ∀ t : Fin cfg1.N, win1_0.index t 0 = t.val ∧ win1_0.index t 1 = 0 := by decide +kernel
theorem blk1_0 (c : Dev nD) (t : Fin cfg1.N) (r : Fin 256) (j : Fin 7168) : (iblk1 V c 0 t : Vec Ideal S256x7168 .fp8e4m3) (ix2 r j) = V c main_v5_2 (ix2 (row1 t r) j) := by
  show V c main_v5_2 ((win1_0.rect t).emb (ix2 r j)) = _
  congr 1
  funext a
  refine Fin.ext ?_
  match a with
  | ⟨0, _⟩ => show win1_0.index t 0 * 256 + 1 * r.val = 256 * t.val + r.val; rw [(at1_0 t).1]; omega
  | ⟨1, _⟩ => show win1_0.index t 1 * 7168 + 1 * j.val = j.val; rw [(at1_0 t).2]; omega

theorem at1_1 : ∀ t : Fin cfg1.N, win1_1.index t 0 = t.val ∧ win1_1.index t 1 = 0 := by decide +kernel
theorem blk1_1 (c : Dev nD) (t : Fin cfg1.N) (r : Fin 256) (j : Fin 128) : (iblk1 V c 1 t : Vec Ideal S256x128 .f32) (ix2 r j) = V c main_v5_3 (ix2 (row1 t r) j) := by
  show V c main_v5_3 ((win1_1.rect t).emb (ix2 r j)) = _
  congr 1
  funext a
  refine Fin.ext ?_
  match a with
  | ⟨0, _⟩ => show win1_1.index t 0 * 256 + 1 * r.val = 256 * t.val + r.val; rw [(at1_1 t).1]; omega
  | ⟨1, _⟩ => show win1_1.index t 1 * 128 + 1 * j.val = j.val; rw [(at1_1 t).2]; omega

theorem at1_2 : ∀ t : Fin cfg1.N, win1_2.index t 0 = 0 ∧ win1_2.index t 1 = 0 := by decide +kernel
theorem blk1_2 (c : Dev nD) (t : Fin cfg1.N) (r : Fin 7168) (j : Fin 2304) : (iblk1 V c 2 t : Vec Ideal S7168x2304 .fp8e4m3) (ix2 r j) = V c main_arg5 (ix2 r j) := by
  show V c main_arg5 ((win1_2.rect t).emb (ix2 r j)) = _
  congr 1
  funext a
  refine Fin.ext ?_
  match a with
  | ⟨0, _⟩ => show win1_2.index t 0 * 7168 + 1 * r.val = r.val; rw [(at1_2 t).1]; omega
  | ⟨1, _⟩ => show win1_2.index t 1 * 2304 + 1 * j.val = j.val; rw [(at1_2 t).2]; omega

theorem at1_3 : ∀ t : Fin cfg1.N, win1_3.index t 0 = 0 ∧ win1_3.index t 1 = 0 := by decide +kernel
theorem blk1_3 (c : Dev nD) (t : Fin cfg1.N) (r : Fin 7168) (j : Fin 2304) : (iblk1 V c 3 t : Vec Ideal S7168x2304 .fp8e4m3) (ix2 r j) = V c main_arg6 (ix2 r j) := by
  show V c main_arg6 ((win1_3.rect t).emb (ix2 r j)) = _
  congr 1
  funext a
  refine Fin.ext ?_
  match a with
  | ⟨0, _⟩ => show win1_3.index t 0 * 7168 + 1 * r.val = r.val; rw [(at1_3 t).1]; omega
  | ⟨1, _⟩ => show win1_3.index t 1 * 2304 + 1 * j.val = j.val; rw [(at1_3 t).2]; omega

theorem at1_4 : ∀ t : Fin cfg1.N, win1_4.index t 0 = 0 ∧ win1_4.index t 1 = 0 := by decide +kernel
theorem blk1_4 (c : Dev nD) (t : Fin cfg1.N) (r : Fin 1) (j : Fin 2304) : (iblk1 V c 4 t : Vec Ideal S1x2304 .f32) (ix2 r j) = V c main_v6 (ix2 r j) := by
  show V c main_v6 ((win1_4.rect t).emb (ix2 r j)) = _
  congr 1
  funext a
  refine Fin.ext ?_
  match a with
  | ⟨0, _⟩ => show win1_4.index t 0 * 1 + 1 * r.val = r.val; rw [(at1_4 t).1]; omega
  | ⟨1, _⟩ => show win1_4.index t 1 * 2304 + 1 * j.val = j.val; rw [(at1_4 t).2]; omega

theorem at1_5 : ∀ t : Fin cfg1.N, win1_5.index t 0 = 0 ∧ win1_5.index t 1 = 0 := by decide +kernel
theorem blk1_5 (c : Dev nD) (t : Fin cfg1.N) (r : Fin 1) (j : Fin 2304) : (iblk1 V c 5 t : Vec Ideal S1x2304 .f32) (ix2 r j) = V c main_v7 (ix2 r j) := by
  show V c main_v7 ((win1_5.rect t).emb (ix2 r j)) = _
  congr 1
  funext a
  refine Fin.ext ?_
  match a with
  | ⟨0, _⟩ => show win1_5.index t 0 * 1 + 1 * r.val = r.val; rw [(at1_5 t).1]; omega
  | ⟨1, _⟩ => show win1_5.index t 1 * 2304 + 1 * j.val = j.val; rw [(at1_5 t).2]; omega

/-- Row `r` of the activation, from the arrays on entry. -/
def arrAct (c : Dev nD) (r : Fin 1536) : Fin 2304 → EReal :=
  actRow (fun k => V c main_v5_2 (ix2 r k)) (V c main_v5_3 (ix2 r 0)) (fun k j => V c main_arg5 (ix2 k j)) (fun k j => V c main_arg6 (ix2 k j)) (fun j => V c main_v6 (ix2 0 j)) (fun j => V c main_v7 (ix2 0 j))

theorem rowAct_blk (c : Dev nD) (t : Fin cfg1.N) (r : Fin 256) :
    rowAct (iblk1 V c 0 t) (iblk1 V c 1 t) (iblk1 V c 2 t) (iblk1 V c 3 t) (iblk1 V c 4 t) (iblk1 V c 5 t) r = arrAct V c (row1 t r) := by
  unfold rowAct arrAct
  congr 1
  · exact funext fun k => blk1_0 V c t r k
  · exact blk1_1 V c t r 0
  · exact funext fun k => funext fun j => blk1_2 V c t k j
  · exact funext fun k => funext fun j => blk1_3 V c t k j
  · exact funext fun j => blk1_4 V c t 0 j
  · exact funext fun j => blk1_5 V c t 0 j

def G1_6 (c : Dev nD) : Buf (Elt Ideal) ((c : Thread nD τ).loc main_v8_0) := fun i : S1536x2304.Idx => code (arrAct V c (i 0)) (i 1)
def G1_7 (c : Dev nD) : Buf (Elt Ideal) ((c : Thread nD τ).loc main_v8_1) := fun i : S1536x128.Idx => scale (amax (arrAct V c (i 0)))

theorem at1_6 : ∀ t : Fin cfg1.N, win1_6.index t 0 = t.val ∧ win1_6.index t 1 = 0 := by decide +kernel
theorem put1_6 (t : Fin cfg1.N) (r : Fin 256) (j : Fin 2304) : ((win1_6.rect t).emb (ix2 r j) : S1536x2304.Idx) = ix2 (row1 t r) j := by
  funext a
  refine Fin.ext ?_
  match a with
  | ⟨0, _⟩ => show win1_6.index t 0 * 256 + 1 * r.val = 256 * t.val + r.val; rw [(at1_6 t).1]; omega
  | ⟨1, _⟩ => show win1_6.index t 1 * 2304 + 1 * j.val = j.val; rw [(at1_6 t).2]; omega

theorem flushed1_6 (c : Dev nD) (t : Fin cfg1.N) : (dat1 V c).flushed 6 t = ((cfg1.win 6).blk t).view.read (Elt Ideal) (G1_6 V c) := by
  show (cfg1.win 6).cut (grid1.coords t) ((dat1 V c).after 6 t) = _
  rw [after1_6]
  unfold outsAt1
  dsimp only
  refine ext2 (m := 256) (n := 2304) fun r j => ?_
  show _ = G1_6 V c ((win1_6.rect t).emb (ix2 r j))
  rw [put1_6]
  refine (out1_6_apply _ _ _ _ _ _ _ _ _ _ _ _ _ _ _ _ _ _ _ _ _ _ _ _ _ _ r j).trans ?_
  rw [rowAct_blk]
  rfl

theorem tiles1_6 (i : (⟨2, ![1536, 2304]⟩ : Shape).Idx) : ∃ t : Fin cfg1.N, (cfg1.win 6).flush t = true ∧ i ∈ ((cfg1.win 6).blk t).view.set := by
  have h0 : (i 0 : Nat) < 1536 := (i 0).isLt
  have h1 : (i 1 : Nat) < 2304 := (i 1).isLt
  have ht : (i 0 : Nat) / 256 < cfg1.N := lt_of_lt_of_eq (by omega) N_1.symm
  refine ⟨⟨_, ht⟩, flush1_6 _, ?_⟩
  show i ∈ ((View.whole main_v8_0).slice (win1_6.rect ⟨_, ht⟩)).set
  rw [View.set_slice_whole, Rect.mem_set_unit]
  intro a
  match a with
  | ⟨0, _⟩ => show win1_6.index ⟨_, ht⟩ 0 * 256 ≤ (i 0 : Nat) ∧ (i 0 : Nat) < win1_6.index ⟨_, ht⟩ 0 * 256 + 256
              rw [(at1_6 _).1]; dsimp only; omega
  | ⟨1, _⟩ => show win1_6.index ⟨_, ht⟩ 1 * 2304 ≤ (i 1 : Nat) ∧ (i 1 : Nat) < win1_6.index ⟨_, ht⟩ 1 * 2304 + 2304
              rw [(at1_6 _).2]; omega

theorem final1_6 (c : Dev nD) : (dat1 V c).arrAt 6 cfg1.N = G1_6 V c :=
  (dat1 V c).arrAt_eq_of_cover 6 (G1_6 V c) (fun t _ => flushed1_6 V c t) tiles1_6

theorem at1_7 : ∀ t : Fin cfg1.N, win1_7.index t 0 = t.val ∧ win1_7.index t 1 = 0 := by decide +kernel
theorem put1_7 (t : Fin cfg1.N) (r : Fin 256) (j : Fin 128) : ((win1_7.rect t).emb (ix2 r j) : S1536x128.Idx) = ix2 (row1 t r) j := by
  funext a
  refine Fin.ext ?_
  match a with
  | ⟨0, _⟩ => show win1_7.index t 0 * 256 + 1 * r.val = 256 * t.val + r.val; rw [(at1_7 t).1]; omega
  | ⟨1, _⟩ => show win1_7.index t 1 * 128 + 1 * j.val = j.val; rw [(at1_7 t).2]; omega

theorem flushed1_7 (c : Dev nD) (t : Fin cfg1.N) : (dat1 V c).flushed 7 t = ((cfg1.win 7).blk t).view.read (Elt Ideal) (G1_7 V c) := by
  show (cfg1.win 7).cut (grid1.coords t) ((dat1 V c).after 7 t) = _
  rw [after1_7]
  unfold outsAt1
  dsimp only
  refine ext2 (m := 256) (n := 128) fun r j => ?_
  show _ = G1_7 V c ((win1_7.rect t).emb (ix2 r j))
  rw [put1_7]
  refine (out1_7_apply _ _ _ _ _ _ _ _ _ _ _ _ _ _ _ _ _ _ _ _ _ _ _ _ _ _ r j).trans ?_
  rw [rowAct_blk]
  rfl

theorem tiles1_7 (i : (⟨2, ![1536, 128]⟩ : Shape).Idx) : ∃ t : Fin cfg1.N, (cfg1.win 7).flush t = true ∧ i ∈ ((cfg1.win 7).blk t).view.set := by
  have h0 : (i 0 : Nat) < 1536 := (i 0).isLt
  have h1 : (i 1 : Nat) < 128 := (i 1).isLt
  have ht : (i 0 : Nat) / 256 < cfg1.N := lt_of_lt_of_eq (by omega) N_1.symm
  refine ⟨⟨_, ht⟩, flush1_7 _, ?_⟩
  show i ∈ ((View.whole main_v8_1).slice (win1_7.rect ⟨_, ht⟩)).set
  rw [View.set_slice_whole, Rect.mem_set_unit]
  intro a
  match a with
  | ⟨0, _⟩ => show win1_7.index ⟨_, ht⟩ 0 * 256 ≤ (i 0 : Nat) ∧ (i 0 : Nat) < win1_7.index ⟨_, ht⟩ 0 * 256 + 256
              rw [(at1_7 _).1]; dsimp only; omega
  | ⟨1, _⟩ => show win1_7.index ⟨_, ht⟩ 1 * 128 ≤ (i 1 : Nat) ∧ (i 1 : Nat) < win1_7.index ⟨_, ht⟩ 1 * 128 + 128
              rw [(at1_7 _).2]; omega

theorem final1_7 (c : Dev nD) : (dat1 V c).arrAt 7 cfg1.N = G1_7 V c :=
  (dat1 V c).arrAt_eq_of_cover 7 (G1_7 V c) (fun t _ => flushed1_7 V c t) tiles1_7

end Cert.KernelIdeal.Whole

end
-- ==== Proof.V.List2.lean ====
/- The third pallas_call's stores as lists built group by group: what its two results' pieces are, said once for any group. -/
module

public import proofs.«01_k».proof.Proof.KI.R2

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem inbD (q : Fin 14) : ∀ a, (![0, 512 * q.val] : Fin 2 → Nat) a + S2304x512.size a ≤ S2304x7168.size a := by
  intro a; have := q.isLt; fin_cases a <;> simp <;> omega
theorem inbS (q : Fin 14) : ∀ a, (![0, 512 * q.val] : Fin 2 → Nat) a + S1x512.size a ≤ S1x7168.size a := by
  intro a; have := q.isLt; fin_cases a <;> simp <;> omega
theorem inbO (g : Fin 56) : ∀ a, (![0, 128 * g.val] : Fin 2 → Nat) a + S256x128.size a ≤ S256x7168.size a := by
  intro a; have := g.isLt; fin_cases a <;> simp <;> omega
theorem inbQ (g : Fin 56) : ∀ a, (![0, 1 * g.val] : Fin 2 → Nat) a + S256x1.size a ≤ S256x56.size a := by
  intro a; have := g.isLt; fin_cases a <;> simp <;> omega
theorem slicesP (i : Fin 4) : S256x512.Slices ![0, 128 * i.val] S256x128 :=
  ⟨rfl, by intro a; have := i.isLt; fin_cases a <;> simp <;> omega⟩

/-- The scales of 256 rows of 128 columns. -/
def scale2 (v : FVec F S256x128 .f32) : FVec F S256x1 .f32 :=
  let a := shapeCast S256x1 (multiReduction .maximumf [1] S256 (absf v) 0xFF800000#32 reduces_S256x128_S256 (.inl rfl) rfl) shapeCasts_S256_S256x1
  select (cmpf .oeq a (broadcast S256x1 (Scalar.ofBits .f32 0x00000000#32))) (broadcast S256x1 (Scalar.ofBits .f32 0x3F800000#32))
    (divf a (broadcast S256x1 (Scalar.ofBits .f32 0x43E00000#32)))

/-- The codes of 256 rows of 128 columns. -/
def codes2 (v : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (divf v (broadcastTo S256x128 (scale2 v) broadcasts_S256x1_S256x128)))) bitsLt_fp8e4m3_f32

section
variable (x0 : Vec F S256x2304 .fp8e4m3) (x1 : Vec F S256x128 .f32) (x2 : Vec F S2304x7168 .fp8e4m3) (x3 : Vec F S1x7168 .f32)

/-- 512 columns of the down projection, -/
def downQ (q : Fin 14) : FVec F S256x512 .f32 :=
  k2_pay5 (View.ld x1 r2_0) (View.ld x0 r2_1) (View.ld x2 (Rect.unit (s := S2304x7168) ![0, 512 * q.val] S2304x512.size (inbD q)))
    (View.ld x3 (Rect.unit (s := S1x7168) ![0, 512 * q.val] S1x512.size (inbS q)))
/-- and 128 of them. -/
def downG (g : Fin 56) : FVec F S256x128 .f32 :=
  extractStridedSlice S256x128 ![0, 128 * (g.val % 4)] (downQ x0 x1 x2 x3 ⟨g.val / 4, by omega⟩) (slicesP ⟨g.val % 4, by omega⟩)

/-- The stores of the first `k` groups' codes, last first, -/
def LD : (k : Nat) → k ≤ 56 → List (View.Piece (Elt F) S256x7168 .fp8e4m3)
  | 0, _ => []
  | k + 1, h => ⟨Rect.unit ![0, 128 * k] S256x128.size (inbO ⟨k, h⟩), codes2 (downG x0 x1 x2 x3 ⟨k, h⟩)⟩ :: LD k (Nat.le_of_succ_le h)
/-- and of their scales. -/
def LS : (k : Nat) → k ≤ 56 → List (View.Piece (Elt F) S256x56 .f32)
  | 0, _ => []
  | k + 1, h => ⟨Rect.unit ![0, 1 * k] S256x1.size (inbQ ⟨k, h⟩), scale2 (downG x0 x1 x2 x3 ⟨k, h⟩)⟩ :: LS k (Nat.le_of_succ_le h)

theorem pieces2_4 : out2_4 x0 x1 x2 x3 = View.canon (LD x0 x1 x2 x3 56 le_rfl) := by
  sl_kernel_rfl
theorem pieces2_5 : out2_5 x0 x1 x2 x3 = View.canon (LS x0 x1 x2 x3 56 le_rfl) := by
  sl_kernel_rfl

end

end Cert.KernelIdeal.Whole

end
-- ==== Proof.V.Tile2.lean ====
/- One block of 256 rows of the third pallas_call over the extended reals: its two results are the layer's rows. -/
module

public import proofs.«01_k».proof.Proof.V.List2
public import proofs.«01_k».proof.Proof.V.Spec
public import Idealize.ShloMosaic.Lib.Pointwise

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

/-! ## Stores of equal column groups, read back -/

section Cols
variable {m n w N : Nat} {e : EltTy} (inb : ∀ g : Fin N, ∀ a, (![0, w * g.val] : Fin 2 → Nat) a + (![m, w] : Fin 2 → Nat) a ≤ (⟨2, ![m, n]⟩ : Shape).size a)
  (Lk : (k : Nat) → k ≤ N → List (View.Piece (Elt Ideal) ⟨2, ![m, n]⟩ e))
  (f : (g : Fin N) → (⟨2, ![m, w]⟩ : Shape).Idx → Elt Ideal e)
  (hs : ∀ k (h : k < N), Lk (k + 1) h = ⟨Rect.unit ![0, w * k] ![m, w] (inb ⟨k, h⟩), f ⟨k, h⟩⟩ :: Lk k h.le)
include hs

/-- A stored group reads back. -/
theorem canon_cols (r : Fin m) (l : Fin w) (g : Fin N) (j : Fin n) (hj : j.val = w * g.val + l.val) : ∀ (k : Nat) (h : k ≤ N), g.val < k →
    View.canon (Lk k h) (ix2 r j) = f g (ix2 r l)
  | 0, _, hg => absurd hg (Nat.not_lt_zero _)
  | k + 1, h, hg => by
    by_cases ek : g.val = k
    · have eg : (⟨k, h⟩ : Fin N) = g := Fin.ext ek.symm
      have hi : ix2 r j = (Rect.unit (s := ⟨2, ![m, n]⟩) ![0, w * k] ![m, w] (inb ⟨k, h⟩)).emb (ix2 r l) := by
        funext a; refine Fin.ext ?_
        match a with
        | ⟨0, _⟩ => show r.val = 0 + 1 * r.val; omega
        | ⟨1, _⟩ => show j.val = w * k + 1 * l.val; rw [hj, ek]; omega
      rw [hs, hi, ← eg]
      exact View.canon_cons_emb (Rect.unit (s := ⟨2, ![m, n]⟩) ![0, w * k] ![m, w] (inb ⟨k, h⟩)) (f ⟨k, h⟩) _ (ix2 r l)
    · rw [hs]
      refine (View.canon_cons_of_not_mem _ _ fun hm => ek ?_).trans (canon_cols r l g j hj k (Nat.le_of_succ_le h) (by omega))
      have hm' : ix2 r j ∈ (Rect.unit (s := ⟨2, ![m, n]⟩) ![0, w * k] ![m, w] (inb ⟨k, h⟩)).set := hm
      rw [Rect.mem_set_unit] at hm'
      have h1 := hm' (1 : Fin 2)
      have h2 : w * k ≤ j.val := h1.1
      have h3 : j.val < w * k + w := h1.2
      have hl := l.isLt
      rw [hj] at h2 h3
      have h4 : g.val < k + 1 := hg
      have h5 : g.val < k := by omega
      have h6 : w * (g.val + 1) ≤ w * k := Nat.mul_le_mul_left w h5
      rw [Nat.mul_succ] at h6
      omega
end Cols

/-! ## The vector operations at an index -/

theorem scale2_apply (v : FVec Ideal S256x128 .f32) (r : Fin 256) : scale2 v (ix2 r 0) = scale (amax fun l => v (ix2 r l)) := by
  pointwise [scale2]; rfl
theorem codes2_apply (v : FVec Ideal S256x128 .f32) (r : Fin 256) (l : Fin 128) : codes2 v (ix2 r l) = code (fun l => v (ix2 r l)) l := by
  unfold code
  rw [← scale2_apply]; pointwise [codes2]; rfl
theorem pay5d_apply (v0 : Vec Ideal S256x1 .f32) (a : Vec Ideal S256x2304 .fp8e4m3) (b : Vec Ideal S2304x512 .fp8e4m3) (s : Vec Ideal S1x512 .f32) (r : Fin 256) (l : Fin 512) :
    k2_pay5 v0 a b s (ix2 r l) = (∑ k, a (ix2 r k) * b (ix2 k l)) * (v0 (ix2 r 0) * s (ix2 0 l)) := by
  pointwise [k2_pay5, k2_pay4]

section
variable (x0 : Vec Ideal S256x2304 .fp8e4m3) (x1 : Vec Ideal S256x128 .f32) (x2 : Vec Ideal S2304x7168 .fp8e4m3) (x3 : Vec Ideal S1x7168 .f32)

/-- The row of the down projection. -/
abbrev rowDown (r : Fin 256) : Fin 7168 → EReal :=
  pRow (fun k => x0 (ix2 r k)) (x1 (ix2 r 0)) (fun k j => x2 (ix2 k j)) (fun j => x3 (ix2 0 j))

theorem downQ_apply (q : Fin 14) (r : Fin 256) (l : Fin 512) (j : Fin 7168) (hj : j.val = 512 * q.val + l.val) :
    downQ x0 x1 x2 x3 q (ix2 r l) = rowDown x0 x1 x2 x3 r j := by
  unfold downQ
  rw [pay5d_apply]
  have e1 : View.ld x1 r2_0 (ix2 r 0) = x1 (ix2 r 0) := by
    show x1 (r2_0.emb (ix2 r 0)) = _
    congr 1; funext d; refine Fin.ext ?_
    match d with
    | ⟨0, _⟩ => show 0 + 1 * r.val = r.val; omega
    | ⟨1, _⟩ => show 0 + 1 * 0 = 0; rfl
  have e2 : ∀ k, View.ld x2 (Rect.unit (s := S2304x7168) ![0, 512 * q.val] S2304x512.size (inbD q)) (ix2 k l) = x2 (ix2 k j) := fun k => by
    show x2 ((Rect.unit (s := S2304x7168) ![0, 512 * q.val] S2304x512.size (inbD q)).emb (ix2 k l)) = _
    congr 1; funext d; refine Fin.ext ?_
    match d with
    | ⟨0, _⟩ => show 0 + 1 * k.val = k.val; omega
    | ⟨1, _⟩ => show 512 * q.val + 1 * l.val = j.val; omega
  have e3 : View.ld x3 (Rect.unit (s := S1x7168) ![0, 512 * q.val] S1x512.size (inbS q)) (ix2 0 l) = x3 (ix2 0 j) := by
    show x3 ((Rect.unit (s := S1x7168) ![0, 512 * q.val] S1x512.size (inbS q)).emb (ix2 0 l)) = _
    congr 1; funext d; refine Fin.ext ?_
    match d with
    | ⟨0, _⟩ => show 0 + 1 * 0 = 0; rfl
    | ⟨1, _⟩ => show 512 * q.val + 1 * l.val = j.val; omega
  rw [e1, e3, View.ld_unit_zero (by funext a; fin_cases a <;> rfl)]
  simp only [e2]
  rfl

theorem downG_apply (g : Fin 56) (r : Fin 256) (l : Fin 128) : downG x0 x1 x2 x3 g (ix2 r l) = rowDown x0 x1 x2 x3 r (col g l) := by
  unfold downG
  have hl := l.isLt
  rw [extractStridedSlice_apply _ _ _ _ (ix2 r (⟨128 * (g.val % 4) + l.val, by omega⟩ : Fin 512)) (by
    intro a
    match a with
    | ⟨0, _⟩ => show r.val = 0 + r.val; omega
    | ⟨1, _⟩ => rfl)]
  exact downQ_apply x0 x1 x2 x3 _ r _ _ (by show 128 * g.val + l.val = 512 * (g.val / 4) + (128 * (g.val % 4) + l.val); omega)

/-- The codes of a group, -/
theorem out2_4_apply (r : Fin 256) (g : Fin 56) (l : Fin 128) :
    out2_4 x0 x1 x2 x3 (ix2 r (col g l)) = code (fun l => rowDown x0 x1 x2 x3 r (col g l)) l := by
  rw [pieces2_4]
  refine (canon_cols (m := 256) (n := 7168) (w := 128) (N := 56) inbO (LD x0 x1 x2 x3) (fun g => codes2 (downG x0 x1 x2 x3 g)) (fun _ _ => rfl) r l g (col g l) rfl 56 le_rfl g.isLt).trans ?_
  rw [codes2_apply]
  simp only [downG_apply]
/-- and its scale. -/
theorem out2_5_apply (r : Fin 256) (g : Fin 56) :
    out2_5 x0 x1 x2 x3 (ix2 r g) = scale (amax fun l => rowDown x0 x1 x2 x3 r (col g l)) := by
  rw [pieces2_5]
  refine (canon_cols (m := 256) (n := 56) (w := 1) (N := 56) inbQ (LS x0 x1 x2 x3) (fun g => scale2 (downG x0 x1 x2 x3 g)) (fun _ _ => rfl) r 0 g g (by show g.val = 1 * g.val + 0; omega) 56 le_rfl g.isLt).trans ?_
  rw [scale2_apply]
  simp only [downG_apply]

end

end Cert.KernelIdeal.Whole

end
-- ==== Proof.V.Arr2.lean ====
/- The arrays the third pallas_call leaves, whole: every row is the layer's row of the arrays on entry. -/
module

public import proofs.«01_k».proof.Proof.V.Tile2
public import proofs.«01_k».proof.Proof.V.Arr0

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

variable (V : (c : Dev nD) → (b : Ref sig .tc) → Buf (Elt Ideal) ((c : Thread nD τ).loc b))

/-- Row `r` of block `t` of 256 rows. -/
def row2 (t : Fin cfg2.N) (r : Fin 256) : Fin 1536 := ⟨256 * t.val + r.val, by have h : t.val < 6 := lt_of_lt_of_eq t.isLt N_2; omega⟩

theorem at2_0 : ∀ t : Fin cfg2.N, win2_0.index t 0 = t.val ∧ win2_0.index t 1 = 0 := by decide +kernel
theorem blk2_0 (c : Dev nD) (t : Fin cfg2.N) (r : Fin 256) (j : Fin 2304) : (iblk2 V c 0 t : Vec Ideal S256x2304 .fp8e4m3) (ix2 r j) = V c main_v8_0 (ix2 (row2 t r) j) := by
  show V c main_v8_0 ((win2_0.rect t).emb (ix2 r j)) = _
  congr 1
  funext a
  refine Fin.ext ?_
  match a with
  | ⟨0, _⟩ => show win2_0.index t 0 * 256 + 1 * r.val = 256 * t.val + r.val; rw [(at2_0 t).1]; omega
  | ⟨1, _⟩ => show win2_0.index t 1 * 2304 + 1 * j.val = j.val; rw [(at2_0 t).2]; omega

theorem at2_1 : ∀ t : Fin cfg2.N, win2_1.index t 0 = t.val ∧ win2_1.index t 1 = 0 := by decide +kernel
theorem blk2_1 (c : Dev nD) (t : Fin cfg2.N) (r : Fin 256) (j : Fin 128) : (iblk2 V c 1 t : Vec Ideal S256x128 .f32) (ix2 r j) = V c main_v8_1 (ix2 (row2 t r) j) := by
  show V c main_v8_1 ((win2_1.rect t).emb (ix2 r j)) = _
  congr 1
  funext a
  refine Fin.ext ?_
  match a with
  | ⟨0, _⟩ => show win2_1.index t 0 * 256 + 1 * r.val = 256 * t.val + r.val; rw [(at2_1 t).1]; omega
  | ⟨1, _⟩ => show win2_1.index t 1 * 128 + 1 * j.val = j.val; rw [(at2_1 t).2]; omega

theorem at2_2 : ∀ t : Fin cfg2.N, win2_2.index t 0 = 0 ∧ win2_2.index t 1 = 0 := by decide +kernel
theorem blk2_2 (c : Dev nD) (t : Fin cfg2.N) (r : Fin 2304) (j : Fin 7168) : (iblk2 V c 2 t : Vec Ideal S2304x7168 .fp8e4m3) (ix2 r j) = V c main_arg9 (ix2 r j) := by
  show V c main_arg9 ((win2_2.rect t).emb (ix2 r j)) = _
  congr 1
  funext a
  refine Fin.ext ?_
  match a with
  | ⟨0, _⟩ => show win2_2.index t 0 * 2304 + 1 * r.val = r.val; rw [(at2_2 t).1]; omega
  | ⟨1, _⟩ => show win2_2.index t 1 * 7168 + 1 * j.val = j.val; rw [(at2_2 t).2]; omega

theorem at2_3 : ∀ t : Fin cfg2.N, win2_3.index t 0 = 0 ∧ win2_3.index t 1 = 0 := by decide +kernel
theorem blk2_3 (c : Dev nD) (t : Fin cfg2.N) (r : Fin 1) (j : Fin 7168) : (iblk2 V c 3 t : Vec Ideal S1x7168 .f32) (ix2 r j) = V c main_v9 (ix2 r j) := by
  show V c main_v9 ((win2_3.rect t).emb (ix2 r j)) = _
  congr 1
  funext a
  refine Fin.ext ?_
  match a with
  | ⟨0, _⟩ => show win2_3.index t 0 * 1 + 1 * r.val = r.val; rw [(at2_3 t).1]; omega
  | ⟨1, _⟩ => show win2_3.index t 1 * 7168 + 1 * j.val = j.val; rw [(at2_3 t).2]; omega

/-- Row `r` of the down projection, from the arrays on entry. -/
def arrDown (c : Dev nD) (r : Fin 1536) : Fin 7168 → EReal :=
  pRow (fun k => V c main_v8_0 (ix2 r k)) (V c main_v8_1 (ix2 r 0)) (fun k j => V c main_arg9 (ix2 k j)) (fun j => V c main_v9 (ix2 0 j))

theorem rowDown_blk (c : Dev nD) (t : Fin cfg2.N) (r : Fin 256) :
    rowDown (iblk2 V c 0 t) (iblk2 V c 1 t) (iblk2 V c 2 t) (iblk2 V c 3 t) r = arrDown V c (row2 t r) := by
  unfold rowDown arrDown
  congr 1
  · exact funext fun k => blk2_0 V c t r k
  · exact blk2_1 V c t r 0
  · exact funext fun k => funext fun j => blk2_2 V c t k j
  · exact funext fun j => blk2_3 V c t 0 j

def G2_4 (c : Dev nD) : Buf (Elt Ideal) ((c : Thread nD τ).loc main_v10_0) := fun i : S1536x7168.Idx => code (fun l => arrDown V c (i 0) (col (grp (i 1)) l)) (lane (i 1))
def G2_5 (c : Dev nD) : Buf (Elt Ideal) ((c : Thread nD τ).loc main_v10_1) := fun i : S1536x56.Idx => scale (amax fun l => arrDown V c (i 0) (col (i 1) l))

theorem at2_4 : ∀ t : Fin cfg2.N, win2_4.index t 0 = t.val ∧ win2_4.index t 1 = 0 := by decide +kernel
theorem put2_4 (t : Fin cfg2.N) (r : Fin 256) (j : Fin 7168) : ((win2_4.rect t).emb (ix2 r j) : S1536x7168.Idx) = ix2 (row2 t r) j := by
  funext a
  refine Fin.ext ?_
  match a with
  | ⟨0, _⟩ => show win2_4.index t 0 * 256 + 1 * r.val = 256 * t.val + r.val; rw [(at2_4 t).1]; omega
  | ⟨1, _⟩ => show win2_4.index t 1 * 7168 + 1 * j.val = j.val; rw [(at2_4 t).2]; omega

theorem flushed2_4 (c : Dev nD) (t : Fin cfg2.N) : (dat2 V c).flushed 4 t = ((cfg2.win 4).blk t).view.read (Elt Ideal) (G2_4 V c) := by
  show (cfg2.win 4).cut (grid2.coords t) ((dat2 V c).after 4 t) = _
  rw [after2_4]
  refine ext2 (m := 256) (n := 7168) fun r j => ?_
  show _ = G2_4 V c ((win2_4.rect t).emb (ix2 r j))
  rw [put2_4]
  rw [← col_grp j]
  refine (out2_4_apply _ _ _ _ r (grp j) (lane j)).trans ?_
  rw [rowDown_blk]
  show _ = code (fun l => arrDown V c (row2 t r) (col (grp (col (grp j) (lane j))) l)) (lane (col (grp j) (lane j)))
  rw [col_grp]

theorem tiles2_4 (i : (⟨2, ![1536, 7168]⟩ : Shape).Idx) : ∃ t : Fin cfg2.N, (cfg2.win 4).flush t = true ∧ i ∈ ((cfg2.win 4).blk t).view.set := by
  have h0 : (i 0 : Nat) < 1536 := (i 0).isLt
  have h1 : (i 1 : Nat) < 7168 := (i 1).isLt
  have ht : (i 0 : Nat) / 256 < cfg2.N := lt_of_lt_of_eq (by omega) N_2.symm
  refine ⟨⟨_, ht⟩, flush2_4 _, ?_⟩
  show i ∈ ((View.whole main_v10_0).slice (win2_4.rect ⟨_, ht⟩)).set
  rw [View.set_slice_whole, Rect.mem_set_unit]
  intro a
  match a with
  | ⟨0, _⟩ => show win2_4.index ⟨_, ht⟩ 0 * 256 ≤ (i 0 : Nat) ∧ (i 0 : Nat) < win2_4.index ⟨_, ht⟩ 0 * 256 + 256
              rw [(at2_4 _).1]; dsimp only; omega
  | ⟨1, _⟩ => show win2_4.index ⟨_, ht⟩ 1 * 7168 ≤ (i 1 : Nat) ∧ (i 1 : Nat) < win2_4.index ⟨_, ht⟩ 1 * 7168 + 7168
              rw [(at2_4 _).2]; omega

theorem final2_4 (c : Dev nD) : (dat2 V c).arrAt 4 cfg2.N = G2_4 V c :=
  (dat2 V c).arrAt_eq_of_cover 4 (G2_4 V c) (fun t _ => flushed2_4 V c t) tiles2_4

theorem at2_5 : ∀ t : Fin cfg2.N, win2_5.index t 0 = t.val ∧ win2_5.index t 1 = 0 := by decide +kernel
theorem put2_5 (t : Fin cfg2.N) (r : Fin 256) (j : Fin 56) : ((win2_5.rect t).emb (ix2 r j) : S1536x56.Idx) = ix2 (row2 t r) j := by
  funext a
  refine Fin.ext ?_
  match a with
  | ⟨0, _⟩ => show win2_5.index t 0 * 256 + 1 * r.val = 256 * t.val + r.val; rw [(at2_5 t).1]; omega
  | ⟨1, _⟩ => show win2_5.index t 1 * 56 + 1 * j.val = j.val; rw [(at2_5 t).2]; omega

theorem flushed2_5 (c : Dev nD) (t : Fin cfg2.N) : (dat2 V c).flushed 5 t = ((cfg2.win 5).blk t).view.read (Elt Ideal) (G2_5 V c) := by
  show (cfg2.win 5).cut (grid2.coords t) ((dat2 V c).after 5 t) = _
  rw [after2_5]
  refine ext2 (m := 256) (n := 56) fun r j => ?_
  show _ = G2_5 V c ((win2_5.rect t).emb (ix2 r j))
  rw [put2_5]
  refine (out2_5_apply _ _ _ _ r j).trans ?_
  rw [rowDown_blk]
  rfl

theorem tiles2_5 (i : (⟨2, ![1536, 56]⟩ : Shape).Idx) : ∃ t : Fin cfg2.N, (cfg2.win 5).flush t = true ∧ i ∈ ((cfg2.win 5).blk t).view.set := by
  have h0 : (i 0 : Nat) < 1536 := (i 0).isLt
  have h1 : (i 1 : Nat) < 56 := (i 1).isLt
  have ht : (i 0 : Nat) / 256 < cfg2.N := lt_of_lt_of_eq (by omega) N_2.symm
  refine ⟨⟨_, ht⟩, flush2_5 _, ?_⟩
  show i ∈ ((View.whole main_v10_1).slice (win2_5.rect ⟨_, ht⟩)).set
  rw [View.set_slice_whole, Rect.mem_set_unit]
  intro a
  match a with
  | ⟨0, _⟩ => show win2_5.index ⟨_, ht⟩ 0 * 256 ≤ (i 0 : Nat) ∧ (i 0 : Nat) < win2_5.index ⟨_, ht⟩ 0 * 256 + 256
              rw [(at2_5 _).1]; dsimp only; omega
  | ⟨1, _⟩ => show win2_5.index ⟨_, ht⟩ 1 * 56 ≤ (i 1 : Nat) ∧ (i 1 : Nat) < win2_5.index ⟨_, ht⟩ 1 * 56 + 56
              rw [(at2_5 _).2]; omega

theorem final2_5 (c : Dev nD) : (dat2 V c).arrAt 5 cfg2.N = G2_5 V c :=
  (dat2 V c).arrAt_eq_of_cover 5 (G2_5 V c) (fun t _ => flushed2_5 V c t) tiles2_5

end Cert.KernelIdeal.Whole

end
-- ==== Proof.V.Layer.lean ====
/- The layer's rows from its inputs: what both programs compute. -/
module

public import proofs.«01_k».proof.Proof.V.Spec
public import Idealize.ShloMosaic.Lib.Pointwise

@[expose] public section

noncomputable section

namespace Cert.Spec

open Idealize.ShloMosaic

/-- The inputs by row and column. -/
@[ext] structure Inputs where
  x : Fin 1536 → Fin 7168 → EReal
  c : Fin 8 → Fin 1536 → Fin 7168 → EReal
  p : Fin 8 → Fin 1536 → Fin 56 → EReal
  nw : Fin 7168 → EReal
  pw : Fin 7168 → EReal
  wg : Fin 7168 → Fin 2304 → EReal
  wu : Fin 7168 → Fin 2304 → EReal
  sg : Fin 2304 → EReal
  su : Fin 2304 → EReal
  wd : Fin 2304 → Fin 7168 → EReal
  sd : Fin 7168 → EReal

namespace Inputs
variable (I : Inputs) (r : Fin 1536)

/-- The normalised sum over the senders, -/
def sn : Fin 7168 → EReal := snRow (fun e => I.c e r) (fun e => I.p e r) I.pw
/-- the residual, -/
def h : Fin 7168 → EReal := hRow (I.x r) (fun e => I.c e r) (fun e => I.p e r) I.pw
/-- the residual normalised, -/
def v : Fin 7168 → EReal := vRow (I.x r) (fun e => I.c e r) (fun e => I.p e r) I.pw I.nw
/-- the activation, -/
def act : Fin 2304 → EReal := actRow (code (I.v r)) (scale (amax (I.v r))) I.wg I.wu I.sg I.su
/-- the down projection, -/
def down : Fin 7168 → EReal := pRow (code (I.act r)) (scale (amax (I.act r))) I.wd I.sd
/-- and one group of it. -/
def grpRow (g : Fin 56) (l : Fin 128) : EReal := I.down r (col g l)

/-! The eight results, row by row. -/

def resH : (⟨2, ![1536, 7168]⟩ : Shape).Idx → EReal := fun i => I.h (i 0) (i 1)
def resSn : (⟨2, ![1536, 7168]⟩ : Shape).Idx → EReal := fun i => I.sn (i 0) (i 1)
def resDownCode : (⟨2, ![1536, 7168]⟩ : Shape).Idx → EReal := fun i => code (I.grpRow (i 0) (grp (i 1))) (lane (i 1))
def resDownScale : (⟨2, ![1536, 56]⟩ : Shape).Idx → EReal := fun i => scale (amax (I.grpRow (i 0) (i 1)))
def resCode : (⟨2, ![1536, 7168]⟩ : Shape).Idx → EReal := fun i => code (I.v (i 0)) (i 1)
def resScale : (⟨2, ![1536, 1]⟩ : Shape).Idx → EReal := fun i => scale (amax (I.v (i 0)))
def resActCode : (⟨2, ![1536, 2304]⟩ : Shape).Idx → EReal := fun i => code (I.act (i 0)) (i 1)
def resActScale : (⟨2, ![1536, 1]⟩ : Shape).Idx → EReal := fun i => scale (amax (I.act (i 0)))
end Inputs

/-- The inputs by row and column, from the arrays as the caller gives them. -/
def argIns (a0 : (⟨3, ![2, 768, 7168]⟩ : Shape).Idx → EReal) (a1 : (⟨4, ![8, 2, 768, 7168]⟩ : Shape).Idx → EReal) (a2 : (⟨4, ![8, 2, 768, 56]⟩ : Shape).Idx → EReal)
    (a3 a4 : (⟨1, ![7168]⟩ : Shape).Idx → EReal) (a5 a6 : (⟨2, ![7168, 2304]⟩ : Shape).Idx → EReal) (a7 a8 : (⟨1, ![2304]⟩ : Shape).Idx → EReal)
    (a9 : (⟨2, ![2304, 7168]⟩ : Shape).Idx → EReal) (a10 : (⟨1, ![7168]⟩ : Shape).Idx → EReal) : Inputs where
  x r j := shapeCast ⟨2, ![1536, 7168]⟩ a0 (by decide) (ix2 r j)
  c e r j := shapeCast ⟨3, ![8, 1536, 7168]⟩ a1 (by decide) (ix3 e r j)
  p e r g := shapeCast ⟨3, ![8, 1536, 56]⟩ a2 (by decide) (ix3 e r g)
  nw j := shapeCast ⟨2, ![1, 7168]⟩ a3 (by decide) (ix2 0 j)
  pw j := shapeCast ⟨2, ![1, 7168]⟩ a4 (by decide) (ix2 0 j)
  wg k j := a5 (ix2 k j)
  wu k j := a6 (ix2 k j)
  sg j := shapeCast ⟨2, ![1, 2304]⟩ a7 (by decide) (ix2 0 j)
  su j := shapeCast ⟨2, ![1, 2304]⟩ a8 (by decide) (ix2 0 j)
  wd k j := a9 (ix2 k j)
  sd j := shapeCast ⟨2, ![1, 7168]⟩ a10 (by decide) (ix2 0 j)

end Cert.Spec

end
-- ==== Proof.V.KerEnd.lean ====
/- The kernel from its launch to its return: its eight results from its arguments. -/
module

public import proofs.«01_k».proof.Proof.KI.Run
public import proofs.«01_k».proof.Proof.V.Arr0
public import proofs.«01_k».proof.Proof.V.Arr1
public import proofs.«01_k».proof.Proof.V.Arr2
public import proofs.«01_k».proof.Proof.V.Layer

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.StableHlo

/-- The resources a run of the program owns. -/
local notation "𝕄" => MT nD τ sig Unit (Elt Ideal) ℕ (UR sig nD τ) ℕ

variable (m : (ℓ : Loc nD τ sig) → Buf (Elt Ideal) ℓ) (ρ : Dev nD → PrngReg)

/-- The layer's inputs, from the kernel's arguments. -/
def given (c : Dev nD) : Inputs := argIns (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-! ## The first pallas_call -/

theorem entry0_0 (c : Dev nD) : V1 m ρ c main_v0 = shapeCast S1536x7168 (m ((c : Thread nD τ).loc main_arg0)) shapeCasts_S2x768x7168_S1536x7168 := by
  show after hostOps0 (W0 m ρ c) (Proc.devRef .tc main_v0) = _
  after_results
  rfl
theorem entry0_1 (c : Dev nD) : V1 m ρ c main_v1 = shapeCast S8x1536x7168 (m ((c : Thread nD τ).loc main_arg1)) shapeCasts_S8x2x768x7168_S8x1536x7168 := by
  show after hostOps0 (W0 m ρ c) (Proc.devRef .tc main_v1) = _
  after_results
  rfl
theorem entry0_2 (c : Dev nD) : V1 m ρ c main_v2 = shapeCast S8x1536x56 (m ((c : Thread nD τ).loc main_arg2)) shapeCasts_S8x2x768x56_S8x1536x56 := by
  show after hostOps0 (W0 m ρ c) (Proc.devRef .tc main_v2) = _
  after_results
  rfl
theorem entry0_3 (c : Dev nD) : V1 m ρ c main_v3 = shapeCast S1x7168 (m ((c : Thread nD τ).loc main_arg3)) shapeCasts_S7168_S1x7168 := by
  show after hostOps0 (W0 m ρ c) (Proc.devRef .tc main_v3) = _
  after_results
  rfl
theorem entry0_4 (c : Dev nD) : V1 m ρ c main_v4 = shapeCast S1x7168 (m ((c : Thread nD τ).loc main_arg4)) shapeCasts_S7168_S1x7168 := by
  show after hostOps0 (W0 m ρ c) (Proc.devRef .tc main_v4) = _
  after_results
  rfl

theorem in_x (c : Dev nD) (r : Fin 1536) : arrX (V1 m ρ) c r = (given m c).x r := funext fun j => congrFun (entry0_0 m ρ c) (ix2 r j)
theorem in_c (c : Dev nD) (r : Fin 1536) : arrC (V1 m ρ) c r = fun e => (given m c).c e r := funext fun e => funext fun j => congrFun (entry0_1 m ρ c) (ix3 e r j)
theorem in_p (c : Dev nD) (r : Fin 1536) : arrP (V1 m ρ) c r = fun e => (given m c).p e r := funext fun e => funext fun g => congrFun (entry0_2 m ρ c) (ix3 e r g)
theorem in_nw (c : Dev nD) : arrNw (V1 m ρ) c = (given m c).nw := funext fun j => congrFun (entry0_3 m ρ c) (ix2 0 j)
theorem in_pw (c : Dev nD) : arrPw (V1 m ρ) c = (given m c).pw := funext fun j => congrFun (entry0_4 m ρ c) (ix2 0 j)

theorem in_v (c : Dev nD) (r : Fin 1536) :
    vRow (arrX (V1 m ρ) c r) (arrC (V1 m ρ) c r) (arrP (V1 m ρ) c r) (arrPw (V1 m ρ) c) (arrNw (V1 m ρ) c) = (given m c).v r := by
  rw [in_x, in_c, in_p, in_pw, in_nw]; rfl

theorem in_h (c : Dev nD) (r : Fin 1536) :
    hRow (arrX (V1 m ρ) c r) (arrC (V1 m ρ) c r) (arrP (V1 m ρ) c r) (arrPw (V1 m ρ) c) = (given m c).h r := by
  rw [in_x, in_c, in_p, in_pw]; rfl
theorem in_sn (c : Dev nD) (r : Fin 1536) : snRow (arrC (V1 m ρ) c r) (arrP (V1 m ρ) c r) (arrPw (V1 m ρ) c) = (given m c).sn r := by
  rw [in_c, in_p, in_pw]; rfl

theorem out_h (c : Dev nD) : W2 m ρ c (Proc.devRef .tc main_v5_0) = (given m c).resH :=
  (W2_arr m ρ c 5).trans ((final5 (V1 m ρ) c).trans (funext fun i => congrFun (in_h m ρ c (i 0)) (i 1)))
theorem out_sn (c : Dev nD) : W2 m ρ c (Proc.devRef .tc main_v5_1) = (given m c).resSn :=
  (W2_arr m ρ c 6).trans ((final6 (V1 m ρ) c).trans (funext fun i => congrFun (in_sn m ρ c (i 0)) (i 1)))
theorem out_code (c : Dev nD) : W2 m ρ c (Proc.devRef .tc main_v5_2) = (given m c).resCode :=
  (W2_arr m ρ c 7).trans ((final7 (V1 m ρ) c).trans (funext fun i => congrFun (congrArg code (in_v m ρ c (i 0))) (i 1)))
/-- The scales, which the kernel repeats in 128 columns. -/
theorem out_scale (c : Dev nD) : W2 m ρ c (Proc.devRef .tc main_v5_3) = fun i : S1536x128.Idx => scale (amax ((given m c).v (i 0))) :=
  (W2_arr m ρ c 8).trans ((final8 (V1 m ρ) c).trans (funext fun i => congrArg (fun v => scale (amax v)) (in_v m ρ c (i 0))))

/-! ## The second -/

theorem entry1_6 (c : Dev nD) : V3 m ρ c main_v6 = shapeCast S1x2304 (m ((c : Thread nD τ).loc main_arg7)) shapeCasts_S2304_S1x2304 := by
  show after hostOps1 (W2 m ρ c) (Proc.devRef .tc main_v6) = _
  after_results
  exact congrArg (fun a => shapeCast S1x2304 a shapeCasts_S2304_S1x2304) (W2_args m ρ c main_arg7 (by decide))
theorem entry1_7 (c : Dev nD) : V3 m ρ c main_v7 = shapeCast S1x2304 (m ((c : Thread nD τ).loc main_arg8)) shapeCasts_S2304_S1x2304 := by
  show after hostOps1 (W2 m ρ c) (Proc.devRef .tc main_v7) = _
  after_results
  exact congrArg (fun a => shapeCast S1x2304 a shapeCasts_S2304_S1x2304) (W2_args m ρ c main_arg8 (by decide))
theorem entry1_code (c : Dev nD) : V3 m ρ c main_v5_2 = (given m c).resCode := (W3_of m ρ c main_v5_2 (by decide)).trans (out_code m ρ c)
theorem entry1_scale (c : Dev nD) : V3 m ρ c main_v5_3 = fun i : S1536x128.Idx => scale (amax ((given m c).v (i 0))) :=
  (W3_of m ρ c main_v5_3 (by decide)).trans (out_scale m ρ c)

theorem in_act (c : Dev nD) (r : Fin 1536) : arrAct (V3 m ρ) c r = (given m c).act r := by
  unfold arrAct
  rw [entry1_code, entry1_scale, entry1_6, entry1_7, show V3 m ρ c main_arg5 = _ from W3_args m ρ c main_arg5 (by decide),
    show V3 m ρ c main_arg6 = _ from W3_args m ρ c main_arg6 (by decide)]
  rfl

theorem out_actCode (c : Dev nD) : W4 m ρ c (Proc.devRef .tc main_v8_0) = (given m c).resActCode :=
  (W4_arr m ρ c 6).trans ((final1_6 (V3 m ρ) c).trans (funext fun i => congrFun (congrArg code (in_act m ρ c (i 0))) (i 1)))
theorem out_actScale (c : Dev nD) : W4 m ρ c (Proc.devRef .tc main_v8_1) = fun i : S1536x128.Idx => scale (amax ((given m c).act (i 0))) :=
  (W4_arr m ρ c 7).trans ((final1_7 (V3 m ρ) c).trans (funext fun i => congrArg (fun v => scale (amax v)) (in_act m ρ c (i 0))))

/-! ## The third -/

theorem entry2_9 (c : Dev nD) : V5 m ρ c main_v9 = shapeCast S1x7168 (m ((c : Thread nD τ).loc main_arg10)) shapeCasts_S7168_S1x7168 := by
  show after hostOps2 (W4 m ρ c) (Proc.devRef .tc main_v9) = _
  after_results
  exact congrArg (fun a => shapeCast S1x7168 a shapeCasts_S7168_S1x7168) (W4_args m ρ c main_arg10 (by decide))
theorem entry2_code (c : Dev nD) : V5 m ρ c main_v8_0 = (given m c).resActCode := (W5_of m ρ c main_v8_0 (by decide)).trans (out_actCode m ρ c)
theorem entry2_scale (c : Dev nD) : V5 m ρ c main_v8_1 = fun i : S1536x128.Idx => scale (amax ((given m c).act (i 0))) :=
  (W5_of m ρ c main_v8_1 (by decide)).trans (out_actScale m ρ c)

theorem in_down (c : Dev nD) (r : Fin 1536) : arrDown (V5 m ρ) c r = (given m c).down r := by
  unfold arrDown
  rw [entry2_code, entry2_scale, entry2_9, show V5 m ρ c main_arg9 = _ from W5_args m ρ c main_arg9 (by decide)]
  rfl

theorem out_downCode (c : Dev nD) : W6 m ρ c (Proc.devRef .tc main_v10_0) = (given m c).resDownCode :=
  (W6_arr m ρ c 4).trans ((final2_4 (V5 m ρ) c).trans (funext fun i =>
    congrArg (fun p : Fin 7168 → EReal => code (fun l => p (col (grp (i 1)) l)) (lane (i 1))) (in_down m ρ c (i 0))))
theorem out_downScale (c : Dev nD) : W6 m ρ c (Proc.devRef .tc main_v10_1) = (given m c).resDownScale :=
  (W6_arr m ρ c 5).trans ((final2_5 (V5 m ρ) c).trans (funext fun i =>
    congrArg (fun p : Fin 7168 → EReal => scale (amax fun l => p (col (i 1) l))) (in_down m ρ c (i 0))))

/-! ## What the calls left, at the end -/

/-- What the first call leaves stays as it is. -/
theorem keeps0 (c : Dev nD) (b : Ref sig .tc) (h1 : b ∉ hostOps1_W) (h2 : b ∉ hostOps2_W)
    (h : ∀ w : Fin cfg1.W, Pipeline.arrRef spec1 w = b → (cfg1.win w).isOut = false) (h' : ∀ w : Fin cfg2.W, Pipeline.arrRef spec2 w = b → (cfg2.win w).isOut = false) :
    W6 m ρ c (Proc.devRef .tc b) = W2 m ρ c (Proc.devRef .tc b) :=
  (W6_of m ρ c b h').trans ((W5_of m ρ c b h2).trans ((W4_of m ρ c b h).trans (W3_of m ρ c b h1)))
/-- What the second call leaves stays as it is. -/
theorem keeps1 (c : Dev nD) (b : Ref sig .tc) (h2 : b ∉ hostOps2_W) (h' : ∀ w : Fin cfg2.W, Pipeline.arrRef spec2 w = b → (cfg2.win w).isOut = false) :
    W6 m ρ c (Proc.devRef .tc b) = W4 m ρ c (Proc.devRef .tc b) :=
  (W6_of m ρ c b h').trans (W5_of m ρ c b h2)

/-- The first of the 128 equal columns, reshaped twice. -/
theorem column (f : Fin 1536 → EReal) (a : S1536x128.Idx → EReal) (e : a = fun i => f (i 0)) (h : S1536x128.Slices ![0, 0] S1536x1) (h' : S1536x1.ShapeCasts S1536) (h'' : S1536.ShapeCasts S2x768)
    (k : S1536x1.ShapeCasts S2x768) :
    shapeCast S2x768 (shapeCast S1536 (extractStridedSlice S1536x1 ![0, 0] a h) h') h'' = shapeCast S2x768 (fun i : S1536x1.Idx => f (i 0)) k := by
  subst e
  rw [show extractStridedSlice S1536x1 ![0, 0] (fun i : S1536x128.Idx => f (i 0)) h = fun i : S1536x1.Idx => f (i 0) from
    funext fun i => congrArg f (Fin.ext (Nat.zero_add _))]
  exact funext fun i => congrArg (fun i : S1536x1.Idx => f (i 0)) (Shape.reshapeEquiv_reshapeEquiv h' h'' i)

theorem cast_scale : S1536x1.ShapeCasts S2x768 := by decide

theorem result11 (c : Dev nD) : W7 m ρ c (Proc.devRef .tc main_v11) = shapeCast S2x768x7168 (given m c).resH shapeCasts_S1536x7168_S2x768x7168 := by
  show after hostOps3 (W6 m ρ c) (Proc.devRef .tc main_v11) = _
  after_results
  exact congrArg (fun a => shapeCast S2x768x7168 a shapeCasts_S1536x7168_S2x768x7168) ((keeps0 m ρ c main_v5_0 (by decide) (by decide) (by decide) (by decide)).trans (out_h m ρ c))
theorem result12 (c : Dev nD) : W7 m ρ c (Proc.devRef .tc main_v12) = shapeCast S2x768x7168 (given m c).resSn shapeCasts_S1536x7168_S2x768x7168 := by
  show after hostOps3 (W6 m ρ c) (Proc.devRef .tc main_v12) = _
  after_results
  exact congrArg (fun a => shapeCast S2x768x7168 a shapeCasts_S1536x7168_S2x768x7168) ((keeps0 m ρ c main_v5_1 (by decide) (by decide) (by decide) (by decide)).trans (out_sn m ρ c))
theorem result13 (c : Dev nD) : W7 m ρ c (Proc.devRef .tc main_v13) = shapeCast S8x192x7168 (given m c).resDownCode shapeCasts_S1536x7168_S8x192x7168 := by
  show after hostOps3 (W6 m ρ c) (Proc.devRef .tc main_v13) = _
  after_results
  exact congrArg (fun a => shapeCast S8x192x7168 a shapeCasts_S1536x7168_S8x192x7168) (out_downCode m ρ c)
theorem result14 (c : Dev nD) : W7 m ρ c (Proc.devRef .tc main_v14) = shapeCast S8x192x56 (given m c).resDownScale shapeCasts_S1536x56_S8x192x56 := by
  show after hostOps3 (W6 m ρ c) (Proc.devRef .tc main_v14) = _
  after_results
  exact congrArg (fun a => shapeCast S8x192x56 a shapeCasts_S1536x56_S8x192x56) (out_downScale m ρ c)
theorem result15 (c : Dev nD) : W7 m ρ c (Proc.devRef .tc main_v15) = shapeCast S2x768x7168 (given m c).resCode shapeCasts_S1536x7168_S2x768x7168 := by
  show after hostOps3 (W6 m ρ c) (Proc.devRef .tc main_v15) = _
  after_results
  exact congrArg (fun a => shapeCast S2x768x7168 a shapeCasts_S1536x7168_S2x768x7168) ((keeps0 m ρ c main_v5_2 (by decide) (by decide) (by decide) (by decide)).trans (out_code m ρ c))
theorem result18 (c : Dev nD) : W7 m ρ c (Proc.devRef .tc main_v18) = shapeCast S2x768 (given m c).resScale cast_scale := by
  show after hostOps3 (W6 m ρ c) (Proc.devRef .tc main_v18) = _
  after_results
  exact column (fun r => scale (amax ((given m c).v r))) _ ((keeps0 m ρ c main_v5_3 (by decide) (by decide) (by decide) (by decide)).trans (out_scale m ρ c)) _ _ _ _
theorem result19 (c : Dev nD) : W7 m ρ c (Proc.devRef .tc main_v19) = shapeCast S2x768x2304 (given m c).resActCode shapeCasts_S1536x2304_S2x768x2304 := by
  show after hostOps3 (W6 m ρ c) (Proc.devRef .tc main_v19) = _
  after_results
  exact congrArg (fun a => shapeCast S2x768x2304 a shapeCasts_S1536x2304_S2x768x2304) ((keeps1 m ρ c main_v8_0 (by decide) (by decide)).trans (out_actCode m ρ c))
theorem result22 (c : Dev nD) : W7 m ρ c (Proc.devRef .tc main_v22) = shapeCast S2x768 (given m c).resActScale cast_scale := by
  show after hostOps3 (W6 m ρ c) (Proc.devRef .tc main_v22) = _
  after_results
  exact column (fun r => scale (amax ((given m c).act r))) _ ((keeps1 m ρ c main_v8_1 (by decide) (by decide)).trans (out_actScale m ρ c)) _ _ _ _

/-! ## The run -/

set_option backward.isDefEq.respectTransparency.types false in
/-- Every run ends with each array as the last stretch of host code leaves it. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- Every run ends with the layer's eight results, the arguments unchanged. -/
theorem run : θ_run defs (onTc (τ := τ) (main (F := Ideal))) ⟨m, fun _ => 0, ρ⟩ (fun r => ∀ c : Dev nD,
      r.2.mem ((c : Thread nD τ).loc main_v11) = shapeCast S2x768x7168 (given m c).resH shapeCasts_S1536x7168_S2x768x7168
      ∧ r.2.mem ((c : Thread nD τ).loc main_v12) = shapeCast S2x768x7168 (given m c).resSn shapeCasts_S1536x7168_S2x768x7168
      ∧ r.2.mem ((c : Thread nD τ).loc main_v13) = shapeCast S8x192x7168 (given m c).resDownCode shapeCasts_S1536x7168_S8x192x7168
      ∧ r.2.mem ((c : Thread nD τ).loc main_v14) = shapeCast S8x192x56 (given m c).resDownScale shapeCasts_S1536x56_S8x192x56
      ∧ r.2.mem ((c : Thread nD τ).loc main_v15) = shapeCast S2x768x7168 (given m c).resCode shapeCasts_S1536x7168_S2x768x7168
      ∧ r.2.mem ((c : Thread nD τ).loc main_v18) = shapeCast S2x768 (given m c).resScale cast_scale
      ∧ r.2.mem ((c : Thread nD τ).loc main_v19) = shapeCast S2x768x2304 (given m c).resActCode shapeCasts_S1536x2304_S2x768x2304
      ∧ r.2.mem ((c : Thread nD τ).loc main_v22) = shapeCast S2x768 (given m c).resActScale cast_scale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun _ h c =>
    ⟨(h c _ (mem_uc main_v11 (by decide))).trans (result11 m ρ c),
     (h c _ (mem_uc main_v12 (by decide))).trans (result12 m ρ c),
     (h c _ (mem_uc main_v13 (by decide))).trans (result13 m ρ c),
     (h c _ (mem_uc main_v14 (by decide))).trans (result14 m ρ c),
     (h c _ (mem_uc main_v15 (by decide))).trans (result15 m ρ c),
     (h c _ (mem_uc main_v18 (by decide))).trans (result18 m ρ c),
     (h c _ (mem_uc main_v19 (by decide))).trans (result19 m ρ c),
     (h c _ (mem_uc main_v22 (by decide))).trans (result22 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (ends m ρ)

end Cert.KernelIdeal.Whole

end
-- ==== Proof.V.Ref0.lean ====
/- The reference up to the normalised rows: its arithmetic read at an index. -/
module

public import proofs.«01_k».proof.Proof.Gen.ReferenceIdeal.Frame
public import proofs.«01_k».proof.Proof.V.Spec
public import Idealize.ShloMosaic.Lib.Pointwise

@[expose] public section

set_option maxRecDepth 16384

noncomputable section

namespace Cert.ReferenceIdeal.Layer

open Cert.ReferenceIdeal.Gen
open Idealize.ShloMosaic Idealize.ShloMosaic.TcCoe Idealize.ShloMosaic.Tactic
open Cert.Spec

/-- A column as the reshape counts it. -/
theorem split_col (g : Fin 56) (l : Fin 128) (h : g.val * 128 + l.val < 7168) : (⟨g.val * 128 + l.val, h⟩ : Fin 7168) = col g l :=
  Fin.ext (by show g.val * 128 + l.val = 128 * g.val + l.val; omega)

section
variable (a b : FVec Ideal S1536x56x128 .f32) (p : Vec Ideal S1x1536x56 .f32) (w : Vec Ideal S1x7168 .f32) (x : Vec Ideal S1536x7168 .bf16)

theorem pay8_apply (r : Fin 1536) (j : Fin 7168) :
    k0_pay8 a b p w (ix2 r j) = normRow (fun j => a (ix3 r (grp j) (lane j)) + b (ix3 r (grp j) (lane j)) * p (ix3 0 r (grp j))) (fun j => w (ix2 0 j)) j := by
  pointwise [k0_pay8]
  rfl

theorem pay9_apply (r : Fin 1536) (j : Fin 7168) : k0_pay9 a b p w x (ix2 r j) = x (ix2 r j) + k0_pay8 a b p w (ix2 r j) := by
  unfold k0_pay9; generalize k0_pay8 a b p w = q
  pointwise

theorem pay10_apply (r : Fin 1536) (j : Fin 7168) : k0_pay10 a b p w x (ix2 r j) = k0_pay9 a b p w x (ix2 r j) := by
  unfold k0_pay10; generalize k0_pay9 a b p w x = q
  pointwise

theorem pay11_apply (r : Fin 1536) (j : Fin 7168) :
    k0_pay11 a b p w x (ix2 r j) = Ideal.div (k0_pay9 a b p w x (ix2 r j)) (rms (ssq fun j => k0_pay9 a b p w x (ix2 r j))) := by
  unfold k0_pay11; generalize k0_pay9 a b p w x = q
  pointwise
  rfl
end

theorem pay12_apply (w : Vec Ideal S1x7168 .f32) (r : Fin 1536) (j : Fin 7168) : k0_pay12 w (ix2 r j) = w (ix2 0 j) := by
  pointwise [k0_pay12]

/-- One sender's codes, group by group, -/
theorem pay7_apply (a : Vec Ideal S1x1536x7168 .fp8e4m3) (r : Fin 1536) (g : Fin 56) (l : Fin 128) : k0_pay7 a (ix3 r g l) = a (ix3 0 r (col g l)) := by
  pointwise [k0_pay7]
  rw [split_col]
/-- and its scales. -/
theorem pay5_apply (p : Vec Ideal S1x1536x56 .f32) (r : Fin 1536) (g : Fin 56) : k0_pay5 p (ix3 r g 0) = p (ix3 0 r g) := by
  pointwise [k0_pay5]

theorem pay3_apply (a b c : Vec Ideal S1x1536x7168 .fp8e4m3) (p q s : Vec Ideal S1x1536x56 .f32) (r : Fin 1536) (g : Fin 56) (l : Fin 128) :
    k0_pay3 a p b q c s (ix3 r g l) = a (ix3 0 r (col g l)) * p (ix3 0 r g) + b (ix3 0 r (col g l)) * q (ix3 0 r g) + c (ix3 0 r (col g l)) * s (ix3 0 r g) := by
  pointwise [k0_pay3]
  rw [split_col]

theorem pay6_apply (v d : FVec Ideal S1536x56x128 .f32) (t : FVec Ideal S1536x56x1 .f32) (a b c : Vec Ideal S1x1536x7168 .fp8e4m3) (p q s : Vec Ideal S1x1536x56 .f32) (r : Fin 1536) (g : Fin 56) (l : Fin 128) :
    k0_pay6 v d t a p b q c s (ix3 r g l) = v (ix3 r g l) + d (ix3 r g l) * t (ix3 r g 0) + a (ix3 0 r (col g l)) * p (ix3 0 r g) + b (ix3 0 r (col g l)) * q (ix3 0 r g) + c (ix3 0 r (col g l)) * s (ix3 0 r g) := by
  pointwise [k0_pay6]
  rw [split_col]

end Cert.ReferenceIdeal.Layer

end
-- ==== Proof.V.Ref1.lean ====
/- The reference from the normalised rows to the activation: its arithmetic read at an index. -/
module

public import proofs.«01_k».proof.Proof.Gen.ReferenceIdeal.Frame
public import proofs.«01_k».proof.Proof.V.Spec
public import Idealize.ShloMosaic.Lib.Pointwise

@[expose] public section

set_option maxRecDepth 16384

noncomputable section

namespace Cert.ReferenceIdeal.Layer

open Cert.ReferenceIdeal.Gen
open Idealize.ShloMosaic Idealize.ShloMosaic.TcCoe Idealize.ShloMosaic.Tactic
open Cert.Spec

/-! ## The vector operations, read at an index -/

/-- The scale from the greatest magnitude. -/
theorem scale_apply (m : FVec Ideal S1536x1 .f32) (r : Fin 1536) :
    select (cmpf CmpFPredicate.oeq m (broadcast S1536x1 (FloatOps.ofBits FTy.f32 0x00000000#32))) (broadcast S1536x1 (FloatOps.ofBits FTy.f32 0x3F800000#32)) (divf m (broadcast S1536x1 (FloatOps.ofBits FTy.f32 0x43E00000#32))) (ix2 r 0)
      = scale (m (ix2 r 0)) := by
  pointwise
  rfl

theorem max7168_apply (v : FVec Ideal S1536x7168 .f32) (r : Fin 1536) :
    shapeCast S1536x1 (multiReduction .maximumf [1] S1536 (absf v) 0xFF800000#32 reduces_S1536x7168_S1536 (.inl rfl) rfl) shapeCasts_S1536_S1536x1 (ix2 r 0) = amax fun j => v (ix2 r j) := by
  pointwise
  rfl

theorem max2304_apply (v : FVec Ideal S1536x2304 .f32) (r : Fin 1536) :
    shapeCast S1536x1 (multiReduction .maximumf [1] S1536 (absf v) 0xFF800000#32 reduces_S1536x2304_S1536 (.inl rfl) rfl) shapeCasts_S1536_S1536x1 (ix2 r 0) = amax fun j => v (ix2 r j) := by
  pointwise
  rfl

theorem clip7168_apply (v : FVec Ideal S1536x7168 .f32) (s : FVec Ideal S1536x1 .f32) (r : Fin 1536) (j : Fin 7168) :
    truncf FTy.fp8e4m3 (minimumf (broadcast S1536x7168 (FloatOps.ofBits FTy.f32 0x43E00000#32)) (maximumf (broadcast S1536x7168 (FloatOps.ofBits FTy.f32 0xC3E00000#32))
      (divf v (broadcastTo S1536x7168 s broadcasts_S1536x1_S1536x7168)))) bitsLt_fp8e4m3_f32 (ix2 r j) = clip (Ideal.div (v (ix2 r j)) (s (ix2 r 0))) := by
  pointwise
  rfl

theorem clip2304_apply (v : FVec Ideal S1536x2304 .f32) (s : FVec Ideal S1536x1 .f32) (r : Fin 1536) (j : Fin 2304) :
    truncf FTy.fp8e4m3 (minimumf (broadcast S1536x2304 (FloatOps.ofBits FTy.f32 0x43E00000#32)) (maximumf (broadcast S1536x2304 (FloatOps.ofBits FTy.f32 0xC3E00000#32))
      (divf v (broadcastTo S1536x2304 s broadcasts_S1536x1_S1536x2304)))) bitsLt_fp8e4m3_f32 (ix2 r j) = clip (Ideal.div (v (ix2 r j)) (s (ix2 r 0))) := by
  pointwise
  rfl

/-- One scaled product of codes. -/
theorem up_apply (q : FVec Ideal S1536x7168 .fp8e4m3) (w : FVec Ideal S7168x2304 .fp8e4m3) (s : FVec Ideal S1536x1 .f32) (t : Vec Ideal S1x2304 .f32) (r : Fin 1536) (j : Fin 2304) :
    mulf (matmul dot_S1536x7168_S7168x2304_S1536x2304_1_0_0_1_n_n none q w (constant S1536x2304 .f32 0x00000000#32))
      (mulf (broadcastTo S1536x2304 s broadcasts_S1536x1_S1536x2304) (broadcastTo S1536x2304 (shapeCast S1x2304 t shapeCasts_S1x2304_S1x2304) broadcasts_S1x2304_S1536x2304)) (ix2 r j)
      = (∑ k : Fin 7168, q (ix2 r k) * w (ix2 k j)) * (s (ix2 r 0) * t (ix2 0 j)) := by
  pointwise

theorem gate_apply (g u : FVec Ideal S1536x2304 .f32) (r : Fin 1536) (j : Fin 2304) :
    mulf (mulf g (logistic g)) u (ix2 r j) = g (ix2 r j) * Ideal.logistic (g (ix2 r j)) * u (ix2 r j) := by
  pointwise

/-! ## The payloads -/

section
variable (v w : FVec Ideal S1536x7168 .f32)

theorem pay13_apply (r : Fin 1536) (j : Fin 7168) : k0_pay13 v w (ix2 r j) = v (ix2 r j) * w (ix2 r j) := by
  pointwise [k0_pay13]

theorem pay14_apply (r : Fin 1536) : k0_pay14 v w (ix2 r 0) = scale (amax fun j => k0_pay13 v w (ix2 r j)) := by
  unfold k0_pay14
  exact (scale_apply _ r).trans (congrArg scale (max7168_apply (k0_pay13 v w) r))

theorem pay15_apply (r : Fin 1536) (j : Fin 7168) : k0_pay15 v w (ix2 r j) = clip (Ideal.div (k0_pay13 v w (ix2 r j)) (k0_pay14 v w (ix2 r 0))) := by
  unfold k0_pay15
  exact clip7168_apply (k0_pay13 v w) (k0_pay14 v w) r j

theorem pay16_apply (wg wu : Vec Ideal S7168x2304 .fp8e4m3) (sg su : Vec Ideal S1x2304 .f32) (r : Fin 1536) (j : Fin 2304) :
    k0_pay16 v w wg sg wu su (ix2 r j) = actRow (fun k => k0_pay15 v w (ix2 r k)) (k0_pay14 v w (ix2 r 0)) (fun k j => wg (ix2 k j)) (fun k j => wu (ix2 k j)) (fun j => sg (ix2 0 j)) (fun j => su (ix2 0 j)) j := by
  unfold k0_pay16 actRow
  refine (gate_apply _ _ r j).trans ?_
  rw [up_apply (k0_pay15 v w) wg (k0_pay14 v w) sg r j, up_apply (k0_pay15 v w) wu (k0_pay14 v w) su r j]
end

theorem pay17_apply (v : FVec Ideal S1536x2304 .f32) (r : Fin 1536) : k0_pay17 v (ix2 r 0) = scale (amax fun j => v (ix2 r j)) := by
  unfold k0_pay17
  exact (scale_apply _ r).trans (congrArg scale (max2304_apply v r))

theorem pay18_apply (v : FVec Ideal S1536x2304 .f32) (r : Fin 1536) (j : Fin 2304) : k0_pay18 v (ix2 r j) = clip (Ideal.div (v (ix2 r j)) (k0_pay17 v (ix2 r 0))) := by
  unfold k0_pay18
  exact clip2304_apply v (k0_pay17 v) r j

end Cert.ReferenceIdeal.Layer

end
-- ==== Proof.V.Ref2.lean ====
/- The reference after the activation: its arithmetic read at an index. -/
module

public import proofs.«01_k».proof.Proof.Gen.ReferenceIdeal.Frame
public import proofs.«01_k».proof.Proof.V.Spec
public import Idealize.ShloMosaic.Lib.Pointwise

@[expose] public section

set_option maxRecDepth 16384

noncomputable section

namespace Cert.ReferenceIdeal.Layer

open Cert.ReferenceIdeal.Gen
open Idealize.ShloMosaic Idealize.ShloMosaic.TcCoe Idealize.ShloMosaic.Tactic
open Cert.Spec

/-! ## The vector operations, read at an index -/

theorem scale_group_apply (m : FVec Ideal S1536x56x1 .f32) (r : Fin 1536) (g : Fin 56) :
    select (cmpf CmpFPredicate.oeq m (broadcast S1536x56x1 (FloatOps.ofBits FTy.f32 0x00000000#32))) (broadcast S1536x56x1 (FloatOps.ofBits FTy.f32 0x3F800000#32)) (divf m (broadcast S1536x56x1 (FloatOps.ofBits FTy.f32 0x43E00000#32))) (ix3 r g 0)
      = scale (m (ix3 r g 0)) := by
  pointwise
  rfl

theorem max_group_apply (v : FVec Ideal S1536x56x128 .f32) (r : Fin 1536) (g : Fin 56) :
    shapeCast S1536x56x1 (multiReduction .maximumf [2] S1536x56 (absf v) 0xFF800000#32 reduces_S1536x56x128_S1536x56 (.inl rfl) rfl) shapeCasts_S1536x56_S1536x56x1 (ix3 r g 0) = amax fun l => v (ix3 r g l) := by
  pointwise
  rfl

theorem div_group_apply (v : FVec Ideal S1536x56x128 .f32) (s : FVec Ideal S1536x56x1 .f32) (r : Fin 1536) (g : Fin 56) (l : Fin 128) :
    divf v (broadcastTo S1536x56x128 s broadcasts_S1536x56x1_S1536x56x128) (ix3 r g l) = Ideal.div (v (ix3 r g l)) (s (ix3 r g 0)) := by
  pointwise

theorem down_apply (q : FVec Ideal S1536x2304 .fp8e4m3) (w : FVec Ideal S2304x7168 .fp8e4m3) (s : FVec Ideal S1536x1 .f32) (t : Vec Ideal S1x7168 .f32) (r : Fin 1536) (j : Fin 7168) :
    mulf (matmul dot_S1536x2304_S2304x7168_S1536x7168_1_0_0_1_n_n none q w (constant S1536x7168 .f32 0x00000000#32))
      (mulf (broadcastTo S1536x7168 s broadcasts_S1536x1_S1536x7168) (broadcastTo S1536x7168 (shapeCast S1x7168 t shapeCasts_S1x7168_S1x7168) broadcasts_S1x7168_S1536x7168)) (ix2 r j)
      = (∑ k : Fin 2304, q (ix2 r k) * w (ix2 k j)) * (s (ix2 r 0) * t (ix2 0 j)) := by
  pointwise

theorem split_apply (v : FVec Ideal S1536x7168 .f32) (r : Fin 1536) (g : Fin 56) (l : Fin 128) :
    shapeCast S1536x56x128 v shapeCasts_S1536x7168_S1536x56x128 (ix3 r g l) = v (ix2 r (col g l)) := by
  have hc : ∀ h, (⟨g.val * 128 + l.val, h⟩ : Fin 7168) = col g l := fun h => Fin.ext (by show g.val * 128 + l.val = 128 * g.val + l.val; omega)
  pointwise
  rw [hc]

/-! ## The payloads -/

section
variable (v : FVec Ideal S1536x2304 .f32) (wd : Vec Ideal S2304x7168 .fp8e4m3) (sd : Vec Ideal S1x7168 .f32)

theorem pay19_apply (r : Fin 1536) (g : Fin 56) (l : Fin 128) :
    k0_pay19 v wd sd (ix3 r g l) = pRow (fun k => k0_pay18 v (ix2 r k)) (k0_pay17 v (ix2 r 0)) (fun k j => wd (ix2 k j)) (fun j => sd (ix2 0 j)) (col g l) := by
  unfold k0_pay19 pRow
  exact (split_apply _ r g l).trans (down_apply (k0_pay18 v) wd (k0_pay17 v) sd r (col g l))

theorem pay20_apply (r : Fin 1536) (g : Fin 56) : k0_pay20 v wd sd (ix3 r g 0) = scale (amax fun l => k0_pay19 v wd sd (ix3 r g l)) := by
  unfold k0_pay20
  exact (scale_group_apply _ r g).trans (congrArg scale (max_group_apply (k0_pay19 v wd sd) r g))

theorem pay21_apply (r : Fin 1536) (g : Fin 56) (l : Fin 128) :
    k0_pay21 v wd sd (ix3 r g l) = Ideal.div (k0_pay19 v wd sd (ix3 r g l)) (k0_pay20 v wd sd (ix3 r g 0)) := by
  unfold k0_pay21
  exact div_group_apply (k0_pay19 v wd sd) (k0_pay20 v wd sd) r g l
end

/-- The codes of the last product, group by group, read back in columns. -/
theorem pay1_apply (q : FVec Ideal S1536x56x128 .f32) (r : Fin 1536) (j : Fin 7168) : k0_pay1 q (Scalar.ofBits .f32 0xC3E00000#32) (ix2 r j) = clip (q (ix3 r (grp j) (lane j))) := by
  pointwise [k0_pay1]
  rfl

theorem pay2_apply (q : FVec Ideal S1536x56x1 .f32) (r : Fin 1536) (g : Fin 56) : k0_pay2 q (ix2 r g) = q (ix3 r g 0) := by
  pointwise [k0_pay2]

end Cert.ReferenceIdeal.Layer

end
-- ==== Proof.V.Ref3.lean ====
/- What the reference's one call leaves in each of its outputs, at an index: the layer's rows of its inputs. -/
module

public import proofs.«01_k».proof.Proof.V.Ref0
public import proofs.«01_k».proof.Proof.V.Ref1
public import proofs.«01_k».proof.Proof.V.Ref2
public import proofs.«01_k».proof.Proof.V.Layer
public import Idealize.ShloMosaic.Lib.Pipeline.Value

@[expose] public section

set_option maxRecDepth 16384

noncomputable section

namespace Cert.ReferenceIdeal.Layer

open Cert.ReferenceIdeal.Gen
open Idealize.ShloMosaic Idealize.ShloMosaic.TcCoe Idealize.ShloMosaic.Tactic
open Cert.Spec

theorem pay4_apply (a : Vec Ideal S1x1536x7168 .fp8e4m3) (r : Fin 1536) (g : Fin 56) (l : Fin 128) : k0_pay4 a (ix3 r g l) = a (ix3 0 r (col g l)) := by
  pointwise [k0_pay4]
  rw [split_col]

/-- Sender `e`'s codes, as the reference reads them, -/
theorem ld_codes (x : Vec Ideal S8x1536x7168 .fp8e4m3) (n : Nat) (e : Fin 8) (he : e.val = n) (h) (r : Fin 1536) (j : Fin 7168) :
    View.ld x (Rect.unit (s := S8x1536x7168) ![n, 0, 0] S1x1536x7168.size h) (ix3 0 r j) = x (ix3 e r j) := by
  subst he
  show x ((Rect.unit (s := S8x1536x7168) ![e.val, 0, 0] S1x1536x7168.size h).emb (ix3 0 r j)) = _
  congr 1
  funext a
  refine Fin.ext ?_
  match a with
  | ⟨0, _⟩ => show e.val + 1 * 0 = e.val; omega
  | ⟨1, _⟩ => show 0 + 1 * r.val = r.val; omega
  | ⟨2, _⟩ => show 0 + 1 * j.val = j.val; omega
/-- and its scales. -/
theorem ld_scales (x : Vec Ideal S8x1536x56 .f32) (n : Nat) (e : Fin 8) (he : e.val = n) (h) (r : Fin 1536) (g : Fin 56) :
    View.ld x (Rect.unit (s := S8x1536x56) ![n, 0, 0] S1x1536x56.size h) (ix3 0 r g) = x (ix3 e r g) := by
  subst he
  show x ((Rect.unit (s := S8x1536x56) ![e.val, 0, 0] S1x1536x56.size h).emb (ix3 0 r g)) = _
  congr 1
  funext a
  refine Fin.ext ?_
  match a with
  | ⟨0, _⟩ => show e.val + 1 * 0 = e.val; omega
  | ⟨1, _⟩ => show 0 + 1 * r.val = r.val; omega
  | ⟨2, _⟩ => show 0 + 1 * g.val = g.val; omega

theorem zero2 : (![0, 0] : Fin 2 → Nat) = fun _ => 0 := by funext a; fin_cases a <;> rfl

section
variable (x0 : Vec Ideal S1536x7168 .bf16) (x1 : Vec Ideal S8x1536x7168 .fp8e4m3) (x2 : Vec Ideal S8x1536x56 .f32) (x3 x4 : Vec Ideal S1x7168 .f32)
  (x5 x6 : Vec Ideal S7168x2304 .fp8e4m3) (x7 x8 : Vec Ideal S1x2304 .f32) (x9 : Vec Ideal S2304x7168 .fp8e4m3) (x10 : Vec Ideal S1x7168 .f32)

/-- The call's inputs by row and column. -/
def ins : Inputs where
  x r j := x0 (ix2 r j)
  c e r j := x1 (ix3 e r j)
  p e r g := x2 (ix3 e r g)
  nw j := x3 (ix2 0 j)
  pw j := x4 (ix2 0 j)
  wg k j := x5 (ix2 k j)
  wu k j := x6 (ix2 k j)
  sg j := x7 (ix2 0 j)
  su j := x8 (ix2 0 j)
  wd k j := x9 (ix2 k j)
  sd j := x10 (ix2 0 j)

/-- The sum over the senders. -/
theorem sum_apply (r : Fin 1536) (j : Fin 7168) :
    k0_pay22 x0 x1 x2 x3 x4 x5 x6 x7 x8 x9 x10 (ix3 r (grp j) (lane j)) + k0_pay23 x0 x1 x2 x3 x4 x5 x6 x7 x8 x9 x10 (ix3 r (grp j) (lane j)) * View.ld x2 r0_15 (ix3 0 r (grp j)) = sRow (fun e j => x1 (ix3 e r j)) (fun e g => x2 (ix3 e r g)) j := by
  unfold k0_pay22 k0_pay23 sRow
  rw [pay6_apply, pay3_apply, pay4_apply, pay5_apply, pay7_apply, col_grp,
    ld_codes x1 0 0 rfl, ld_codes x1 1 1 rfl, ld_codes x1 2 2 rfl, ld_codes x1 3 3 rfl, ld_codes x1 4 4 rfl, ld_codes x1 5 5 rfl, ld_codes x1 6 6 rfl, ld_codes x1 7 7 rfl,
    ld_scales x2 0 0 rfl, ld_scales x2 1 1 rfl, ld_scales x2 2 2 rfl, ld_scales x2 3 3 rfl, ld_scales x2 4 4 rfl, ld_scales x2 5 5 rfl, ld_scales x2 6 6 rfl, ld_scales x2 7 7 rfl]

theorem sn_apply (r : Fin 1536) (j : Fin 7168) : k0_pay8 (k0_pay22 x0 x1 x2 x3 x4 x5 x6 x7 x8 x9 x10) (k0_pay23 x0 x1 x2 x3 x4 x5 x6 x7 x8 x9 x10) (View.ld x2 r0_15) (View.ld x4 r0_16) (ix2 r j) = (ins x0 x1 x2 x3 x4 x5 x6 x7 x8 x9 x10).sn r j := by
  rw [pay8_apply, View.ld_unit_zero zero2]
  show normRow _ _ j = normRow (sRow _ _) _ j
  congr 1
  exact funext fun j => sum_apply x0 x1 x2 x3 x4 x5 x6 x7 x8 x9 x10 r j

theorem h_apply (r : Fin 1536) (j : Fin 7168) : k0_pay9 (k0_pay22 x0 x1 x2 x3 x4 x5 x6 x7 x8 x9 x10) (k0_pay23 x0 x1 x2 x3 x4 x5 x6 x7 x8 x9 x10) (View.ld x2 r0_15) (View.ld x4 r0_16) (View.ld x0 r0_17) (ix2 r j) = (ins x0 x1 x2 x3 x4 x5 x6 x7 x8 x9 x10).h r j := by
  rw [pay9_apply, sn_apply x0 x1 x2 x3 x4 x5 x6 x7 x8 x9 x10 r j, View.ld_unit_zero zero2]
  rfl

theorem v_apply (r : Fin 1536) (j : Fin 7168) : k0_pay13 (k0_pay24 x0 x1 x2 x3 x4 x5 x6 x7 x8 x9 x10) (k0_pay25 x0 x1 x2 x3 x4 x5 x6 x7 x8 x9 x10) (ix2 r j) = (ins x0 x1 x2 x3 x4 x5 x6 x7 x8 x9 x10).v r j := by
  rw [pay13_apply]
  unfold k0_pay24 k0_pay25
  rw [pay11_apply, pay12_apply, View.ld_unit_zero zero2 _ x3]
  simp only [h_apply x0 x1 x2 x3 x4 x5 x6 x7 x8 x9 x10 r]
  rfl

theorem vs_apply (r : Fin 1536) : k0_pay14 (k0_pay24 x0 x1 x2 x3 x4 x5 x6 x7 x8 x9 x10) (k0_pay25 x0 x1 x2 x3 x4 x5 x6 x7 x8 x9 x10) (ix2 r 0) = scale (amax ((ins x0 x1 x2 x3 x4 x5 x6 x7 x8 x9 x10).v r)) := by
  rw [pay14_apply]
  exact congrArg (fun f => scale (amax f)) (funext fun j => v_apply x0 x1 x2 x3 x4 x5 x6 x7 x8 x9 x10 r j)

theorem vc_apply (r : Fin 1536) (j : Fin 7168) : k0_pay15 (k0_pay24 x0 x1 x2 x3 x4 x5 x6 x7 x8 x9 x10) (k0_pay25 x0 x1 x2 x3 x4 x5 x6 x7 x8 x9 x10) (ix2 r j) = code ((ins x0 x1 x2 x3 x4 x5 x6 x7 x8 x9 x10).v r) j := by
  rw [pay15_apply, vs_apply x0 x1 x2 x3 x4 x5 x6 x7 x8 x9 x10 r, v_apply x0 x1 x2 x3 x4 x5 x6 x7 x8 x9 x10 r j]
  rfl

theorem act_apply (r : Fin 1536) (j : Fin 2304) : k0_pay26 x0 x1 x2 x3 x4 x5 x6 x7 x8 x9 x10 (ix2 r j) = (ins x0 x1 x2 x3 x4 x5 x6 x7 x8 x9 x10).act r j := by
  unfold k0_pay26
  rw [pay16_apply, vs_apply x0 x1 x2 x3 x4 x5 x6 x7 x8 x9 x10 r, View.ld_unit_zero zero2 _ x5, View.ld_unit_zero zero2 _ x6, View.ld_unit_zero zero2 _ x7, View.ld_unit_zero zero2 _ x8]
  simp only [vc_apply x0 x1 x2 x3 x4 x5 x6 x7 x8 x9 x10 r]
  rfl

theorem acts_apply (r : Fin 1536) : k0_pay17 (k0_pay26 x0 x1 x2 x3 x4 x5 x6 x7 x8 x9 x10) (ix2 r 0) = scale (amax ((ins x0 x1 x2 x3 x4 x5 x6 x7 x8 x9 x10).act r)) := by
  rw [pay17_apply]
  exact congrArg (fun f => scale (amax f)) (funext fun j => act_apply x0 x1 x2 x3 x4 x5 x6 x7 x8 x9 x10 r j)

theorem actc_apply (r : Fin 1536) (j : Fin 2304) : k0_pay18 (k0_pay26 x0 x1 x2 x3 x4 x5 x6 x7 x8 x9 x10) (ix2 r j) = code ((ins x0 x1 x2 x3 x4 x5 x6 x7 x8 x9 x10).act r) j := by
  rw [pay18_apply, acts_apply x0 x1 x2 x3 x4 x5 x6 x7 x8 x9 x10 r, act_apply x0 x1 x2 x3 x4 x5 x6 x7 x8 x9 x10 r j]
  rfl

theorem down_row (r : Fin 1536) (g : Fin 56) (l : Fin 128) : k0_pay19 (k0_pay26 x0 x1 x2 x3 x4 x5 x6 x7 x8 x9 x10) (View.ld x9 r0_22) (View.ld x10 r0_16) (ix3 r g l) = (ins x0 x1 x2 x3 x4 x5 x6 x7 x8 x9 x10).grpRow r g l := by
  rw [pay19_apply, acts_apply x0 x1 x2 x3 x4 x5 x6 x7 x8 x9 x10 r, View.ld_unit_zero zero2 _ x9, View.ld_unit_zero zero2 _ x10]
  simp only [actc_apply x0 x1 x2 x3 x4 x5 x6 x7 x8 x9 x10 r]
  rfl

theorem downs_apply (r : Fin 1536) (g : Fin 56) : k0_pay20 (k0_pay26 x0 x1 x2 x3 x4 x5 x6 x7 x8 x9 x10) (View.ld x9 r0_22) (View.ld x10 r0_16) (ix3 r g 0) = scale (amax ((ins x0 x1 x2 x3 x4 x5 x6 x7 x8 x9 x10).grpRow r g)) := by
  rw [pay20_apply]
  exact congrArg (fun f => scale (amax f)) (funext fun l => down_row x0 x1 x2 x3 x4 x5 x6 x7 x8 x9 x10 r g l)

theorem downc_apply (r : Fin 1536) (g : Fin 56) (l : Fin 128) :
    k0_pay21 (k0_pay26 x0 x1 x2 x3 x4 x5 x6 x7 x8 x9 x10) (View.ld x9 r0_22) (View.ld x10 r0_16) (ix3 r g l) = Ideal.div ((ins x0 x1 x2 x3 x4 x5 x6 x7 x8 x9 x10).grpRow r g l) (scale (amax ((ins x0 x1 x2 x3 x4 x5 x6 x7 x8 x9 x10).grpRow r g))) := by
  rw [pay21_apply, downs_apply x0 x1 x2 x3 x4 x5 x6 x7 x8 x9 x10 r g, down_row x0 x1 x2 x3 x4 x5 x6 x7 x8 x9 x10 r g l]

/-! ## The eight outputs -/

theorem out11_apply (r : Fin 1536) (j : Fin 7168) : out0_11 x0 x1 x2 x3 x4 x5 x6 x7 x8 x9 x10 (ix2 r j) = (ins x0 x1 x2 x3 x4 x5 x6 x7 x8 x9 x10).h r j := by
  unfold out0_11
  rw [View.canon_unit_zero zero2, pay10_apply]
  exact h_apply x0 x1 x2 x3 x4 x5 x6 x7 x8 x9 x10 r j
theorem out12_apply (r : Fin 1536) (j : Fin 7168) : out0_12 x0 x1 x2 x3 x4 x5 x6 x7 x8 x9 x10 (ix2 r j) = (ins x0 x1 x2 x3 x4 x5 x6 x7 x8 x9 x10).sn r j := by
  unfold out0_12
  rw [View.canon_unit_zero zero2]
  exact sn_apply x0 x1 x2 x3 x4 x5 x6 x7 x8 x9 x10 r j
theorem out13_apply (r : Fin 1536) (j : Fin 7168) : out0_13 x0 x1 x2 x3 x4 x5 x6 x7 x8 x9 x10 (ix2 r j) = code ((ins x0 x1 x2 x3 x4 x5 x6 x7 x8 x9 x10).grpRow r (grp j)) (lane j) := by
  unfold out0_13
  rw [View.canon_unit_zero zero2, pay1_apply, downc_apply x0 x1 x2 x3 x4 x5 x6 x7 x8 x9 x10 r]
  rfl
theorem out14_apply (r : Fin 1536) (g : Fin 56) : out0_14 x0 x1 x2 x3 x4 x5 x6 x7 x8 x9 x10 (ix2 r g) = scale (amax ((ins x0 x1 x2 x3 x4 x5 x6 x7 x8 x9 x10).grpRow r g)) := by
  unfold out0_14
  rw [View.canon_unit_zero zero2, pay2_apply]
  exact downs_apply x0 x1 x2 x3 x4 x5 x6 x7 x8 x9 x10 r g
theorem out15_apply (r : Fin 1536) (j : Fin 7168) : out0_15 x0 x1 x2 x3 x4 x5 x6 x7 x8 x9 x10 (ix2 r j) = code ((ins x0 x1 x2 x3 x4 x5 x6 x7 x8 x9 x10).v r) j := by
  unfold out0_15
  rw [View.canon_unit_zero zero2]
  exact vc_apply x0 x1 x2 x3 x4 x5 x6 x7 x8 x9 x10 r j
theorem out16_apply (r : Fin 1536) : out0_16 x0 x1 x2 x3 x4 x5 x6 x7 x8 x9 x10 (ix2 r 0) = scale (amax ((ins x0 x1 x2 x3 x4 x5 x6 x7 x8 x9 x10).v r)) := by
  unfold out0_16
  rw [View.canon_unit_zero zero2]
  exact vs_apply x0 x1 x2 x3 x4 x5 x6 x7 x8 x9 x10 r
theorem out17_apply (r : Fin 1536) (j : Fin 2304) : out0_17 x0 x1 x2 x3 x4 x5 x6 x7 x8 x9 x10 (ix2 r j) = code ((ins x0 x1 x2 x3 x4 x5 x6 x7 x8 x9 x10).act r) j := by
  unfold out0_17
  rw [View.canon_unit_zero zero2]
  exact actc_apply x0 x1 x2 x3 x4 x5 x6 x7 x8 x9 x10 r j
theorem out18_apply (r : Fin 1536) : out0_18 x0 x1 x2 x3 x4 x5 x6 x7 x8 x9 x10 (ix2 r 0) = scale (amax ((ins x0 x1 x2 x3 x4 x5 x6 x7 x8 x9 x10).act r)) := by
  unfold out0_18
  rw [View.canon_unit_zero zero2]
  exact acts_apply x0 x1 x2 x3 x4 x5 x6 x7 x8 x9 x10 r

end

end Cert.ReferenceIdeal.Layer

end
-- ==== Proof.V.RefArr.lean ====
/- The arrays the reference's one call leaves, whole. -/
module

public import proofs.«01_k».proof.Proof.V.Ref3

@[expose] public section

set_option maxRecDepth 16384

noncomputable section

namespace Cert.ReferenceIdeal.Layer

open Cert.ReferenceIdeal.Gen
open Idealize.ShloMosaic Idealize.ShloMosaic.TcCoe Idealize.ShloMosaic.Tactic
open Idealize.SL Idealize.SL.Sem
open Cert.Spec
open Idealize.ShloMosaic.Pipeline (Dat Cfg Window BodyObligation cellOf)

variable (m : (ℓ : Loc nD τ sig) → Buf (Elt Ideal) ℓ)

/-- Two arrays agree when they agree at every row and column. -/
theorem ext2 {m n : Nat} {α : Type} {f g : (⟨2, ![m, n]⟩ : Shape).Idx → α} (h : ∀ r j, f (ix2 r j) = g (ix2 r j)) : f = g :=
  funext fun i => by
    have : i = ix2 (i 0) (i 1) := funext fun a => by match a with | ⟨0, _⟩ => rfl | ⟨1, _⟩ => rfl
    rw [this]; exact h _ _

/-! ## Each window's one block is its whole array -/

theorem blk0 (c : Dev nD) (t : Fin cfg0.N) : (iblk m c 0 t : Vec Ideal S1536x7168 .bf16) = V m c main_v0 :=
  funext fun i => congrArg (V m c main_v0) (funext fun a => Fin.ext (win0_0.rect_emb_val_of_index_zero t a rfl i))
theorem blk1 (c : Dev nD) (t : Fin cfg0.N) : (iblk m c 1 t : Vec Ideal S8x1536x7168 .fp8e4m3) = V m c main_v1 :=
  funext fun i => congrArg (V m c main_v1) (funext fun a => Fin.ext (win0_1.rect_emb_val_of_index_zero t a rfl i))
theorem blk2 (c : Dev nD) (t : Fin cfg0.N) : (iblk m c 2 t : Vec Ideal S8x1536x56 .f32) = V m c main_v2 :=
  funext fun i => congrArg (V m c main_v2) (funext fun a => Fin.ext (win0_2.rect_emb_val_of_index_zero t a rfl i))
theorem blk3 (c : Dev nD) (t : Fin cfg0.N) : (iblk m c 3 t : Vec Ideal S1x7168 .f32) = V m c main_v3 :=
  funext fun i => congrArg (V m c main_v3) (funext fun a => Fin.ext (win0_3.rect_emb_val_of_index_zero t a rfl i))
theorem blk4 (c : Dev nD) (t : Fin cfg0.N) : (iblk m c 4 t : Vec Ideal S1x7168 .f32) = V m c main_v4 :=
  funext fun i => congrArg (V m c main_v4) (funext fun a => Fin.ext (win0_4.rect_emb_val_of_index_zero t a rfl i))
theorem blk5 (c : Dev nD) (t : Fin cfg0.N) : (iblk m c 5 t : Vec Ideal S7168x2304 .fp8e4m3) = V m c main_arg5 :=
  funext fun i => congrArg (V m c main_arg5) (funext fun a => Fin.ext (win0_5.rect_emb_val_of_index_zero t a rfl i))
theorem blk6 (c : Dev nD) (t : Fin cfg0.N) : (iblk m c 6 t : Vec Ideal S7168x2304 .fp8e4m3) = V m c main_arg6 :=
  funext fun i => congrArg (V m c main_arg6) (funext fun a => Fin.ext (win0_6.rect_emb_val_of_index_zero t a rfl i))
theorem blk7 (c : Dev nD) (t : Fin cfg0.N) : (iblk m c 7 t : Vec Ideal S1x2304 .f32) = V m c main_v5 :=
  funext fun i => congrArg (V m c main_v5) (funext fun a => Fin.ext (win0_7.rect_emb_val_of_index_zero t a rfl i))
theorem blk8 (c : Dev nD) (t : Fin cfg0.N) : (iblk m c 8 t : Vec Ideal S1x2304 .f32) = V m c main_v6 :=
  funext fun i => congrArg (V m c main_v6) (funext fun a => Fin.ext (win0_8.rect_emb_val_of_index_zero t a rfl i))
theorem blk9 (c : Dev nD) (t : Fin cfg0.N) : (iblk m c 9 t : Vec Ideal S2304x7168 .fp8e4m3) = V m c main_arg9 :=
  funext fun i => congrArg (V m c main_arg9) (funext fun a => Fin.ext (win0_9.rect_emb_val_of_index_zero t a rfl i))
theorem blk10 (c : Dev nD) (t : Fin cfg0.N) : (iblk m c 10 t : Vec Ideal S1x7168 .f32) = V m c main_v7 :=
  funext fun i => congrArg (V m c main_v7) (funext fun a => Fin.ext (win0_10.rect_emb_val_of_index_zero t a rfl i))

/-- The inputs by row and column, as the call finds them. -/
def insAt (c : Dev nD) : Inputs :=
  ins (V m c main_v0) (V m c main_v1) (V m c main_v2) (V m c main_v3) (V m c main_v4) (V m c main_arg5) (V m c main_arg6) (V m c main_v5) (V m c main_v6) (V m c main_arg9) (V m c main_v7)

theorem insAt_blk (c : Dev nD) (t : Fin cfg0.N) :
    ins (iblk m c 0 t) (iblk m c 1 t) (iblk m c 2 t) (iblk m c 3 t) (iblk m c 4 t) (iblk m c 5 t) (iblk m c 6 t) (iblk m c 7 t) (iblk m c 8 t) (iblk m c 9 t) (iblk m c 10 t) = insAt m c := by
  rw [blk0, blk1, blk2, blk3, blk4, blk5, blk6, blk7, blk8, blk9, blk10]
  rfl

/-! ## The eight arrays -/

/-- The call's only point. -/
def pt : Fin cfg0.N := ⟨0, by decide⟩

theorem put11 (t : Fin cfg0.N) (i : S1536x7168.Idx) : ((win0_11.rect t).emb i : S1536x7168.Idx) = i :=
  funext fun a => Fin.ext (win0_11.rect_emb_val_of_index_zero t a rfl i)
theorem flushed11 (c : Dev nD) (t : Fin cfg0.N) : (dats m 0 c).flushed 11 t = ((cfg0.win 11).blk t).view.read (Elt Ideal) ((insAt m c).resH : Buf (Elt Ideal) ((c : Thread nD τ).loc main_v8_0)) := by
  show (cfg0.win 11).cut (grid0.coords t) ((dats m 0 c).after 11 t) = _
  rw [after0_11]
  refine ext2 (m := 1536) (n := 7168) fun r j => ?_
  show _ = (insAt m c).resH ((win0_11.rect t).emb (ix2 r j))
  rw [put11, ← insAt_blk m c t]
  exact out11_apply _ _ _ _ _ _ _ _ _ _ _ r j
theorem final11 (c : Dev nD) : (dats m 0 c).arrAt 11 cfg0.N = ((insAt m c).resH : Buf (Elt Ideal) ((c : Thread nD τ).loc main_v8_0)) :=
  (dats m 0 c).arrAt_eq_of_cover 11 _ (fun t _ => flushed11 m c t) fun i => ⟨pt, flush0_11 _, by
    show i ∈ ((View.whole main_v8_0).slice (win0_11.rect pt)).set
    rw [View.set_slice_whole, ← Rect.map_emb_univ]
    exact Finset.mem_map.mpr ⟨i, Finset.mem_univ _, put11 pt i⟩⟩

theorem put12 (t : Fin cfg0.N) (i : S1536x7168.Idx) : ((win0_12.rect t).emb i : S1536x7168.Idx) = i :=
  funext fun a => Fin.ext (win0_12.rect_emb_val_of_index_zero t a rfl i)
theorem flushed12 (c : Dev nD) (t : Fin cfg0.N) : (dats m 0 c).flushed 12 t = ((cfg0.win 12).blk t).view.read (Elt Ideal) ((insAt m c).resSn : Buf (Elt Ideal) ((c : Thread nD τ).loc main_v8_1)) := by
  show (cfg0.win 12).cut (grid0.coords t) ((dats m 0 c).after 12 t) = _
  rw [after0_12]
  refine ext2 (m := 1536) (n := 7168) fun r j => ?_
  show _ = (insAt m c).resSn ((win0_12.rect t).emb (ix2 r j))
  rw [put12, ← insAt_blk m c t]
  exact out12_apply _ _ _ _ _ _ _ _ _ _ _ r j
theorem final12 (c : Dev nD) : (dats m 0 c).arrAt 12 cfg0.N = ((insAt m c).resSn : Buf (Elt Ideal) ((c : Thread nD τ).loc main_v8_1)) :=
  (dats m 0 c).arrAt_eq_of_cover 12 _ (fun t _ => flushed12 m c t) fun i => ⟨pt, flush0_12 _, by
    show i ∈ ((View.whole main_v8_1).slice (win0_12.rect pt)).set
    rw [View.set_slice_whole, ← Rect.map_emb_univ]
    exact Finset.mem_map.mpr ⟨i, Finset.mem_univ _, put12 pt i⟩⟩

theorem put13 (t : Fin cfg0.N) (i : S1536x7168.Idx) : ((win0_13.rect t).emb i : S1536x7168.Idx) = i :=
  funext fun a => Fin.ext (win0_13.rect_emb_val_of_index_zero t a rfl i)
theorem flushed13 (c : Dev nD) (t : Fin cfg0.N) : (dats m 0 c).flushed 13 t = ((cfg0.win 13).blk t).view.read (Elt Ideal) ((insAt m c).resDownCode : Buf (Elt Ideal) ((c : Thread nD τ).loc main_v8_2)) := by
  show (cfg0.win 13).cut (grid0.coords t) ((dats m 0 c).after 13 t) = _
  rw [after0_13]
  refine ext2 (m := 1536) (n := 7168) fun r j => ?_
  show _ = (insAt m c).resDownCode ((win0_13.rect t).emb (ix2 r j))
  rw [put13, ← insAt_blk m c t]
  exact out13_apply _ _ _ _ _ _ _ _ _ _ _ r j
theorem final13 (c : Dev nD) : (dats m 0 c).arrAt 13 cfg0.N = ((insAt m c).resDownCode : Buf (Elt Ideal) ((c : Thread nD τ).loc main_v8_2)) :=
  (dats m 0 c).arrAt_eq_of_cover 13 _ (fun t _ => flushed13 m c t) fun i => ⟨pt, flush0_13 _, by
    show i ∈ ((View.whole main_v8_2).slice (win0_13.rect pt)).set
    rw [View.set_slice_whole, ← Rect.map_emb_univ]
    exact Finset.mem_map.mpr ⟨i, Finset.mem_univ _, put13 pt i⟩⟩

theorem put14 (t : Fin cfg0.N) (i : S1536x56.Idx) : ((win0_14.rect t).emb i : S1536x56.Idx) = i :=
  funext fun a => Fin.ext (win0_14.rect_emb_val_of_index_zero t a rfl i)
theorem flushed14 (c : Dev nD) (t : Fin cfg0.N) : (dats m 0 c).flushed 14 t = ((cfg0.win 14).blk t).view.read (Elt Ideal) ((insAt m c).resDownScale : Buf (Elt Ideal) ((c : Thread nD τ).loc main_v8_3)) := by
  show (cfg0.win 14).cut (grid0.coords t) ((dats m 0 c).after 14 t) = _
  rw [after0_14]
  refine ext2 (m := 1536) (n := 56) fun r j => ?_
  show _ = (insAt m c).resDownScale ((win0_14.rect t).emb (ix2 r j))
  rw [put14, ← insAt_blk m c t]
  exact out14_apply _ _ _ _ _ _ _ _ _ _ _ r j
theorem final14 (c : Dev nD) : (dats m 0 c).arrAt 14 cfg0.N = ((insAt m c).resDownScale : Buf (Elt Ideal) ((c : Thread nD τ).loc main_v8_3)) :=
  (dats m 0 c).arrAt_eq_of_cover 14 _ (fun t _ => flushed14 m c t) fun i => ⟨pt, flush0_14 _, by
    show i ∈ ((View.whole main_v8_3).slice (win0_14.rect pt)).set
    rw [View.set_slice_whole, ← Rect.map_emb_univ]
    exact Finset.mem_map.mpr ⟨i, Finset.mem_univ _, put14 pt i⟩⟩

theorem put15 (t : Fin cfg0.N) (i : S1536x7168.Idx) : ((win0_15.rect t).emb i : S1536x7168.Idx) = i :=
  funext fun a => Fin.ext (win0_15.rect_emb_val_of_index_zero t a rfl i)
theorem flushed15 (c : Dev nD) (t : Fin cfg0.N) : (dats m 0 c).flushed 15 t = ((cfg0.win 15).blk t).view.read (Elt Ideal) ((insAt m c).resCode : Buf (Elt Ideal) ((c : Thread nD τ).loc main_v8_4)) := by
  show (cfg0.win 15).cut (grid0.coords t) ((dats m 0 c).after 15 t) = _
  rw [after0_15]
  refine ext2 (m := 1536) (n := 7168) fun r j => ?_
  show _ = (insAt m c).resCode ((win0_15.rect t).emb (ix2 r j))
  rw [put15, ← insAt_blk m c t]
  exact out15_apply _ _ _ _ _ _ _ _ _ _ _ r j
theorem final15 (c : Dev nD) : (dats m 0 c).arrAt 15 cfg0.N = ((insAt m c).resCode : Buf (Elt Ideal) ((c : Thread nD τ).loc main_v8_4)) :=
  (dats m 0 c).arrAt_eq_of_cover 15 _ (fun t _ => flushed15 m c t) fun i => ⟨pt, flush0_15 _, by
    show i ∈ ((View.whole main_v8_4).slice (win0_15.rect pt)).set
    rw [View.set_slice_whole, ← Rect.map_emb_univ]
    exact Finset.mem_map.mpr ⟨i, Finset.mem_univ _, put15 pt i⟩⟩

theorem put16 (t : Fin cfg0.N) (i : S1536x1.Idx) : ((win0_16.rect t).emb i : S1536x1.Idx) = i :=
  funext fun a => Fin.ext (win0_16.rect_emb_val_of_index_zero t a rfl i)
theorem flushed16 (c : Dev nD) (t : Fin cfg0.N) : (dats m 0 c).flushed 16 t = ((cfg0.win 16).blk t).view.read (Elt Ideal) ((insAt m c).resScale : Buf (Elt Ideal) ((c : Thread nD τ).loc main_v8_5)) := by
  show (cfg0.win 16).cut (grid0.coords t) ((dats m 0 c).after 16 t) = _
  rw [after0_16]
  refine ext2 (m := 1536) (n := 1) fun r j => ?_
  have hj : j = 0 := Subsingleton.elim _ _
  subst hj
  show _ = (insAt m c).resScale ((win0_16.rect t).emb (ix2 r 0))
  rw [put16, ← insAt_blk m c t]
  exact out16_apply _ _ _ _ _ _ _ _ _ _ _ r
theorem final16 (c : Dev nD) : (dats m 0 c).arrAt 16 cfg0.N = ((insAt m c).resScale : Buf (Elt Ideal) ((c : Thread nD τ).loc main_v8_5)) :=
  (dats m 0 c).arrAt_eq_of_cover 16 _ (fun t _ => flushed16 m c t) fun i => ⟨pt, flush0_16 _, by
    show i ∈ ((View.whole main_v8_5).slice (win0_16.rect pt)).set
    rw [View.set_slice_whole, ← Rect.map_emb_univ]
    exact Finset.mem_map.mpr ⟨i, Finset.mem_univ _, put16 pt i⟩⟩

theorem put17 (t : Fin cfg0.N) (i : S1536x2304.Idx) : ((win0_17.rect t).emb i : S1536x2304.Idx) = i :=
  funext fun a => Fin.ext (win0_17.rect_emb_val_of_index_zero t a rfl i)
theorem flushed17 (c : Dev nD) (t : Fin cfg0.N) : (dats m 0 c).flushed 17 t = ((cfg0.win 17).blk t).view.read (Elt Ideal) ((insAt m c).resActCode : Buf (Elt Ideal) ((c : Thread nD τ).loc main_v8_6)) := by
  show (cfg0.win 17).cut (grid0.coords t) ((dats m 0 c).after 17 t) = _
  rw [after0_17]
  refine ext2 (m := 1536) (n := 2304) fun r j => ?_
  show _ = (insAt m c).resActCode ((win0_17.rect t).emb (ix2 r j))
  rw [put17, ← insAt_blk m c t]
  exact out17_apply _ _ _ _ _ _ _ _ _ _ _ r j
theorem final17 (c : Dev nD) : (dats m 0 c).arrAt 17 cfg0.N = ((insAt m c).resActCode : Buf (Elt Ideal) ((c : Thread nD τ).loc main_v8_6)) :=
  (dats m 0 c).arrAt_eq_of_cover 17 _ (fun t _ => flushed17 m c t) fun i => ⟨pt, flush0_17 _, by
    show i ∈ ((View.whole main_v8_6).slice (win0_17.rect pt)).set
    rw [View.set_slice_whole, ← Rect.map_emb_univ]
    exact Finset.mem_map.mpr ⟨i, Finset.mem_univ _, put17 pt i⟩⟩

theorem put18 (t : Fin cfg0.N) (i : S1536x1.Idx) : ((win0_18.rect t).emb i : S1536x1.Idx) = i :=
  funext fun a => Fin.ext (win0_18.rect_emb_val_of_index_zero t a rfl i)
theorem flushed18 (c : Dev nD) (t : Fin cfg0.N) : (dats m 0 c).flushed 18 t = ((cfg0.win 18).blk t).view.read (Elt Ideal) ((insAt m c).resActScale : Buf (Elt Ideal) ((c : Thread nD τ).loc main_v8_7)) := by
  show (cfg0.win 18).cut (grid0.coords t) ((dats m 0 c).after 18 t) = _
  rw [after0_18]
  refine ext2 (m := 1536) (n := 1) fun r j => ?_
  have hj : j = 0 := Subsingleton.elim _ _
  subst hj
  show _ = (insAt m c).resActScale ((win0_18.rect t).emb (ix2 r 0))
  rw [put18, ← insAt_blk m c t]
  exact out18_apply _ _ _ _ _ _ _ _ _ _ _ r
theorem final18 (c : Dev nD) : (dats m 0 c).arrAt 18 cfg0.N = ((insAt m c).resActScale : Buf (Elt Ideal) ((c : Thread nD τ).loc main_v8_7)) :=
  (dats m 0 c).arrAt_eq_of_cover 18 _ (fun t _ => flushed18 m c t) fun i => ⟨pt, flush0_18 _, by
    show i ∈ ((View.whole main_v8_7).slice (win0_18.rect pt)).set
    rw [View.set_slice_whole, ← Rect.map_emb_univ]
    exact Finset.mem_map.mpr ⟨i, Finset.mem_univ _, put18 pt i⟩⟩

end Cert.ReferenceIdeal.Layer

end
-- ==== Proof.V.RefEnd.lean ====
/- The reference from its launch to its return: its eight results from its arguments. -/
module

public import proofs.«01_k».proof.Proof.V.RefArr

@[expose] public section

set_option maxRecDepth 16384

noncomputable section

namespace Cert.ReferenceIdeal.Layer

open Cert.ReferenceIdeal.Gen
open Idealize.ShloMosaic Idealize.ShloMosaic.TcCoe Idealize.ShloMosaic.Tactic
open Idealize.SL Idealize.SL.Sem
open Cert.Spec
open Idealize.ShloMosaic.StableHlo

variable (m : (ℓ : Loc nD τ sig) → Buf (Elt Ideal) ℓ) (ρ : Dev nD → PrngReg)

/-! ## What the call finds -/

theorem entry0 (c : Dev nD) : V m c main_v0 = shapeCast S1536x7168 (m ((c : Thread nD τ).loc main_arg0)) shapeCasts_S2x768x7168_S1536x7168 := by
  show after (List.flatten [hostOps0]) (fun b => m (c, b)) (Proc.devRef .tc main_v0) = _
  simp only [List.flatten_cons, List.flatten_nil, List.append_nil]
  after_results
  rfl
theorem entry1 (c : Dev nD) : V m c main_v1 = shapeCast S8x1536x7168 (m ((c : Thread nD τ).loc main_arg1)) shapeCasts_S8x2x768x7168_S8x1536x7168 := by
  show after (List.flatten [hostOps0]) (fun b => m (c, b)) (Proc.devRef .tc main_v1) = _
  simp only [List.flatten_cons, List.flatten_nil, List.append_nil]
  after_results
  rfl
theorem entry2 (c : Dev nD) : V m c main_v2 = shapeCast S8x1536x56 (m ((c : Thread nD τ).loc main_arg2)) shapeCasts_S8x2x768x56_S8x1536x56 := by
  show after (List.flatten [hostOps0]) (fun b => m (c, b)) (Proc.devRef .tc main_v2) = _
  simp only [List.flatten_cons, List.flatten_nil, List.append_nil]
  after_results
  rfl
theorem entry3 (c : Dev nD) : V m c main_v3 = shapeCast S1x7168 (m ((c : Thread nD τ).loc main_arg3)) shapeCasts_S7168_S1x7168 := by
  show after (List.flatten [hostOps0]) (fun b => m (c, b)) (Proc.devRef .tc main_v3) = _
  simp only [List.flatten_cons, List.flatten_nil, List.append_nil]
  after_results
  rfl
theorem entry4 (c : Dev nD) : V m c main_v4 = shapeCast S1x7168 (m ((c : Thread nD τ).loc main_arg4)) shapeCasts_S7168_S1x7168 := by
  show after (List.flatten [hostOps0]) (fun b => m (c, b)) (Proc.devRef .tc main_v4) = _
  simp only [List.flatten_cons, List.flatten_nil, List.append_nil]
  after_results
  rfl
theorem entry7 (c : Dev nD) : V m c main_v5 = shapeCast S1x2304 (m ((c : Thread nD τ).loc main_arg7)) shapeCasts_S2304_S1x2304 := by
  show after (List.flatten [hostOps0]) (fun b => m (c, b)) (Proc.devRef .tc main_v5) = _
  simp only [List.flatten_cons, List.flatten_nil, List.append_nil]
  after_results
  rfl
theorem entry8 (c : Dev nD) : V m c main_v6 = shapeCast S1x2304 (m ((c : Thread nD τ).loc main_arg8)) shapeCasts_S2304_S1x2304 := by
  show after (List.flatten [hostOps0]) (fun b => m (c, b)) (Proc.devRef .tc main_v6) = _
  simp only [List.flatten_cons, List.flatten_nil, List.append_nil]
  after_results
  rfl
theorem entry10 (c : Dev nD) : V m c main_v7 = shapeCast S1x7168 (m ((c : Thread nD τ).loc main_arg10)) shapeCasts_S7168_S1x7168 := by
  show after (List.flatten [hostOps0]) (fun b => m (c, b)) (Proc.devRef .tc main_v7) = _
  simp only [List.flatten_cons, List.flatten_nil, List.append_nil]
  after_results
  rfl

/-- The call's inputs are the caller's. -/
theorem insAt_eq (c : Dev nD) : insAt m c = argIns (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold insAt
  rw [entry0, entry1, entry2, entry3, entry4, entry7, entry8, entry10, V_main_arg5, V_main_arg6, V_main_arg9]
  rfl

/-- The caller's inputs. -/
def given (c : Dev nD) : Inputs := argIns (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## What the reference returns -/

theorem result9 (c : Dev nD) : Pipeline.afterTail₀ cfgs (dats m) 0 (V0 m) [hostOps1] c main_v9 = shapeCast S2x768x7168 (given m c).resH shapeCasts_S1536x7168_S2x768x7168 := by
  unfold Pipeline.afterTail₀ given
  rw [← insAt_eq]
  simp only [List.flatten_cons, List.flatten_nil, List.append_nil]
  after_results
  exact congrArg (fun x => shapeCast S2x768x7168 x shapeCasts_S1536x7168_S2x768x7168) ((Pipeline.withArrays_arr spec0 launch0.win.arr_inj c (V0 m c) _ 11).trans (final11 m c))
theorem result10 (c : Dev nD) : Pipeline.afterTail₀ cfgs (dats m) 0 (V0 m) [hostOps1] c main_v10 = shapeCast S2x768x7168 (given m c).resSn shapeCasts_S1536x7168_S2x768x7168 := by
  unfold Pipeline.afterTail₀ given
  rw [← insAt_eq]
  simp only [List.flatten_cons, List.flatten_nil, List.append_nil]
  after_results
  exact congrArg (fun x => shapeCast S2x768x7168 x shapeCasts_S1536x7168_S2x768x7168) ((Pipeline.withArrays_arr spec0 launch0.win.arr_inj c (V0 m c) _ 12).trans (final12 m c))
theorem result11 (c : Dev nD) : Pipeline.afterTail₀ cfgs (dats m) 0 (V0 m) [hostOps1] c main_v11 = shapeCast S8x192x7168 (given m c).resDownCode shapeCasts_S1536x7168_S8x192x7168 := by
  unfold Pipeline.afterTail₀ given
  rw [← insAt_eq]
  simp only [List.flatten_cons, List.flatten_nil, List.append_nil]
  after_results
  exact congrArg (fun x => shapeCast S8x192x7168 x shapeCasts_S1536x7168_S8x192x7168) ((Pipeline.withArrays_arr spec0 launch0.win.arr_inj c (V0 m c) _ 13).trans (final13 m c))
theorem result12 (c : Dev nD) : Pipeline.afterTail₀ cfgs (dats m) 0 (V0 m) [hostOps1] c main_v12 = shapeCast S8x192x56 (given m c).resDownScale shapeCasts_S1536x56_S8x192x56 := by
  unfold Pipeline.afterTail₀ given
  rw [← insAt_eq]
  simp only [List.flatten_cons, List.flatten_nil, List.append_nil]
  after_results
  exact congrArg (fun x => shapeCast S8x192x56 x shapeCasts_S1536x56_S8x192x56) ((Pipeline.withArrays_arr spec0 launch0.win.arr_inj c (V0 m c) _ 14).trans (final14 m c))
theorem result13 (c : Dev nD) : Pipeline.afterTail₀ cfgs (dats m) 0 (V0 m) [hostOps1] c main_v13 = shapeCast S2x768x7168 (given m c).resCode shapeCasts_S1536x7168_S2x768x7168 := by
  unfold Pipeline.afterTail₀ given
  rw [← insAt_eq]
  simp only [List.flatten_cons, List.flatten_nil, List.append_nil]
  after_results
  exact congrArg (fun x => shapeCast S2x768x7168 x shapeCasts_S1536x7168_S2x768x7168) ((Pipeline.withArrays_arr spec0 launch0.win.arr_inj c (V0 m c) _ 15).trans (final15 m c))
theorem result14 (c : Dev nD) : Pipeline.afterTail₀ cfgs (dats m) 0 (V0 m) [hostOps1] c main_v14 = shapeCast S2x768 (given m c).resScale shapeCasts_S1536x1_S2x768 := by
  unfold Pipeline.afterTail₀ given
  rw [← insAt_eq]
  simp only [List.flatten_cons, List.flatten_nil, List.append_nil]
  after_results
  exact congrArg (fun x => shapeCast S2x768 x shapeCasts_S1536x1_S2x768) ((Pipeline.withArrays_arr spec0 launch0.win.arr_inj c (V0 m c) _ 16).trans (final16 m c))
theorem result15 (c : Dev nD) : Pipeline.afterTail₀ cfgs (dats m) 0 (V0 m) [hostOps1] c main_v15 = shapeCast S2x768x2304 (given m c).resActCode shapeCasts_S1536x2304_S2x768x2304 := by
  unfold Pipeline.afterTail₀ given
  rw [← insAt_eq]
  simp only [List.flatten_cons, List.flatten_nil, List.append_nil]
  after_results
  exact congrArg (fun x => shapeCast S2x768x2304 x shapeCasts_S1536x2304_S2x768x2304) ((Pipeline.withArrays_arr spec0 launch0.win.arr_inj c (V0 m c) _ 17).trans (final17 m c))
theorem result16 (c : Dev nD) : Pipeline.afterTail₀ cfgs (dats m) 0 (V0 m) [hostOps1] c main_v16 = shapeCast S2x768 (given m c).resActScale shapeCasts_S1536x1_S2x768 := by
  unfold Pipeline.afterTail₀ given
  rw [← insAt_eq]
  simp only [List.flatten_cons, List.flatten_nil, List.append_nil]
  after_results
  exact congrArg (fun x => shapeCast S2x768 x shapeCasts_S1536x1_S2x768) ((Pipeline.withArrays_arr spec0 launch0.win.arr_inj c (V0 m c) _ 18).trans (final18 m c))

/-- Every run of the reference ends with these results, its arguments unchanged. -/
theorem run : θ_run defs (onTc (τ := τ) (main (F := Ideal))) ⟨m, fun _ => 0, ρ⟩ (fun r => ∀ c : Dev nD,
      r.2.mem ((c.tc : Thread nD τ).loc main_v9) = shapeCast S2x768x7168 (given m c).resH shapeCasts_S1536x7168_S2x768x7168
      ∧ r.2.mem ((c.tc : Thread nD τ).loc main_v10) = shapeCast S2x768x7168 (given m c).resSn shapeCasts_S1536x7168_S2x768x7168
      ∧ r.2.mem ((c.tc : Thread nD τ).loc main_v11) = shapeCast S8x192x7168 (given m c).resDownCode shapeCasts_S1536x7168_S8x192x7168
      ∧ r.2.mem ((c.tc : Thread nD τ).loc main_v12) = shapeCast S8x192x56 (given m c).resDownScale shapeCasts_S1536x56_S8x192x56
      ∧ r.2.mem ((c.tc : Thread nD τ).loc main_v13) = shapeCast S2x768x7168 (given m c).resCode shapeCasts_S1536x7168_S2x768x7168
      ∧ r.2.mem ((c.tc : Thread nD τ).loc main_v14) = shapeCast S2x768 (given m c).resScale shapeCasts_S1536x1_S2x768
      ∧ r.2.mem ((c.tc : Thread nD τ).loc main_v15) = shapeCast S2x768x2304 (given m c).resActCode shapeCasts_S1536x2304_S2x768x2304
      ∧ r.2.mem ((c.tc : Thread nD τ).loc main_v16) = shapeCast S2x768 (given m c).resActScale shapeCasts_S1536x1_S2x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun _ h c => ?_) (θ_run_and (run_main m ρ) (unchanged m ρ))
  have hr := fun (b : Ref sig .tc) hb => (h.1 c).2 b hb
  exact ⟨(hr main_v9 (Pipeline.mem_restRefs_of main_v9 (by decide) (by decide))).trans (result9 m c),
    (hr main_v10 (Pipeline.mem_restRefs_of main_v10 (by decide) (by decide))).trans (result10 m c),
    (hr main_v11 (Pipeline.mem_restRefs_of main_v11 (by decide) (by decide))).trans (result11 m c),
    (hr main_v12 (Pipeline.mem_restRefs_of main_v12 (by decide) (by decide))).trans (result12 m c),
    (hr main_v13 (Pipeline.mem_restRefs_of main_v13 (by decide) (by decide))).trans (result13 m c),
    (hr main_v14 (Pipeline.mem_restRefs_of main_v14 (by decide) (by decide))).trans (result14 m c),
    (hr main_v15 (Pipeline.mem_restRefs_of main_v15 (by decide) (by decide))).trans (result15 m c),
    (hr main_v16 (Pipeline.mem_restRefs_of main_v16 (by decide) (by decide))).trans (result16 m c), h.2 c⟩

end Cert.ReferenceIdeal.Layer

end
-- ==== Proof.lean ====
/- The claim: the program, its idealization and the reference run to the end leaving their arguments alone, the
   idealization rewrites nothing, and over the extended reals the idealization and the reference leave the same eight
   results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Run
public import proofs.«01_k».proof.Proof.KI.Run
public import proofs.«01_k».proof.Proof.V.KerEnd
public import proofs.«01_k».proof.Proof.V.RefEnd

@[expose] public section

noncomputable section

namespace Cert.Proof

open Idealize.ShloMosaic Idealize.SL.Sem Cert.Kernel

/-- Equal arguments give the layer equal inputs, -/
theorem given_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10)) :
    ReferenceIdeal.Layer.given m' c = KernelIdeal.Whole.given m c := by
  unfold ReferenceIdeal.Layer.given KernelIdeal.Whole.given
  erw [h0, h1, h2, h3, h4, h5, h6, h7, h8, h9, h10]

/-- so that both programs leave the same results. -/
theorem algebraic : algebraic_KernelIdeal_ReferenceIdeal (hKernelIdeal := Cert.KernelIdeal.Gen.facts) (hReferenceIdeal := Cert.ReferenceIdeal.Gen.facts) :=
  fun m g m' g' _ h =>
    ⟨fun c => shapeCast KernelIdeal.S2x768x7168 (KernelIdeal.Whole.given m c).resH KernelIdeal.Gen.shapeCasts_S1536x7168_S2x768x7168,
     fun c => shapeCast KernelIdeal.S2x768x7168 (KernelIdeal.Whole.given m c).resSn KernelIdeal.Gen.shapeCasts_S1536x7168_S2x768x7168,
     fun c => shapeCast KernelIdeal.S8x192x7168 (KernelIdeal.Whole.given m c).resDownCode KernelIdeal.Gen.shapeCasts_S1536x7168_S8x192x7168,
     fun c => shapeCast KernelIdeal.S8x192x56 (KernelIdeal.Whole.given m c).resDownScale KernelIdeal.Gen.shapeCasts_S1536x56_S8x192x56,
     fun c => shapeCast KernelIdeal.S2x768x7168 (KernelIdeal.Whole.given m c).resCode KernelIdeal.Gen.shapeCasts_S1536x7168_S2x768x7168,
     fun c => shapeCast KernelIdeal.S2x768 (KernelIdeal.Whole.given m c).resScale KernelIdeal.Whole.cast_scale,
     fun c => shapeCast KernelIdeal.S2x768x2304 (KernelIdeal.Whole.given m c).resActCode KernelIdeal.Gen.shapeCasts_S1536x2304_S2x768x2304,
     fun c => shapeCast KernelIdeal.S2x768 (KernelIdeal.Whole.given m c).resActScale KernelIdeal.Whole.cast_scale,
     KernelIdeal.Whole.run m g,
     (θ_run _ _ _).mono (fun _ hr c => by
       have e : ReferenceIdeal.Layer.given m' c = KernelIdeal.Whole.given m c := by
         obtain ⟨h0, h1, h2, h3, h4, h5, h6, h7, h8, h9, h10⟩ := h c
         exact given_eq m m' c h0 h1 h2 h3 h4 h5 h6 h7 h8 h9 h10
       have hc := hr c
       rw [e] at hc
       exact hc) (ReferenceIdeal.Layer.run m' g')⟩

theorem claim : Cert.Claim := ⟨Cert.Kernel.Gen.facts, Cert.KernelIdeal.Gen.facts, Cert.ReferenceIdeal.Gen.facts,
  fun m g _ => Cert.Kernel.Whole.frame m g,
  fun m g _ => Cert.KernelIdeal.Whole.frame m g,
  fun m g _ => Cert.ReferenceIdeal.Gen.frame m g,
  trivial,
  algebraic⟩

end Cert.Proof

end
